-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v83_0)) (v2 : (c : Dev Cert.KernelIdeal.nD) → Buf (Elt Ideal) ((c.tc : Thread Cert.KernelIdeal.nD Cert.KernelIdeal.τ).loc Cert.KernelIdeal.main_v83_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v83_0) = v1 c
          ∧ r.2.mem ((c.tc : Thread Cert.KernelIdeal.nD Cert.KernelIdeal.τ).loc Cert.KernelIdeal.main_v83_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S3072x128 : Shape := ⟨2, ![3072, 128]⟩
abbrev S2048x128 : Shape := ⟨2, ![2048, 128]⟩
abbrev S1024x1024 : Shape := ⟨2, ![1024, 1024]⟩
abbrev S3072x3072 : Shape := ⟨2, ![3072, 3072]⟩
abbrev S2048x2048 : Shape := ⟨2, ![2048, 2048]⟩
abbrev S1024x3072 : Shape := ⟨2, ![1024, 3072]⟩
abbrev S3072x2048 : Shape := ⟨2, ![3072, 2048]⟩
abbrev S128x128x8 : Shape := ⟨3, ![128, 128, 8]⟩
abbrev S128x128x15 : Shape := ⟨3, ![128, 128, 15]⟩
abbrev S512x3072 : Shape := ⟨2, ![512, 3072]⟩
abbrev S1024x2048 : Shape := ⟨2, ![1024, 2048]⟩
abbrev S512x128 : Shape := ⟨2, ![512, 128]⟩
abbrev S1024x256 : Shape := ⟨2, ![1024, 256]⟩
abbrev S3072x256 : Shape := ⟨2, ![3072, 256]⟩
abbrev S2048x256 : Shape := ⟨2, ![2048, 256]⟩
abbrev S_ : Shape := ⟨0, ![]⟩
abbrev S128x128 : Shape := ⟨2, ![128, 128]⟩
abbrev S128x128x1 : Shape := ⟨3, ![128, 128, 1]⟩
abbrev S512x1024 : Shape := ⟨2, ![512, 1024]⟩
abbrev S512x256 : Shape := ⟨2, ![512, 256]⟩
abbrev S1024x512 : Shape := ⟨2, ![1024, 512]⟩
abbrev S256x128 : Shape := ⟨2, ![256, 128]⟩
abbrev S128x2048 : Shape := ⟨2, ![128, 2048]⟩
abbrev S128x256 : Shape := ⟨2, ![128, 256]⟩
abbrev S512x512 : Shape := ⟨2, ![512, 512]⟩

abbrev nBuf : Space → Nat
  | .hbm => 105
  | .vmem => 49
  | .smem => 0
  | _ => 0

abbrev bufTy : (tb : Table) → Fin (tcTables nBuf tb) → BufTy
  | .hbm, ⟨0, _⟩ => ⟨S1024x128, .f32⟩
  | .hbm, ⟨1, _⟩ => ⟨S3072x128, .f32⟩
  | .hbm, ⟨2, _⟩ => ⟨S2048x128, .f32⟩
  | .hbm, ⟨3, _⟩ => ⟨S1024x1024, .f32⟩
  | .hbm, ⟨4, _⟩ => ⟨S3072x3072, .f32⟩
  | .hbm, ⟨5, _⟩ => ⟨S3072x3072, .f32⟩
  | .hbm, ⟨6, _⟩ => ⟨S2048x2048, .f32⟩
  | .hbm, ⟨7, _⟩ => ⟨S1024x3072, .f32⟩
  | .hbm, ⟨8, _⟩ => ⟨S3072x2048, .f32⟩
  | .hbm, ⟨9, _⟩ => ⟨S128x128x8, .f32⟩
  | .hbm, ⟨10, _⟩ => ⟨S128x128x15, .f32⟩
  | .hbm, ⟨11, _⟩ => ⟨S128x128x8, .f32⟩
  | .hbm, ⟨12, _⟩ => ⟨S1024x128, .bf16⟩
  | .hbm, ⟨13, _⟩ => ⟨S3072x128, .bf16⟩
  | .hbm, ⟨14, _⟩ => ⟨S2048x128, .bf16⟩
  | .hbm, ⟨15, _⟩ => ⟨S1024x128, .bf16⟩
  | .hbm, ⟨16, _⟩ => ⟨S3072x128, .bf16⟩
  | .hbm, ⟨17, _⟩ => ⟨S3072x128, .bf16⟩
  | .hbm, ⟨18, _⟩ => ⟨S2048x128, .bf16⟩
  | .hbm, ⟨19, _⟩ => ⟨S1024x256, .bf16⟩
  | .hbm, ⟨20, _⟩ => ⟨S3072x256, .bf16⟩
  | .hbm, ⟨21, _⟩ => ⟨S3072x256, .bf16⟩
  | .hbm, ⟨22, _⟩ => ⟨S2048x256, .bf16⟩
  | .hbm, ⟨23, _⟩ => ⟨S_, .f32⟩
  | .hbm, ⟨24, _⟩ => ⟨S128x128, .f32⟩
  | .hbm, ⟨25, _⟩ => ⟨S128x128x1, .f32⟩
  | .hbm, ⟨26, _⟩ => ⟨S128x128, .f32⟩
  | .hbm, ⟨27, _⟩ => ⟨S128x128x1, .f32⟩
  | .hbm, ⟨28, _⟩ => ⟨S128x128, .f32⟩
  | .hbm, ⟨29, _⟩ => ⟨S128x128x1, .f32⟩
  | .hbm, ⟨30, _⟩ => ⟨S128x128, .f32⟩
  | .hbm, ⟨31, _⟩ => ⟨S128x128x1, .f32⟩
  | .hbm, ⟨32, _⟩ => ⟨S128x128, .f32⟩
  | .hbm, ⟨33, _⟩ => ⟨S128x128x1, .f32⟩
  | .hbm, ⟨34, _⟩ => ⟨S128x128, .f32⟩
  | .hbm, ⟨35, _⟩ => ⟨S128x128x1, .f32⟩
  | .hbm, ⟨36, _⟩ => ⟨S128x128, .f32⟩
  | .hbm, ⟨37, _⟩ => ⟨S128x128x1, .f32⟩
  | .hbm, ⟨38, _⟩ => ⟨S128x128, .f32⟩
  | .hbm, ⟨39, _⟩ => ⟨S128x128x1, .f32⟩
  | .hbm, ⟨40, _⟩ => ⟨S128x128, .f32⟩
  | .hbm, ⟨41, _⟩ => ⟨S1024x128, .f32⟩
  | .hbm, ⟨42, _⟩ => ⟨S1024x128, .bf16⟩
  | .hbm, ⟨43, _⟩ => ⟨S_, .f32⟩
  | .hbm, ⟨44, _⟩ => ⟨S128x128, .f32⟩
  | .hbm, ⟨45, _⟩ => ⟨S128x128x1, .f32⟩
  | .hbm, ⟨46, _⟩ => ⟨S128x128, .f32⟩
  | .hbm, ⟨47, _⟩ => ⟨S128x128x1, .f32⟩
  | .hbm, ⟨48, _⟩ => ⟨S128x128, .f32⟩
  | .hbm, ⟨49, _⟩ => ⟨S128x128x1, .f32⟩
  | .hbm, ⟨50, _⟩ => ⟨S128x128, .f32⟩
  | .hbm, ⟨51, _⟩ => ⟨S128x128x1, .f32⟩
  | .hbm, ⟨52, _⟩ => ⟨S128x128, .f32⟩
  | .hbm, ⟨53, _⟩ => ⟨S128x128x1, .f32⟩
  | .hbm, ⟨54, _⟩ => ⟨S128x128, .f32⟩
  | .hbm, ⟨55, _⟩ => ⟨S128x128x1, .f32⟩
  | .hbm, ⟨56, _⟩ => ⟨S128x128, .f32⟩
  | .hbm, ⟨57, _⟩ => ⟨S128x128x1, .f32⟩
  | .hbm, ⟨58, _⟩ => ⟨S128x128, .f32⟩
  | .hbm, ⟨59, _⟩ => ⟨S128x128x1, .f32⟩
  | .hbm, ⟨60, _⟩ => ⟨S128x128, .f32⟩
  | .hbm, ⟨61, _⟩ => ⟨S1024x128, .f32⟩
  | .hbm, ⟨62, _⟩ => ⟨S1024x128, .bf16⟩
  | .hbm, ⟨63, _⟩ => ⟨S_, .f32⟩
  | .hbm, ⟨64, _⟩ => ⟨S128x128, .f32⟩
  | .hbm, ⟨65, _⟩ => ⟨S128x128x1, .f32⟩
  | .hbm, ⟨66, _⟩ => ⟨S128x128, .f32⟩
  | .hbm, ⟨67, _⟩ => ⟨S128x128x1, .f32⟩
  | .hbm, ⟨68, _⟩ => ⟨S128x128, .f32⟩
  | .hbm, ⟨69, _⟩ => ⟨S128x128x1, .f32⟩
  | .hbm, ⟨70, _⟩ => ⟨S128x128, .f32⟩
  | .hbm, ⟨71, _⟩ => ⟨S128x128x1, .f32⟩
  | .hbm, ⟨72, _⟩ => ⟨S128x128, .f32⟩
  | .hbm, ⟨73, _⟩ => ⟨S128x128x1, .f32⟩
  | .hbm, ⟨74, _⟩ => ⟨S128x128, .f32⟩
  | .hbm, ⟨75, _⟩ => ⟨S128x128x1, .f32⟩
  | .hbm, ⟨76, _⟩ => ⟨S128x128, .f32⟩
  | .hbm, ⟨77, _⟩ => ⟨S128x128x1, .f32⟩
  | .hbm, ⟨78, _⟩ => ⟨S128x128, .f32⟩
  | .hbm, ⟨79, _⟩ => ⟨S1024x128, .f32⟩
  | .hbm, ⟨80, _⟩ => ⟨S1024x128, .bf16⟩
  | .hbm, ⟨81, _⟩ => ⟨S_, .f32⟩
  | .hbm, ⟨82, _⟩ => ⟨S128x128, .f32⟩
  | .hbm, ⟨83, _⟩ => ⟨S128x128x1, .f32⟩
  | .hbm, ⟨84, _⟩ => ⟨S128x128, .f32⟩
  | .hbm, ⟨85, _⟩ => ⟨S128x128x1, .f32⟩
  | .hbm, ⟨86, _⟩ => ⟨S128x128, .f32⟩
  | .hbm, ⟨87, _⟩ => ⟨S128x128x1, .f32⟩
  | .hbm, ⟨88, _⟩ => ⟨S128x128, .f32⟩
  | .hbm, ⟨89, _⟩ => ⟨S128x128x1, .f32⟩
  | .hbm, ⟨90, _⟩ => ⟨S128x128, .f32⟩
  | .hbm, ⟨91, _⟩ => ⟨S128x128x1, .f32⟩
  | .hbm, ⟨92, _⟩ => ⟨S128x128, .f32⟩
  | .hbm, ⟨93, _⟩ => ⟨S128x128x1, .f32⟩
  | .hbm, ⟨94, _⟩ => ⟨S128x128, .f32⟩
  | .hbm, ⟨95, _⟩ => ⟨S128x128x1, .f32⟩
  | .hbm, ⟨96, _⟩ => ⟨S128x128, .f32⟩
  | .hbm, ⟨97, _⟩ => ⟨S128x128x1, .f32⟩
  | .hbm, ⟨98, _⟩ => ⟨S128x128, .f32⟩
  | .hbm, ⟨99, _⟩ => ⟨S1024x128, .f32⟩
  | .hbm, ⟨100, _⟩ => ⟨S1024x128, .bf16⟩
  | .hbm, ⟨101, _⟩ => ⟨S1024x128, .f32⟩
  | .hbm, ⟨102, _⟩ => ⟨S3072x128, .f32⟩
  | .hbm, ⟨103, _⟩ => ⟨S3072x128, .f32⟩
  | .hbm, ⟨104, _⟩ => ⟨S2048x128, .f32⟩
  | .local _ .vmem, ⟨0, _⟩ => ⟨S512x3072, .f32⟩
  | .local _ .vmem, ⟨1, _⟩ => ⟨S512x3072, .f32⟩
  | .local _ .vmem, ⟨2, _⟩ => ⟨S1024x2048, .f32⟩
  | .local _ .vmem, ⟨3, _⟩ => ⟨S1024x2048, .f32⟩
  | .local _ .vmem, ⟨4, _⟩ => ⟨S512x128, .bf16⟩
  | .local _ .vmem, ⟨5, _⟩ => ⟨S512x128, .bf16⟩
  | .local _ .vmem, ⟨6, _⟩ => ⟨S3072x128, .bf16⟩
  | .local _ .vmem, ⟨7, _⟩ => ⟨S1024x128, .bf16⟩
  | .local _ .vmem, ⟨8, _⟩ => ⟨S1024x128, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | .local _ .vmem, ⟨12, _⟩ => ⟨S3072x128, .bf16⟩
  | .local _ .vmem, ⟨13, _⟩ => ⟨S1024x128, .bf16⟩
  | .local _ .vmem, ⟨14, _⟩ => ⟨S1024x128, .bf16⟩
  | .local _ .vmem, ⟨15, _⟩ => ⟨S2048x128, .bf16⟩
  | .local _ .vmem, ⟨16, _⟩ => ⟨S3072x128, .f32⟩
  | .local _ .vmem, ⟨17, _⟩ => ⟨S2048x128, .f32⟩
  | .local _ .vmem, ⟨18, _⟩ => ⟨S512x1024, .f32⟩
  | .local _ .vmem, ⟨19, _⟩ => ⟨S512x1024, .f32⟩
  | .local _ .vmem, ⟨20, _⟩ => ⟨S512x3072, .f32⟩
  | .local _ .vmem, ⟨21, _⟩ => ⟨S512x3072, .f32⟩
  | .local _ .vmem, ⟨22, _⟩ => ⟨S1024x256, .bf16⟩
  | .local _ .vmem, ⟨23, _⟩ => ⟨S3072x256, .bf16⟩
  | .local _ .vmem, ⟨24, _⟩ => ⟨S1024x128, .bf16⟩
  | .local _ .vmem, ⟨25, _⟩ => ⟨S1024x128, .bf16⟩
  | .local _ .vmem, ⟨26, _⟩ => ⟨S1024x128, .f32⟩
  | .local _ .vmem, ⟨27, _⟩ => ⟨S3072x128, .f32⟩
  | .local _ .vmem, ⟨28, _⟩ => ⟨S1024x1024, .bf16⟩
  | .local _ .vmem, ⟨29, _⟩ => ⟨S3072x3072, .bf16⟩
  | .local _ .vmem, ⟨30, _⟩ => ⟨S1024x256, .bf16⟩
  | .local _ .vmem, ⟨31, _⟩ => ⟨S3072x256, .bf16⟩
  | .local _ .vmem, ⟨32, _⟩ => ⟨S3072x256, .bf16⟩
  | .local _ .vmem, ⟨33, _⟩ => ⟨S512x3072, .f32⟩
  | .local _ .vmem, ⟨34, _⟩ => ⟨S512x3072, .f32⟩
  | .local _ .vmem, ⟨35, _⟩ => ⟨S128x2048, .f32⟩
  | .local _ .vmem, ⟨36, _⟩ => ⟨S128x2048, .f32⟩
  | .local _ .vmem, ⟨37, _⟩ => ⟨S3072x256, .bf16⟩
  | .local _ .vmem, ⟨38, _⟩ => ⟨S2048x256, .bf16⟩
  | .local _ .vmem, ⟨39, _⟩ => ⟨S1024x128, .bf16⟩
  | .local _ .vmem, ⟨40, _⟩ => ⟨S1024x128, .bf16⟩
  | .local _ .vmem, ⟨41, _⟩ => ⟨S3072x128, .f32⟩
  | .local _ .vmem, ⟨42, _⟩ => ⟨S3072x128, .f32⟩
  | .local _ .vmem, ⟨43, _⟩ => ⟨S2048x128, .f32⟩
  | .local _ .vmem, ⟨44, _⟩ => ⟨S3072x3072, .bf16⟩
  | .local _ .vmem, ⟨45, _⟩ => ⟨S2048x2048, .bf16⟩
  | .local _ .vmem, ⟨46, _⟩ => ⟨S3072x256, .bf16⟩
  | .local _ .vmem, ⟨47, _⟩ => ⟨S3072x256, .bf16⟩
  | .local _ .vmem, ⟨48, _⟩ => ⟨S2048x256, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_1 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_2 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82_0 : Ref sig .tc := ⟨.hbm, 101, rfl⟩
abbrev main_v82_1 : Ref sig .tc := ⟨.hbm, 102, rfl⟩
abbrev main_v83_0 : Ref sig .tc := ⟨.hbm, 103, rfl⟩
abbrev main_v83_1 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc1_scratch4 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_scratch0 : Ref sig .tc := ⟨.vmem, 44, rfl⟩
abbrev cc2_scratch1 : Ref sig .tc := ⟨.vmem, 45, rfl⟩
abbrev cc2_scratch2 : Ref sig .tc := ⟨.vmem, 46, rfl⟩
abbrev cc2_scratch3 : Ref sig .tc := ⟨.vmem, 47, rfl⟩
abbrev cc2_scratch4 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond4 (i : grid0.Coords) : BitVec 1 :=
  let arg0 : BitVec 32 := BitVec.ofNat 32 (i 0).val
  let c1_i32 : BitVec 32 := 1#32
  let v22 : BitVec 1 := Scalar.cmpi .eq arg0 c1_i32
  let v23 : BitVec 32 := Scalar.extui v22
  let c0_i32_14 : BitVec 32 := 0#32
  let v24 : BitVec 1 := Scalar.cmpi .ne v23 c0_i32_14
  v24

def k0_cond5 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg0 : BitVec 32 := BitVec.ofNat 32 (i 0).val
  let c2_i32_2 : BitVec 32 := 2#32
  let v6 : BitVec 32 := Scalar.subi arg0 c2_i32_2
  let c2_i32_15 : BitVec 32 := 2#32
  let v23 : BitVec 1 := Scalar.cmpi .eq v6 c2_i32_15
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c1_i32 : BitVec 32 := 1#32
  let v0 : BitVec 32 := Scalar.maxsi c0_i32 arg0
  let v1 : BitVec 32 := Scalar.minsi c1_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.subi v0 c1_i32_0
  let c0_i32 : BitVec 32 := 0#32
  let c2_i32 : BitVec 32 := 2#32
  let v2 : BitVec 32 := Scalar.maxsi c0_i32 v1
  let v3 : BitVec 32 := Scalar.minsi c2_i32 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let c1_i32 : BitVec 32 := 1#32
  let v0 : BitVec 32 := Scalar.maxsi c0_i32 arg0
  let v1 : BitVec 32 := Scalar.minsi c1_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.subi v0 c1_i32_0
  let c0_i32 : BitVec 32 := 0#32
  let c2_i32 : BitVec 32 := 2#32
  let v2 : BitVec 32 := Scalar.maxsi c0_i32 v1
  let v3 : BitVec 32 := Scalar.minsi c2_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let v0 : BitVec 32 := Scalar.maxsi c0_i32 arg0
  let v1 : BitVec 32 := Scalar.minsi c1_i32 v0
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.subi v0 c1_i32_0
  let c0_i32 : BitVec 32 := 0#32
  let c2_i32 : BitVec 32 := 2#32
  let v2 : BitVec 32 := Scalar.maxsi c0_i32 v1
  let v3 : BitVec 32 := Scalar.minsi c2_i32 v2
  let c0_i32_1 : BitVec 32 := 0#32
  let c0_i32_2 : BitVec 32 := 0#32
  ![v3.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3072x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![8], ![false]⟩

def k1_cond1 (i : grid1.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let c512_i32 : BitVec 32 := 512#32
  let v16 : BitVec 32 := Scalar.muli arg0 c512_i32
  let v17 : Index := Scalar.indexCast v16
  let c0_6 : Index := 0#32
  ![v17.toNat, 0]
def k1_off2 (i : grid1.Coords) : Fin 2 → Nat :=
  let arg0 : BitVec 32 := BitVec.ofNat 32 (i 0).val
  let c512_i32_9 : BitVec 32 := 512#32
  let v25 : BitVec 32 := Scalar.muli arg0 c512_i32_9
  let v26 : Index := Scalar.indexCast v25
  let c0_10 : Index := 0#32
  ![v26.toNat, 0]
def k1_cond2 (i : grid1.Coords) : BitVec 1 :=
  let arg0 : BitVec 32 := BitVec.ofNat 32 (i 0).val
  let c2_i32_0 : BitVec 32 := 2#32
  let v3 : BitVec 1 := Scalar.cmpi .sge arg0 c2_i32_0
  let c8_i32 : BitVec 32 := 8#32
  let v4 : BitVec 1 := Scalar.cmpi .slt arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k1_off3 (i : grid1.Coords) : Fin 2 → Nat :=
  let arg0 : BitVec 32 := BitVec.ofNat 32 (i 0).val
  let c2_i32_5 : BitVec 32 := 2#32
  let v14 : BitVec 32 := Scalar.subi arg0 c2_i32_5
  let c512_i32 : BitVec 32 := 512#32
  let v17 : BitVec 32 := Scalar.muli v14 c512_i32
  let v18 : Index := Scalar.indexCast v17
  let c0_7 : Index := 0#32
  ![v18.toNat, 0]
def k1_off4 (i : grid1.Coords) : Fin 2 → Nat :=
  let arg0 : BitVec 32 := BitVec.ofNat 32 (i 0).val
  let c2_i32_5 : BitVec 32 := 2#32
  let v14 : BitVec 32 := Scalar.subi arg0 c2_i32_5
  let c512_i32_10 : BitVec 32 := 512#32
  let v26 : BitVec 32 := Scalar.muli v14 c512_i32_10
  let v27 : Index := Scalar.indexCast v26
  let c0_11 : Index := 0#32
  ![v27.toNat, 0]
def k1_cond3 (i : grid1.Coords) : BitVec 1 :=
  let arg0 : BitVec 32 := BitVec.ofNat 32 (i 0).val
  let c2_i32_2 : BitVec 32 := 2#32
  let v8 : BitVec 1 := Scalar.cmpi .eq arg0 c2_i32_2
  let v9 : BitVec 32 := Scalar.extui v8
  let c0_i32_3 : BitVec 32 := 0#32
  let v10 : BitVec 1 := Scalar.cmpi .ne v9 c0_i32_3
  v10

def k1_cond4 (i : grid1.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_4 : BitVec 32 := 0#32
  let v13 : BitVec 1 := Scalar.cmpi .ne v12 c0_i32_4
  v13

def cc1_transform_0 (i : grid1.Coords) : Fin 2 → Nat :=
  let arg0 : BitVec 32 := BitVec.ofNat 32 (i 0).val
  let c0_i32 : BitVec 32 := 0#32
  let c1_i32 : BitVec 32 := 1#32
  let v0 : BitVec 32 := Scalar.maxsi c0_i32 arg0
  let v1 : BitVec 32 := Scalar.minsi c1_i32 v0
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.subi v0 c1_i32_0
  let c0_i32 : BitVec 32 := 0#32
  let c5_i32 : BitVec 32 := 5#32
  let v2 : BitVec 32 := Scalar.maxsi c0_i32 v1
  let v3 : BitVec 32 := Scalar.minsi c5_i32 v2
  let c0_i32_1 : BitVec 32 := 0#32
  let c0_i32_2 : BitVec 32 := 0#32
  ![v3.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3072x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![23], ![false]⟩

def k2_cond1 (i : grid2.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k2_off1 (i : grid2.Coords) : Fin 2 → Nat :=
  let arg0 : BitVec 32 := BitVec.ofNat 32 (i 0).val
  let c512_i32 : BitVec 32 := 512#32
  let v49 : BitVec 32 := Scalar.muli arg0 c512_i32
  let v50 : Index := Scalar.indexCast v49
  let c0_18 : Index := 0#32
  ![v50.toNat, 0]
def k2_off2 (i : grid2.Coords) : Fin 2 → Nat :=
  let arg0 : BitVec 32 := BitVec.ofNat 32 (i 0).val
  let c512_i32_21 : BitVec 32 := 512#32
  let v58 : BitVec 32 := Scalar.muli arg0 c512_i32_21
  let v59 : Index := Scalar.indexCast v58
  let c0_22 : Index := 0#32
  ![v59.toNat, 0]
def k2_cond2 (i : grid2.Coords) : BitVec 1 :=
  let arg0 : BitVec 32 := BitVec.ofNat 32 (i 0).val
  let c6_i32_0 : BitVec 32 := 6#32
  let v3 : BitVec 1 := Scalar.cmpi .sge arg0 c6_i32_0
  let c22_i32 : BitVec 32 := 22#32
  let v4 : BitVec 1 := Scalar.cmpi .slt arg0 c22_i32
  let v5 : BitVec 1 := Scalar.andi v3 v4
  let v6 : BitVec 32 := Scalar.extui v5
  let c0_i32_1 : BitVec 32 := 0#32
  let v7 : BitVec 1 := Scalar.cmpi .ne v6 c0_i32_1
  v7

def k2_off3 (i : grid2.Coords) : Fin 2 → Nat :=
  let arg0 : BitVec 32 := BitVec.ofNat 32 (i 0).val
  let c6_i32_17 : BitVec 32 := 6#32
  let v47 : BitVec 32 := Scalar.subi arg0 c6_i32_17
  let c128_i32 : BitVec 32 := 128#32
  let v50 : BitVec 32 := Scalar.muli v47 c128_i32
  let v51 : Index := Scalar.indexCast v50
  let c0_19 : Index := 0#32
  ![v51.toNat, 0]
def k2_off4 (i : grid2.Coords) : Fin 2 → Nat :=
  let arg0 : BitVec 32 := BitVec.ofNat 32 (i 0).val
  let c6_i32_17 : BitVec 32 := 6#32
  let v47 : BitVec 32 := Scalar.subi arg0 c6_i32_17
  let c128_i32_22 : BitVec 32 := 128#32
  let v59 : BitVec 32 := Scalar.muli v47 c128_i32_22
  let v60 : Index := Scalar.indexCast v59
  let c0_23 : Index := 0#32
  ![v60.toNat, 0]
def k2_cond9 (i : grid2.Coords) : BitVec 1 :=
  let arg0 : BitVec 32 := BitVec.ofNat 32 (i 0).val
  let c12_i32 : BitVec 32 := 12#32
  let v26 : BitVec 1 := Scalar.cmpi .eq arg0 c12_i32
  let v27 : BitVec 32 := Scalar.extui v26
  let c0_i32_9 : BitVec 32 := 0#32
  let v28 : BitVec 1 := Scalar.cmpi .ne v27 c0_i32_9
  v28

def k2_cond10 (i : grid2.Coords) : BitVec 1 :=
  let arg0 : BitVec 32 := BitVec.ofNat 32 (i 0).val
  let c13_i32 : BitVec 32 := 13#32
  let v29 : BitVec 1 := Scalar.cmpi .eq arg0 c13_i32
  let v30 : BitVec 32 := Scalar.extui v29
  let c0_i32_10 : BitVec 32 := 0#32
  let v31 : BitVec 1 := Scalar.cmpi .ne v30 c0_i32_10
  v31

def k2_cond11 (i : grid2.Coords) : BitVec 1 :=
  let arg0 : BitVec 32 := BitVec.ofNat 32 (i 0).val
  let c14_i32 : BitVec 32 := 14#32
  let v32 : BitVec 1 := Scalar.cmpi .eq arg0 c14_i32
  let v33 : BitVec 32 := Scalar.extui v32
  let c0_i32_11 : BitVec 32 := 0#32
  let v34 : BitVec 1 := Scalar.cmpi .ne v33 c0_i32_11
  v34

def k2_cond12 (i : grid2.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_12 : BitVec 32 := 0#32
  let v37 : BitVec 1 := Scalar.cmpi .ne v36 c0_i32_12
  v37

def k2_cond13 (i : grid2.Coords) : BitVec 1 :=
  let arg0 : BitVec 32 := BitVec.ofNat 32 (i 0).val
  let c16_i32 : BitVec 32 := 16#32
  let v38 : BitVec 1 := Scalar.cmpi .eq arg0 c16_i32
  let v39 : BitVec 32 := Scalar.extui v38
  let c0_i32_13 : BitVec 32 := 0#32
  let v40 : BitVec 1 := Scalar.cmpi .ne v39 c0_i32_13
  v40

def k2_cond14 (i : grid2.Coords) : BitVec 1 :=
  let arg0 : BitVec 32 := BitVec.ofNat 32 (i 0).val
  let c17_i32 : BitVec 32 := 17#32
  let v41 : BitVec 1 := Scalar.cmpi .eq arg0 c17_i32
  let v42 : BitVec 32 := Scalar.extui v41
  let c0_i32_14 : BitVec 32 := 0#32
  let v43 : BitVec 1 := Scalar.cmpi .ne v42 c0_i32_14
  v43

def k2_cond15 (i : grid2.Coords) : BitVec 1 :=
  let arg0 : BitVec 32 := BitVec.ofNat 32 (i 0).val
  let c22_i32_15 : BitVec 32 := 22#32
  let v44 : BitVec 1 := Scalar.cmpi .eq arg0 c22_i32_15
  let v45 : BitVec 32 := Scalar.extui v44
  let c0_i32_16 : BitVec 32 := 0#32
  let v46 : BitVec 1 := Scalar.cmpi .ne v45 c0_i32_16
  v46

def cc2_transform_0 (i : grid2.Coords) : Fin 2 → Nat :=
  let arg0 : BitVec 32 := BitVec.ofNat 32 (i 0).val
  let c0_i32 : BitVec 32 := 0#32
  let c5_i32 : BitVec 32 := 5#32
  let v0 : BitVec 32 := Scalar.maxsi c0_i32 arg0
  let v1 : BitVec 32 := Scalar.minsi c5_i32 v0
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c5_i32 : BitVec 32 := 5#32
  let v0 : BitVec 32 := Scalar.subi arg0 c5_i32
  let c1_i32 : BitVec 32 := 1#32
  let v1 : BitVec 32 := Scalar.subi v0 c1_i32
  let c0_i32 : BitVec 32 := 0#32
  let c15_i32 : BitVec 32 := 15#32
  let v2 : BitVec 32 := Scalar.maxsi c0_i32 v1
  let v3 : BitVec 32 := Scalar.minsi c15_i32 v2
  let c0_i32_0 : BitVec 32 := 0#32
  let c0_i32_1 : BitVec 32 := 0#32
  ![v3.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x3072 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3072x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3072x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3072x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S2048x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]
-- ==== ReferenceIdeal.lean ====
abbrev S1024x128 : Shape := ⟨2, ![1024, 128]⟩
abbrev S3072x128 : Shape := ⟨2, ![3072, 128]⟩
abbrev S2048x128 : Shape := ⟨2, ![2048, 128]⟩
abbrev S1024x1024 : Shape := ⟨2, ![1024, 1024]⟩
abbrev S3072x3072 : Shape := ⟨2, ![3072, 3072]⟩
abbrev S2048x2048 : Shape := ⟨2, ![2048, 2048]⟩
abbrev S1024x3072 : Shape := ⟨2, ![1024, 3072]⟩
abbrev S3072x2048 : Shape := ⟨2, ![3072, 2048]⟩
abbrev S128x128x8 : Shape := ⟨3, ![128, 128, 8]⟩
abbrev S128x128x15 : Shape := ⟨3, ![128, 128, 15]⟩
abbrev S1024x128x1 : Shape := ⟨3, ![1024, 128, 1]⟩
abbrev S1024x128x3 : Shape := ⟨3, ![1024, 128, 3]⟩
abbrev S1024x128x4 : Shape := ⟨3, ![1024, 128, 4]⟩
abbrev S1024x128x8 : Shape := ⟨3, ![1024, 128, 8]⟩
abbrev S3072x128x1 : Shape := ⟨3, ![3072, 128, 1]⟩
abbrev S3072x128x3 : Shape := ⟨3, ![3072, 128, 3]⟩
abbrev S3072x128x7 : Shape := ⟨3, ![3072, 128, 7]⟩
abbrev S3072x1024 : Shape := ⟨2, ![3072, 1024]⟩
abbrev S3072x128x4 : Shape := ⟨3, ![3072, 128, 4]⟩
abbrev S3072x128x15 : Shape := ⟨3, ![3072, 128, 15]⟩
abbrev S2048x128x1 : Shape := ⟨3, ![2048, 128, 1]⟩
abbrev S2048x128x3 : Shape := ⟨3, ![2048, 128, 3]⟩
abbrev S2048x128x4 : Shape := ⟨3, ![2048, 128, 4]⟩
abbrev S2048x3072 : Shape := ⟨2, ![2048, 3072]⟩
abbrev S2048x128x8 : Shape := ⟨3, ![2048, 128, 8]⟩

abbrev nBuf : Space → Nat
  | .hbm => 94
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S3072x128, .f32⟩
  | .hbm, ⟨2, _⟩ => ⟨S2048x128, .f32⟩
  | .hbm, ⟨3, _⟩ => ⟨S1024x1024, .f32⟩
  | .hbm, ⟨4, _⟩ => ⟨S3072x3072, .f32⟩
  | .hbm, ⟨5, _⟩ => ⟨S3072x3072, .f32⟩
  | .hbm, ⟨6, _⟩ => ⟨S2048x2048, .f32⟩
  | .hbm, ⟨7, _⟩ => ⟨S1024x3072, .f32⟩
  | .hbm, ⟨8, _⟩ => ⟨S3072x2048, .f32⟩
  | .hbm, ⟨9, _⟩ => ⟨S128x128x8, .f32⟩
  | .hbm, ⟨10, _⟩ => ⟨S128x128x15, .f32⟩
  | .hbm, ⟨11, _⟩ => ⟨S128x128x8, .f32⟩
  | .hbm, ⟨12, _⟩ => ⟨S1024x128x1, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128x1, .f32⟩
  | .hbm, ⟨17, _⟩ => ⟨S1024x128x1, .f32⟩
  | .hbm, ⟨18, _⟩ => ⟨S1024x128x1, .f32⟩
  | .hbm, ⟨19, _⟩ => ⟨S1024x128x3, .f32⟩
  | .hbm, ⟨20, _⟩ => ⟨S1024x128x4, .f32⟩
  | .hbm, ⟨21, _⟩ => ⟨S1024x128, .f32⟩
  | .hbm, ⟨22, _⟩ => ⟨S1024x128x1, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S1024x128x1, .f32⟩
  | .hbm, ⟨27, _⟩ => ⟨S1024x128x1, .f32⟩
  | .hbm, ⟨28, _⟩ => ⟨S1024x128x1, .f32⟩
  | .hbm, ⟨29, _⟩ => ⟨S1024x128x3, .f32⟩
  | .hbm, ⟨30, _⟩ => ⟨S1024x128x4, .f32⟩
  | .hbm, ⟨31, _⟩ => ⟨S1024x128x8, .f32⟩
  | .hbm, ⟨32, _⟩ => ⟨S3072x128x1, .f32⟩
  | .hbm, ⟨33, _⟩ => ⟨S3072x128, .f32⟩
  | .hbm, ⟨34, _⟩ => ⟨S3072x128, .f32⟩
  | .hbm, ⟨35, _⟩ => ⟨S3072x128, .f32⟩
  | .hbm, ⟨36, _⟩ => ⟨S3072x128x1, .f32⟩
  | .hbm, ⟨37, _⟩ => ⟨S3072x128x1, .f32⟩
  | .hbm, ⟨38, _⟩ => ⟨S3072x128x1, .f32⟩
  | .hbm, ⟨39, _⟩ => ⟨S3072x128x3, .f32⟩
  | .hbm, ⟨40, _⟩ => ⟨S3072x128, .f32⟩
  | .hbm, ⟨41, _⟩ => ⟨S3072x128, .f32⟩
  | .hbm, ⟨42, _⟩ => ⟨S3072x128, .f32⟩
  | .hbm, ⟨43, _⟩ => ⟨S3072x128x1, .f32⟩
  | .hbm, ⟨44, _⟩ => ⟨S3072x128x1, .f32⟩
  | .hbm, ⟨45, _⟩ => ⟨S3072x128x1, .f32⟩
  | .hbm, ⟨46, _⟩ => ⟨S3072x128x3, .f32⟩
  | .hbm, ⟨47, _⟩ => ⟨S3072x128x7, .f32⟩
  | .hbm, ⟨48, _⟩ => ⟨S3072x1024, .f32⟩
  | .hbm, ⟨49, _⟩ => ⟨S3072x128, .f32⟩
  | .hbm, ⟨50, _⟩ => ⟨S3072x128x1, .f32⟩
  | .hbm, ⟨51, _⟩ => ⟨S3072x128, .f32⟩
  | .hbm, ⟨52, _⟩ => ⟨S3072x128, .f32⟩
  | .hbm, ⟨53, _⟩ => ⟨S3072x128, .f32⟩
  | .hbm, ⟨54, _⟩ => ⟨S3072x128x1, .f32⟩
  | .hbm, ⟨55, _⟩ => ⟨S3072x128x1, .f32⟩
  | .hbm, ⟨56, _⟩ => ⟨S3072x128x1, .f32⟩
  | .hbm, ⟨57, _⟩ => ⟨S3072x128x3, .f32⟩
  | .hbm, ⟨58, _⟩ => ⟨S3072x128x4, .f32⟩
  | .hbm, ⟨59, _⟩ => ⟨S3072x128, .f32⟩
  | .hbm, ⟨60, _⟩ => ⟨S3072x128x1, .f32⟩
  | .hbm, ⟨61, _⟩ => ⟨S3072x128, .f32⟩
  | .hbm, ⟨62, _⟩ => ⟨S3072x128, .f32⟩
  | .hbm, ⟨63, _⟩ => ⟨S3072x128, .f32⟩
  | .hbm, ⟨64, _⟩ => ⟨S3072x128x1, .f32⟩
  | .hbm, ⟨65, _⟩ => ⟨S3072x128x1, .f32⟩
  | .hbm, ⟨66, _⟩ => ⟨S3072x128x1, .f32⟩
  | .hbm, ⟨67, _⟩ => ⟨S3072x128x3, .f32⟩
  | .hbm, ⟨68, _⟩ => ⟨S3072x128x4, .f32⟩
  | .hbm, ⟨69, _⟩ => ⟨S3072x128x15, .f32⟩
  | .hbm, ⟨70, _⟩ => ⟨S2048x128x1, .f32⟩
  | .hbm, ⟨71, _⟩ => ⟨S2048x128, .f32⟩
  | .hbm, ⟨72, _⟩ => ⟨S2048x128, .f32⟩
  | .hbm, ⟨73, _⟩ => ⟨S2048x128, .f32⟩
  | .hbm, ⟨74, _⟩ => ⟨S2048x128x1, .f32⟩
  | .hbm, ⟨75, _⟩ => ⟨S2048x128x1, .f32⟩
  | .hbm, ⟨76, _⟩ => ⟨S2048x128x1, .f32⟩
  | .hbm, ⟨77, _⟩ => ⟨S2048x128x3, .f32⟩
  | .hbm, ⟨78, _⟩ => ⟨S2048x128x4, .f32⟩
  | .hbm, ⟨79, _⟩ => ⟨S2048x3072, .f32⟩
  | .hbm, ⟨80, _⟩ => ⟨S2048x128, .f32⟩
  | .hbm, ⟨81, _⟩ => ⟨S2048x128x1, .f32⟩
  | .hbm, ⟨82, _⟩ => ⟨S2048x128, .f32⟩
  | .hbm, ⟨83, _⟩ => ⟨S2048x128, .f32⟩
  | .hbm, ⟨84, _⟩ => ⟨S2048x128, .f32⟩
  | .hbm, ⟨85, _⟩ => ⟨S2048x128x1, .f32⟩
  | .hbm, ⟨86, _⟩ => ⟨S2048x128x1, .f32⟩
  | .hbm, ⟨87, _⟩ => ⟨S2048x128x1, .f32⟩
  | .hbm, ⟨88, _⟩ => ⟨S2048x128x3, .f32⟩
  | .hbm, ⟨89, _⟩ => ⟨S2048x128x4, .f32⟩
  | .hbm, ⟨90, _⟩ => ⟨S2048x128x8, .f32⟩
  | .hbm, ⟨91, _⟩ => ⟨S1024x128, .f32⟩
  | .hbm, ⟨92, _⟩ => ⟨S3072x128, .f32⟩
  | .hbm, ⟨93, _⟩ => ⟨S2048x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩

abbrev nD : Nat := 1
abbrev τ : Topo := Topo.v7x

variable {F : FTy → Type} [FloatOps F]
-- ==== Proof.Rows.lean ====
module

public import Idealize.ShloMosaic.Lib.VecWindow
public import Idealize.ShloMosaic.Lib.ValueIdx

@[expose] public section

set_option maxRecDepth 16384

noncomputable section

/-! Matrices written slab after slab: a matrix is filled by blocks of rows stored from the top down, and what it holds
is told by which rows are already there. -/

namespace Cert.Rows

open Idealize.ShloMosaic

variable {α : Type}

/-- The `p × q` tile of a matrix whose top left corner is `(r, c)`. -/
abbrev tile {m n : ℕ} (X : (⟨2, ![m, n]⟩ : Shape).Idx → α) (r c p q : ℕ)
    (h : ∀ a, (![r, c] : Fin 2 → ℕ) a + (![p, q] : Fin 2 → ℕ) a ≤ (![m, n] : Fin 2 → ℕ) a := by decide) :
    (⟨2, ![p, q]⟩ : Shape).Idx → α :=
  VecWindow.window (s := ⟨2, ![m, n]⟩) X ![r, c] ![p, q] h

/-- The matrix whose rows come in slabs of `b`, slab number `k` being `slab k`. -/
def stack {n b m : ℕ} (hb : 0 < b) (slab : ℕ → (⟨2, ![b, m]⟩ : Shape).Idx → α) : (⟨2, ![n, m]⟩ : Shape).Idx → α :=
  fun y => slab ((y 0).val / b) (ValueIdx.ix2 ⟨(y 0).val % b, Nat.mod_lt _ hb⟩ (y 1))

/-- The entry of a stack in row `i` of slab `k` is slab `k`'s entry in that row. -/
theorem stack_at {n b m : ℕ} (hb : 0 < b) (slab : ℕ → (⟨2, ![b, m]⟩ : Shape).Idx → α) (i : (⟨2, ![n, m]⟩ : Shape).Idx) (k : ℕ)
    (y : (⟨2, ![b, m]⟩ : Shape).Idx) (h0 : (i 0).val = k * b + (y 0).val) (h1 : (i 1).val = (y 1).val) : stack hb slab i = slab k y := by
  have hy : (y 0).val < b := (y 0).isLt
  have hk : (i 0).val / b = k := by
    rw [h0, Nat.mul_comm, Nat.mul_add_div hb, Nat.div_eq_of_lt hy, Nat.add_zero]
  have hr : (i 0).val % b = (y 0).val := by
    rw [h0, Nat.mul_comm, Nat.mul_add_mod, Nat.mod_eq_of_lt hy]
  unfold stack
  rw [hk]
  refine congrArg _ (funext fun a => Fin.ext ?_)
  fin_cases a
  · exact hr
  · exact h1

/-- Two matrices have the same first `k` rows. -/
def Agree {n m : ℕ} (k : ℕ) (z G : (⟨2, ![n, m]⟩ : Shape).Idx → α) : Prop := ∀ y, (y 0).val < k → z y = G y

theorem Agree.zero {n m : ℕ} (z G : (⟨2, ![n, m]⟩ : Shape).Idx → α) : Agree 0 z G := fun y h => absurd h (Nat.not_lt_zero _)

theorem Agree.full {n m k : ℕ} {z G : (⟨2, ![n, m]⟩ : Shape).Idx → α} (h : Agree k z G) (hk : n ≤ k) : z = G :=
  funext fun y => h y (lt_of_lt_of_le (y 0).isLt hk)

theorem Agree.refl {n m : ℕ} (k : ℕ) (z : (⟨2, ![n, m]⟩ : Shape).Idx → α) : Agree k z z := fun _ _ => rfl

/-- Storing slab `s` under the first `s` slabs leaves the first `s + 1` of them. -/
theorem Agree.put {n b m s : ℕ} (hb : 0 < b) {slab : ℕ → (⟨2, ![b, m]⟩ : Shape).Idx → α} {z : (⟨2, ![n, m]⟩ : Shape).Idx → α}
    {o : Fin 2 → ℕ} {w : (⟨2, ![b, m]⟩ : Shape).Idx → α} (h : Agree (b * s) z (stack hb slab)) (ho : o = ![b * s, 0]) (hw : w = slab s) :
    Agree (b * (s + 1)) (VecWindow.put (s := ⟨2, ![n, m]⟩) z o ![b, m] w) (stack hb slab) := by
  subst ho hw
  intro y hy
  unfold VecWindow.put
  by_cases hr : b * s ≤ (y 0).val
  · have hin : ∀ a : Fin 2, (![b * s, 0] : Fin 2 → ℕ) a ≤ (y a).val ∧ (y a).val < (![b * s, 0] : Fin 2 → ℕ) a + (![b, m] : Fin 2 → ℕ) a := by
      have h1 := (y 1).isLt
      intro a; fin_cases a
      · show b * s ≤ (y 0).val ∧ (y 0).val < b * s + b
        rw [Nat.mul_succ] at hy; omega
      · show 0 ≤ (y 1).val ∧ (y 1).val < 0 + m
        have : (y 1).val < m := h1
        omega
    rw [dif_pos hin]
    have hq : (y 0).val / b = s := by
      rw [Nat.div_eq_iff hb]
      rw [Nat.mul_succ] at hy
      constructor
      · rw [Nat.mul_comm]; exact hr
      · rw [Nat.mul_comm]; omega
    have hm : (y 0).val % b = (y 0).val - b * s := by
      rw [← hq]; exact (Nat.sub_eq_of_eq_add (by rw [Nat.add_comm]; exact (Nat.div_add_mod _ _).symm)).symm
    unfold stack
    rw [hq]
    congr 1
    funext a; apply Fin.ext; fin_cases a
    · show (y 0).val - b * s = (y 0).val % b
      exact hm.symm
    · show (y 1).val - 0 = (y 1).val
      rfl
  · rw [dif_neg (fun hall => hr (hall 0).1)]
    exact h y (by omega)

/-- The library's account of a list of stores is the newest store put over the rest. -/
theorem canon_cons_put {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e)) :
    View.canon (⟨Rect.unit off size inb, w⟩ :: L) = VecWindow.put (View.canon L) off size w := by
  funext y
  unfold VecWindow.put
  by_cases h : ∀ a, off a ≤ (y a).val ∧ (y a).val < off a + size a
  · rw [dif_pos h]
    have hy : (Rect.unit off size inb).emb (Rect.unitLocal (s := s) (off := off) (size := size) y h) = y :=
      funext fun a => Fin.ext (by
        show off a + 1 * ((y a).val - off a) = (y a).val
        have := h a; omega)
    exact (congrArg _ hy.symm).trans (View.canon_cons_emb _ w L _)
  · rw [dif_neg h]
    exact View.canon_cons_of_not_mem _ L (by rw [Rect.mem_set_unit]; exact h)

/-- Three slabs by number. -/
def three {β : Type} (a b c : β) : ℕ → β := fun k => match k with | 0 => a | 1 => b | _ => c

/-- Three slabs put one under the other fill the matrix. -/
theorem put_three {n b m : ℕ} (hb : 0 < b) (z : (⟨2, ![n, m]⟩ : Shape).Idx → α) (w : ℕ → (⟨2, ![b, m]⟩ : Shape).Idx → α)
    {o₀ o₁ o₂ : Fin 2 → ℕ} (h₀ : o₀ = ![0, 0]) (h₁ : o₁ = ![b, 0]) (h₂ : o₂ = ![b * 2, 0]) (hn : n ≤ b * 3) :
    VecWindow.put (s := ⟨2, ![n, m]⟩) (VecWindow.put (s := ⟨2, ![n, m]⟩) (VecWindow.put (s := ⟨2, ![n, m]⟩) z o₀ ![b, m] (w 0)) o₁ ![b, m] (w 1)) o₂ ![b, m] (w 2)
      = stack hb w := by
  have a₀ : Agree (b * 0) z (stack hb w) := by rw [Nat.mul_zero]; exact Agree.zero _ _
  have a₁ := a₀.put hb (o := o₀) (by rw [h₀, Nat.mul_zero]) rfl
  have a₂ := a₁.put hb (o := o₁) (by rw [h₁, Nat.mul_one]) rfl
  have a₃ := a₂.put hb (o := o₂) h₂ rfl
  exact a₃.full hn

/-- Two slabs put one under the other fill the matrix. -/
theorem put_two {n b m : ℕ} (hb : 0 < b) (z : (⟨2, ![n, m]⟩ : Shape).Idx → α) (w : ℕ → (⟨2, ![b, m]⟩ : Shape).Idx → α)
    {o₀ o₁ : Fin 2 → ℕ} (h₀ : o₀ = ![0, 0]) (h₁ : o₁ = ![b, 0]) (hn : n ≤ b * 2) :
    VecWindow.put (s := ⟨2, ![n, m]⟩) (VecWindow.put (s := ⟨2, ![n, m]⟩) z o₀ ![b, m] (w 0)) o₁ ![b, m] (w 1)
      = stack hb w := by
  have a₀ : Agree (b * 0) z (stack hb w) := by rw [Nat.mul_zero]; exact Agree.zero _ _
  have a₁ := a₀.put hb (o := o₀) (by rw [h₀, Nat.mul_zero]) rfl
  have a₂ := a₁.put hb (o := o₁) (by rw [h₁, Nat.mul_one]) rfl
  exact a₂.full hn

/-- A matrix put over a whole matrix is that matrix. -/
theorem put_full {n m : ℕ} (z w : (⟨2, ![n, m]⟩ : Shape).Idx → α) : VecWindow.put (s := ⟨2, ![n, m]⟩) z ![0, 0] ![n, m] w = w := by
  funext y
  unfold VecWindow.put
  have hin : ∀ a : Fin 2, (![0, 0] : Fin 2 → ℕ) a ≤ (y a).val ∧ (y a).val < (![0, 0] : Fin 2 → ℕ) a + (![n, m] : Fin 2 → ℕ) a := by
    intro a
    have h := (y a).isLt
    fin_cases a
    · show 0 ≤ (y 0).val ∧ (y 0).val < 0 + n
      have : (y 0).val < n := h
      omega
    · show 0 ≤ (y 1).val ∧ (y 1).val < 0 + m
      have : (y 1).val < m := h
      omega
  rw [dif_pos hin]
  congr 1
  funext a; apply Fin.ext; fin_cases a <;> rfl

/-- A tile of the first rows of a matrix, when a slab was put over those rows, is the tile of the slab. -/
theorem tile_put_top {n b m : ℕ} (z : (⟨2, ![n, m]⟩ : Shape).Idx → α) (w : (⟨2, ![b, m]⟩ : Shape).Idx → α) (r c p q : ℕ)
    (h : ∀ a, (![r, c] : Fin 2 → ℕ) a + (![p, q] : Fin 2 → ℕ) a ≤ (![n, m] : Fin 2 → ℕ) a)
    (h' : ∀ a, (![r, c] : Fin 2 → ℕ) a + (![p, q] : Fin 2 → ℕ) a ≤ (![b, m] : Fin 2 → ℕ) a) :
    tile (VecWindow.put (s := ⟨2, ![n, m]⟩) z ![0, 0] ![b, m] w) r c p q h = tile w r c p q h' := by
  unfold tile
  rw [VecWindow.window_put_of_inside (s := ⟨2, ![n, m]⟩) z ![0, 0] ![b, m] ![r, c] ![p, q] h w (fun a => by
    have := h' a
    fin_cases a
    · exact ⟨Nat.zero_le _, by simpa using this⟩
    · exact ⟨Nat.zero_le _, by simpa using this⟩)]
  funext y
  unfold VecWindow.window
  congr 1
  funext a; apply Fin.ext; fin_cases a <;> rfl

/-- The tile that is the whole matrix. -/
theorem tile_full {n m : ℕ} (x : (⟨2, ![n, m]⟩ : Shape).Idx → α)
    (h : ∀ a, (![0, 0] : Fin 2 → ℕ) a + (![n, m] : Fin 2 → ℕ) a ≤ (![n, m] : Fin 2 → ℕ) a) : tile x 0 0 n m h = x := by
  funext y
  show x _ = x y
  congr 1
  funext a; apply Fin.ext; fin_cases a
  · show 0 + 1 * (y 0).val = (y 0).val
    omega
  · show 0 + 1 * (y 1).val = (y 1).val
    omega

/-- A tile among rows where two matrices agree. -/
theorem Agree.tile {n m k : ℕ} {z G : (⟨2, ![n, m]⟩ : Shape).Idx → α} (hz : Agree k z G) (r c p q : ℕ)
    (h : ∀ a, (![r, c] : Fin 2 → ℕ) a + (![p, q] : Fin 2 → ℕ) a ≤ (![n, m] : Fin 2 → ℕ) a) (hk : r + p ≤ k) :
    tile z r c p q h = tile G r c p q h := by
  funext y
  refine hz _ ?_
  show r + 1 * (y 0).val < k
  have : (y 0).val < p := (y 0).isLt
  omega

/-- Two slabs put one under the other are the first rows of the matrix. -/
theorem agree_put_two {n b m : ℕ} (hb : 0 < b) (z : (⟨2, ![n, m]⟩ : Shape).Idx → α) (w : ℕ → (⟨2, ![b, m]⟩ : Shape).Idx → α)
    {o₀ o₁ : Fin 2 → ℕ} (h₀ : o₀ = ![0, 0]) (h₁ : o₁ = ![b, 0]) :
    Agree (b * 2) (VecWindow.put (s := ⟨2, ![n, m]⟩) (VecWindow.put (s := ⟨2, ![n, m]⟩) z o₀ ![b, m] (w 0)) o₁ ![b, m] (w 1)) (stack hb w) := by
  have a₀ : Agree (b * 0) z (stack hb w) := by rw [Nat.mul_zero]; exact Agree.zero _ _
  have a₁ := a₀.put hb (o := o₀) (by rw [h₀, Nat.mul_zero]) rfl
  exact a₁.put hb (o := o₁) (by rw [h₁, Nat.mul_one]) rfl

/-- The tile in the `k`-th slab of 512 rows of a matrix of 3072 rows. -/
abbrev slabTile {n : ℕ} (X : (⟨2, ![3072, n]⟩ : Shape).Idx → α) (k c q : ℕ) (hc : c + q ≤ n := by decide) :
    (⟨2, ![512, q]⟩ : Shape).Idx → α :=
  tile X (512 * (k % 6)) c 512 q (fun a => by
    have := Nat.mod_lt k (show 0 < 6 by decide)
    fin_cases a
    · show 512 * (k % 6) + 512 ≤ 3072
      omega
    · exact hc)

section Whole

variable {Val : EltTy → Type} {sig : RefSig} {κ : Kind} {sp : Space} {e : EltTy} {n m : ℕ}

/-- A load of a whole matrix is its contents. -/
theorem readAt_whole (v : View sig κ sp ⟨2, ![n, m]⟩ e)
    (inb : ∀ a, (![0, 0] : Fin 2 → ℕ) a + (![n, m] : Fin 2 → ℕ) a ≤ (![n, m] : Fin 2 → ℕ) a) (f : v.ty.Contents Val) :
    View.readAt Val v (Rect.unit (s := ⟨2, ![n, m]⟩) ![0, 0] ![n, m] inb).toLoadRect f = v.read Val f :=
  tile_full (v.read Val f) inb

/-- A load of a whole matrix just stored whole is what was stored. -/
theorem readCov_whole [∀ e, Nonempty (Val e)] (v : View sig κ sp ⟨2, ![n, m]⟩ e)
    (inb inb' : ∀ a, (![0, 0] : Fin 2 → ℕ) a + (![n, m] : Fin 2 → ℕ) a ≤ (![n, m] : Fin 2 → ℕ) a)
    (w : (⟨2, ![n, m]⟩ : Shape).Idx → Val e) (L : List (View.Piece Val ⟨2, ![n, m]⟩ e)) :
    v.readCov (⟨Rect.unit (s := ⟨2, ![n, m]⟩) ![0, 0] ![n, m] inb', w⟩ :: L) (Rect.unit (s := ⟨2, ![n, m]⟩) ![0, 0] ![n, m] inb).toLoadRect = w :=
  View.readCov_full v inb inb' w L

end Whole

end Cert.Rows
-- ==== Proof.Body0.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Rows

variable {F : FTy → Type} [FloatOps F]

local notation "𝕄" => MT nD τ sig Unit (Elt F) ℕ (Pipeline.UD sig nD τ) ℕ

variable (c : Dev nD) (i : grid0.Coords)
    (M1 : Memref sig .tc .vmem S512x3072 .f32) (h1 : M1.IsWhole)
    (M2 : Memref sig .tc .vmem S1024x2048 .f32) (h2 : M2.IsWhole)
    (M3 : Memref sig .tc .vmem S512x128 .bf16) (h3 : M3.IsWhole)
    (M4 : Memref sig .tc .vmem S3072x128 .bf16) (h4 : M4.IsWhole)
    (M5 : Memref sig .tc .vmem S1024x128 .bf16) (h5 : M5.IsWhole)
    (M6 : Memref sig .tc .vmem S2048x128 .bf16) (h6 : M6.IsWhole)
    (M7 : Memref sig .tc .vmem S512x128 .bf16) (h7 : M7.IsWhole)
    (M8 : Memref sig .tc .vmem S3072x128 .bf16) (h8 : M8.IsWhole)
    (M9 : Memref sig .tc .vmem S1024x128 .bf16) (h9 : M9.IsWhole)
    (M10 : Memref sig .tc .vmem S2048x128 .bf16) (h10 : M10.IsWhole)
    (M11 : Memref sig .tc .vmem S3072x128 .f32) (h11 : M11.IsWhole)
    (M12 : Memref sig .tc .vmem S2048x128 .f32) (h12 : M12.IsWhole)

set_option maxHeartbeats 1000000 in
/-- The first point: a slab of the first product, and the first term of its transposed companion. -/
theorem run0_A (hc1 : k0_cond1 i = 1#1) (hf : Scalar.cmpi .ne (Scalar.extui (Scalar.cmpi .eq (BitVec.ofNat 32 (i 0).val) 0#32) : BitVec 32) 0#32 = 1#1) (hg : ¬ Scalar.cmpi .ne (Scalar.extui (Scalar.cmpi .sgt (BitVec.ofNat 32 (i 0).val) 0#32) : BitVec 32) 0#32 = 1#1) (hc4 : ¬ k0_cond4 i = 1#1) (hc5 : ¬ k0_cond5 i = 1#1)
    (K : PUnit → sProp 𝕄) (x1 : Vec F S512x3072 .f32) (x3 : Vec F S512x128 .bf16) (x4 : Vec F S3072x128 .bf16)  :
    iprop(owns (c : Thread nD τ) M1 fullShare x1 ∗ owns (c : Thread nD τ) M3 fullShare x3 ∗ owns (c : Thread nD τ) M4 fullShare x4 ∗ (∃ d, owns (c : Thread nD τ) M7 fullShare d) ∗ (∃ d, owns (c : Thread nD τ) M11 fullShare d)
        ∗ (iprop(owns (c : Thread nD τ) M1 fullShare x1 ∗ owns (c : Thread nD τ) M3 fullShare x3 ∗ owns (c : Thread nD τ) M4 fullShare x4 ∗ owns (c : Thread nD τ) M7 fullShare (k0_pay2 x1 x4) ∗ owns (c : Thread nD τ) M11 fullShare (k0_pay4 x1 x3)) -∗ K ⟨⟩))
      ⊢ wp frame (wpE (defs₀ (F := F)) Variants.none c none) Set.univ (cc0__crosses_body i M1 h1 M2 h2 M3 h3 M4 h4 M5 h5 M6 h6 M7 h7 M8 h8 M9 h9 M10 h10 M11 h11 M12 h12) K := by
  simp only [cc0__crosses_body_eq_skeleton]; unfold cc0__crosses_body_skel
  unfold owns
  iintro ⟨⟨%f1, %e1, H1⟩, ⟨%f3, %e3, H3⟩, ⟨%f4, %e4, H4⟩, ⟨%d7, %f7, -, H7⟩, ⟨%d11, %f11, -, H11⟩, Hk⟩
  sl_exec_parts
  sl_unfold_run_names
  sl_step
  iapply Hk
  isplitl [H1]; · iexists _; isplitr; swap; (· iexact H1); ipureintro; exact e1
  isplitl [H3]; · iexists _; isplitr; swap; (· iexact H3); ipureintro; exact e3
  isplitl [H4]; · iexists _; isplitr; swap; (· iexact H4); ipureintro; exact e4
  isplitl [H7]
  · iexists _; isplitr; swap; (· iexact H7); ipureintro
    subst e1 e3 e4
    rw [View.read_writes_cons_put _ _ _ _ _ rfl, put_full]
    simp only [readAt_whole, readCov_whole]
  · iexists _; isplitr; swap; (· iexact H11); ipureintro
    subst e1 e3 e4
    rw [View.read_writes_cons_put _ _ _ _ _ rfl, put_full]
    simp only [readAt_whole, readCov_whole]

set_option maxHeartbeats 1000000 in
/-- The second point: the last slab of the first product, the last term of its transposed companion, and the companion rounded. -/
theorem run0_B (hc1 : k0_cond1 i = 1#1) (hf : ¬ Scalar.cmpi .ne (Scalar.extui (Scalar.cmpi .eq (BitVec.ofNat 32 (i 0).val) 0#32) : BitVec 32) 0#32 = 1#1) (hg : Scalar.cmpi .ne (Scalar.extui (Scalar.cmpi .sgt (BitVec.ofNat 32 (i 0).val) 0#32) : BitVec 32) 0#32 = 1#1) (hc4 : k0_cond4 i = 1#1) (hc5 : ¬ k0_cond5 i = 1#1)
    (K : PUnit → sProp 𝕄) (x1 : Vec F S512x3072 .f32) (x3 : Vec F S512x128 .bf16) (x4 : Vec F S3072x128 .bf16) (y11 : Vec F S3072x128 .f32) :
    iprop(owns (c : Thread nD τ) M1 fullShare x1 ∗ owns (c : Thread nD τ) M3 fullShare x3 ∗ owns (c : Thread nD τ) M4 fullShare x4 ∗ owns (c : Thread nD τ) M11 fullShare y11 ∗ (∃ d, owns (c : Thread nD τ) M7 fullShare d) ∗ (∃ d, owns (c : Thread nD τ) M8 fullShare d)
        ∗ (iprop(owns (c : Thread nD τ) M1 fullShare x1 ∗ owns (c : Thread nD τ) M3 fullShare x3 ∗ owns (c : Thread nD τ) M4 fullShare x4 ∗ owns (c : Thread nD τ) M7 fullShare (k0_pay2 x1 x4) ∗ owns (c : Thread nD τ) M11 fullShare (k0_pay5 x1 x3 y11) ∗ owns (c : Thread nD τ) M8 fullShare (k0_pay6 (k0_pay5 x1 x3 y11))) -∗ K ⟨⟩))
      ⊢ wp frame (wpE (defs₀ (F := F)) Variants.none c none) Set.univ (cc0__crosses_body i M1 h1 M2 h2 M3 h3 M4 h4 M5 h5 M6 h6 M7 h7 M8 h8 M9 h9 M10 h10 M11 h11 M12 h12) K := by
  simp only [cc0__crosses_body_eq_skeleton]; unfold cc0__crosses_body_skel
  unfold owns
  iintro ⟨⟨%f1, %e1, H1⟩, ⟨%f3, %e3, H3⟩, ⟨%f4, %e4, H4⟩, ⟨%f11, %e11, H11⟩, ⟨%d7, %f7, -, H7⟩, ⟨%d8, %f8, -, H8⟩, Hk⟩
  sl_exec_parts
  sl_unfold_run_names
  sl_step
  iapply Hk
  isplitl [H1]; · iexists _; isplitr; swap; (· iexact H1); ipureintro; exact e1
  isplitl [H3]; · iexists _; isplitr; swap; (· iexact H3); ipureintro; exact e3
  isplitl [H4]; · iexists _; isplitr; swap; (· iexact H4); ipureintro; exact e4
  isplitl [H7]
  · iexists _; isplitr; swap; (· iexact H7); ipureintro
    subst e1 e3 e4 e11
    rw [View.read_writes_cons_put _ _ _ _ _ rfl, put_full]
    simp only [readAt_whole, readCov_whole]
  isplitl [H11]
  · iexists _; isplitr; swap; (· iexact H11); ipureintro
    subst e1 e3 e4 e11
    rw [View.read_writes_cons_put _ _ _ _ _ rfl, put_full]
    simp only [readAt_whole, readCov_whole]
  · iexists _; isplitr; swap; (· iexact H8); ipureintro
    subst e1 e3 e4 e11
    rw [View.read_writes_cons_put _ _ _ _ _ rfl, put_full]
    simp only [readAt_whole, readCov_whole]

set_option maxHeartbeats 1000000 in
/-- The third point: a slab of the second product, and the first term of its transposed companion. -/
theorem run0_C (hc1 : ¬ k0_cond1 i = 1#1) (hc5 : k0_cond5 i = 1#1) (hf : Scalar.cmpi .ne (Scalar.extui (Scalar.cmpi .eq (Scalar.subi (BitVec.ofNat 32 (i 0).val) 2#32) 0#32) : BitVec 32) 0#32 = 1#1) (hg : ¬ Scalar.cmpi .ne (Scalar.extui (Scalar.cmpi .sgt (Scalar.subi (BitVec.ofNat 32 (i 0).val) 2#32) 0#32) : BitVec 32) 0#32 = 1#1) (hc8 : ¬ k0_cond8 i = 1#1)
    (K : PUnit → sProp 𝕄) (x2 : Vec F S1024x2048 .f32) (x5 : Vec F S1024x128 .bf16) (x6 : Vec F S2048x128 .bf16)  :
    iprop(owns (c : Thread nD τ) M2 fullShare x2 ∗ owns (c : Thread nD τ) M5 fullShare x5 ∗ owns (c : Thread nD τ) M6 fullShare x6 ∗ (∃ d, owns (c : Thread nD τ) M9 fullShare d) ∗ (∃ d, owns (c : Thread nD τ) M12 fullShare d)
        ∗ (iprop(owns (c : Thread nD τ) M2 fullShare x2 ∗ owns (c : Thread nD τ) M5 fullShare x5 ∗ owns (c : Thread nD τ) M6 fullShare x6 ∗ owns (c : Thread nD τ) M9 fullShare (k0_pay8 x2 x6) ∗ owns (c : Thread nD τ) M12 fullShare (k0_pay10 x2 x5)) -∗ K ⟨⟩))
      ⊢ wp frame (wpE (defs₀ (F := F)) Variants.none c none) Set.univ (cc0__crosses_body i M1 h1 M2 h2 M3 h3 M4 h4 M5 h5 M6 h6 M7 h7 M8 h8 M9 h9 M10 h10 M11 h11 M12 h12) K := by
  simp only [cc0__crosses_body_eq_skeleton]; unfold cc0__crosses_body_skel
  unfold owns
  iintro ⟨⟨%f2, %e2, H2⟩, ⟨%f5, %e5, H5⟩, ⟨%f6, %e6, H6⟩, ⟨%d9, %f9, -, H9⟩, ⟨%d12, %f12, -, H12⟩, Hk⟩
  sl_exec_parts
  sl_unfold_run_names
  sl_step
  iapply Hk
  isplitl [H2]; · iexists _; isplitr; swap; (· iexact H2); ipureintro; exact e2
  isplitl [H5]; · iexists _; isplitr; swap; (· iexact H5); ipureintro; exact e5
  isplitl [H6]; · iexists _; isplitr; swap; (· iexact H6); ipureintro; exact e6
  isplitl [H9]
  · iexists _; isplitr; swap; (· iexact H9); ipureintro
    subst e2 e5 e6
    rw [View.read_writes_cons_put _ _ _ _ _ rfl, put_full]
    simp only [readAt_whole, readCov_whole]
  · iexists _; isplitr; swap; (· iexact H12); ipureintro
    subst e2 e5 e6
    rw [View.read_writes_cons_put _ _ _ _ _ rfl, put_full]
    simp only [readAt_whole, readCov_whole]

set_option maxHeartbeats 1000000 in
/-- The fourth point: a slab of the second product, and the next term of its transposed companion. -/
theorem run0_D (hc1 : ¬ k0_cond1 i = 1#1) (hc5 : k0_cond5 i = 1#1) (hf : ¬ Scalar.cmpi .ne (Scalar.extui (Scalar.cmpi .eq (Scalar.subi (BitVec.ofNat 32 (i 0).val) 2#32) 0#32) : BitVec 32) 0#32 = 1#1) (hg : Scalar.cmpi .ne (Scalar.extui (Scalar.cmpi .sgt (Scalar.subi (BitVec.ofNat 32 (i 0).val) 2#32) 0#32) : BitVec 32) 0#32 = 1#1) (hc8 : ¬ k0_cond8 i = 1#1)
    (K : PUnit → sProp 𝕄) (x2 : Vec F S1024x2048 .f32) (x5 : Vec F S1024x128 .bf16) (x6 : Vec F S2048x128 .bf16) (y12 : Vec F S2048x128 .f32) :
    iprop(owns (c : Thread nD τ) M2 fullShare x2 ∗ owns (c : Thread nD τ) M5 fullShare x5 ∗ owns (c : Thread nD τ) M6 fullShare x6 ∗ owns (c : Thread nD τ) M12 fullShare y12 ∗ (∃ d, owns (c : Thread nD τ) M9 fullShare d)
        ∗ (iprop(owns (c : Thread nD τ) M2 fullShare x2 ∗ owns (c : Thread nD τ) M5 fullShare x5 ∗ owns (c : Thread nD τ) M6 fullShare x6 ∗ owns (c : Thread nD τ) M9 fullShare (k0_pay8 x2 x6) ∗ owns (c : Thread nD τ) M12 fullShare (k0_pay11 x2 x5 y12)) -∗ K ⟨⟩))
      ⊢ wp frame (wpE (defs₀ (F := F)) Variants.none c none) Set.univ (cc0__crosses_body i M1 h1 M2 h2 M3 h3 M4 h4 M5 h5 M6 h6 M7 h7 M8 h8 M9 h9 M10 h10 M11 h11 M12 h12) K := by
  simp only [cc0__crosses_body_eq_skeleton]; unfold cc0__crosses_body_skel
  unfold owns
  iintro ⟨⟨%f2, %e2, H2⟩, ⟨%f5, %e5, H5⟩, ⟨%f6, %e6, H6⟩, ⟨%f12, %e12, H12⟩, ⟨%d9, %f9, -, H9⟩, Hk⟩
  sl_exec_parts
  sl_unfold_run_names
  sl_step
  iapply Hk
  isplitl [H2]; · iexists _; isplitr; swap; (· iexact H2); ipureintro; exact e2
  isplitl [H5]; · iexists _; isplitr; swap; (· iexact H5); ipureintro; exact e5
  isplitl [H6]; · iexists _; isplitr; swap; (· iexact H6); ipureintro; exact e6
  isplitl [H9]
  · iexists _; isplitr; swap; (· iexact H9); ipureintro
    subst e2 e5 e6 e12
    rw [View.read_writes_cons_put _ _ _ _ _ rfl, put_full]
    simp only [readAt_whole, readCov_whole]
  · iexists _; isplitr; swap; (· iexact H12); ipureintro
    subst e2 e5 e6 e12
    rw [View.read_writes_cons_put _ _ _ _ _ rfl, put_full]
    simp only [readAt_whole, readCov_whole]

set_option maxHeartbeats 1000000 in
/-- The last point: the last slab of the second product, the last term of its transposed companion, and the companion rounded. -/
theorem run0_E (hc1 : ¬ k0_cond1 i = 1#1) (hc5 : k0_cond5 i = 1#1) (hf : ¬ Scalar.cmpi .ne (Scalar.extui (Scalar.cmpi .eq (Scalar.subi (BitVec.ofNat 32 (i 0).val) 2#32) 0#32) : BitVec 32) 0#32 = 1#1) (hg : Scalar.cmpi .ne (Scalar.extui (Scalar.cmpi .sgt (Scalar.subi (BitVec.ofNat 32 (i 0).val) 2#32) 0#32) : BitVec 32) 0#32 = 1#1) (hc8 : k0_cond8 i = 1#1)
    (K : PUnit → sProp 𝕄) (x2 : Vec F S1024x2048 .f32) (x5 : Vec F S1024x128 .bf16) (x6 : Vec F S2048x128 .bf16) (y12 : Vec F S2048x128 .f32) :
    iprop(owns (c : Thread nD τ) M2 fullShare x2 ∗ owns (c : Thread nD τ) M5 fullShare x5 ∗ owns (c : Thread nD τ) M6 fullShare x6 ∗ owns (c : Thread nD τ) M12 fullShare y12 ∗ (∃ d, owns (c : Thread nD τ) M9 fullShare d) ∗ (∃ d, owns (c : Thread nD τ) M10 fullShare d)
        ∗ (iprop(owns (c : Thread nD τ) M2 fullShare x2 ∗ owns (c : Thread nD τ) M5 fullShare x5 ∗ owns (c : Thread nD τ) M6 fullShare x6 ∗ owns (c : Thread nD τ) M9 fullShare (k0_pay8 x2 x6) ∗ owns (c : Thread nD τ) M12 fullShare (k0_pay11 x2 x5 y12) ∗ owns (c : Thread nD τ) M10 fullShare (k0_pay12 (k0_pay11 x2 x5 y12))) -∗ K ⟨⟩))
      ⊢ wp frame (wpE (defs₀ (F := F)) Variants.none c none) Set.univ (cc0__crosses_body i M1 h1 M2 h2 M3 h3 M4 h4 M5 h5 M6 h6 M7 h7 M8 h8 M9 h9 M10 h10 M11 h11 M12 h12) K := by
  simp only [cc0__crosses_body_eq_skeleton]; unfold cc0__crosses_body_skel
  unfold owns
  iintro ⟨⟨%f2, %e2, H2⟩, ⟨%f5, %e5, H5⟩, ⟨%f6, %e6, H6⟩, ⟨%f12, %e12, H12⟩, ⟨%d9, %f9, -, H9⟩, ⟨%d10, %f10, -, H10⟩, Hk⟩
  sl_exec_parts
  sl_unfold_run_names
  sl_step
  iapply Hk
  isplitl [H2]; · iexists _; isplitr; swap; (· iexact H2); ipureintro; exact e2
  isplitl [H5]; · iexists _; isplitr; swap; (· iexact H5); ipureintro; exact e5
  isplitl [H6]; · iexists _; isplitr; swap; (· iexact H6); ipureintro; exact e6
  isplitl [H9]
  · iexists _; isplitr; swap; (· iexact H9); ipureintro
    subst e2 e5 e6 e12
    rw [View.read_writes_cons_put _ _ _ _ _ rfl, put_full]
    simp only [readAt_whole, readCov_whole]
  isplitl [H12]
  · iexists _; isplitr; swap; (· iexact H12); ipureintro
    subst e2 e5 e6 e12
    rw [View.read_writes_cons_put _ _ _ _ _ rfl, put_full]
    simp only [readAt_whole, readCov_whole]
  · iexists _; isplitr; swap; (· iexact H10); ipureintro
    subst e2 e5 e6 e12
    rw [View.read_writes_cons_put _ _ _ _ _ rfl, put_full]
    simp only [readAt_whole, readCov_whole]

end Cert.KernelIdeal.Hand
-- ==== Proof.Carry.lean ====
module

public import Idealize.ShloMosaic.Lib.Pipeline.Frame
public import Idealize.ShloMosaic.Lib.Pipeline.DatRel
public import Idealize.ShloMosaic.Lib.Pipeline.FrameBody

@[expose] public section

namespace Cert.Carry

open Idealize.ShloMosaic Idealize.ShloMosaic.TcCoe
open Idealize.SL Idealize.SL.RA
open Idealize.ShloMosaic.Pipeline (Dat Cfg RDat)

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (dat : Dat τ Val Ix Name U Lvl cfg c)
variable {fgt : Fin cfg.W → Bool} {Rl : (w : Fin cfg.W) → Fin cfg.N → ((cfg.win w).block.Idx → Val (cfg.win w).elt) → Prop}

/-- A buffer neither fetched now nor written back at the point before still meets what that point promised of it. -/
theorem finds_prev {w : Fin cfg.W} (h : fgt w = true) {t t' : Fin cfg.N} (ht : t.val = t'.val + 1)
    (hf : (cfg.win w).fetch t = false) (hfl : (cfg.win w).flush t' = false) {Y : (cfg.win w).block.Idx → Val (cfg.win w).elt}
    (hY : (dat.toRRel fgt Rl).Finds w t Y) : Rl w t' Y := by
  have h0 : t.val ≠ 0 := by omega
  have he : (⟨t.val - 1, Nat.lt_of_le_of_lt (Nat.sub_le _ _) t.isLt⟩ : Fin cfg.N) = t' := Fin.ext (by show t.val - 1 = t'.val; omega)
  rcases ((dat.toRRel fgt Rl).finds_of_pos hf h0 Y).mp hY with h1 | h1
  · rw [he, hfl] at h1; exact absurd h1 (by decide)
  · rw [he] at h1; exact dat.toRRel_leaves h h1

end Cert.Carry
-- ==== Proof.Reg0.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Body0
public import proofs.«01_k».proof.Proof.Carry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)
open Cert.Rows

variable {F : FTy → Type} [FloatOps F]

local notation "𝕄" => MT nD τ sig Unit (Elt F) ℕ (Pipeline.UD sig nD τ) ℕ

/-! # The first call: what its buffers hold from point to point

The five points of the first call, on the buffers' contents `V` as the call finds them: two points read row blocks of the first
matrix, three points row blocks of the second. -/

variable (V : (c : Dev nD) → (b : Ref sig .tc) → Buf (Elt F) ((c : Thread nD τ).loc b))

/-- What a fetch at point `t` puts in window `w`: the block of the window's array there. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first running sum after its first term. -/
def sumA (c : Dev nD) : Vec F S3072x128 .f32 := k0_pay4 (blk0 V c 0 t0_0) (blk0 V c 2 t0_0)
/-- The first running sum, complete. -/
def sumB (c : Dev nD) : Vec F S3072x128 .f32 := k0_pay5 (blk0 V c 0 t0_1) (blk0 V c 2 t0_1) (sumA V c)
/-- The second running sum after its first term. -/
def sumC (c : Dev nD) : Vec F S2048x128 .f32 := k0_pay10 (blk0 V c 1 t0_2) (blk0 V c 4 t0_2)
/-- The second running sum after its second term. -/
def sumD (c : Dev nD) : Vec F S2048x128 .f32 := k0_pay11 (blk0 V c 1 t0_3) (blk0 V c 4 t0_3) (sumC V c)
/-- The second running sum, complete. -/
def sumE (c : Dev nD) : Vec F S2048x128 .f32 := k0_pay11 (blk0 V c 1 t0_4) (blk0 V c 4 t0_4) (sumD V c)
/-- The rows of the first matrix's product a point of the first phase stores. -/
def lowA (c : Dev nD) (t : Fin cfg0.N) : Vec F S512x128 .bf16 := k0_pay2 (blk0 V c 0 t) (blk0 V c 3 t)
/-- The rows of the second matrix's product a point of the second phase stores. -/
def lowB (c : Dev nD) (t : Fin cfg0.N) : Vec F S1024x128 .bf16 := k0_pay8 (blk0 V c 1 t) (blk0 V c 5 t)
/-- The transposed first matrix's product. -/
def upA (c : Dev nD) : Vec F S3072x128 .bf16 := k0_pay6 (sumB V c)
/-- The transposed second matrix's product. -/
def upB (c : Dev nD) : Vec F S2048x128 .bf16 := k0_pay12 (sumE V c)

/-- What the body leaves in each result's buffer at each point. -/
def left0 (c : Dev nD) : (w : Fin cfg0.W) → Fin cfg0.N → ((cfg0.win w).block.Idx → Elt F (cfg0.win w).elt) → Prop
  | 6 => fun t X => X = lowA V c (if t.val = 0 then t0_0 else t0_1)
  | 7 => fun t X => 1 ≤ t.val → X = upA V c
  | 8 => fun t X => 2 ≤ t.val → X = lowB V c t
  | 9 => fun t X => t.val = 4 → X = upB V c
  | 0 => fun _ _ => True | 1 => fun _ _ => True | 2 => fun _ _ => True | 3 => fun _ _ => True | 4 => fun _ _ => True | 5 => fun _ _ => True
  | ⟨_ + 10, h⟩ => absurd h (Nat.not_lt.2 (Nat.le_add_left _ _))

/-- The windows whose contents are described by `left0`: the results. -/
def marked0 : Fin cfg0.W → Bool
  | 6 => true | 7 => true | 8 => true | 9 => true
  | 0 => false | 1 => false | 2 => false | 3 => false | 4 => false | 5 => false
  | ⟨_ + 10, h⟩ => absurd h (Nat.not_lt.2 (Nat.le_add_left _ _))

/-- Between points: the two running sums, as far as they matter, and the buffers of the other calls. -/
def inv0 (c : Dev nD) (n : ℕ) : sProp 𝕄 :=
  iprop(∃ z₀ : Vec F S3072x128 .f32, ∃ z₁ : Vec F S2048x128 .f32, ⌜(n = 1 → z₀ = sumA V c) ∧ (n = 3 → z₁ = sumC V c) ∧ (n = 4 → z₁ = sumD V c)⌝
    ∗ owns (c : Thread nD τ) (Memref.whole cc0_scratch0) fullShare z₀ ∗ owns (c : Thread nD τ) (Memref.whole cc0_scratch1) fullShare z₁
    ∗ Pipeline.scopedRestBut (Ix := Unit) (Name := ℕ) (U := Pipeline.UD sig nD τ) (Lvl := ℕ) (Val := Elt F) spec0 c [cc0_scratch0, cc0_scratch1])

/-- Every window's block, as the contents of its buffer. -/
def all0 (c : Dev nD) : (w : Fin cfg0.W) → Fin cfg0.N → (cfg0.win w).block.Idx → Elt F (cfg0.win w).elt
  | 0 => fun t => blk0 V c 0 t | 1 => fun t => blk0 V c 1 t | 2 => fun t => blk0 V c 2 t | 3 => fun t => blk0 V c 3 t | 4 => fun t => blk0 V c 4 t
  | 5 => fun t => blk0 V c 5 t | 6 => fun t => blk0 V c 6 t | 7 => fun t => blk0 V c 7 t | 8 => fun t => blk0 V c 8 t | 9 => fun t => blk0 V c 9 t
  | ⟨_ + 10, h⟩ => absurd h (Nat.not_lt.2 (Nat.le_add_left _ _))

/-- The proof data of the first call. -/
def dat0 (c : Dev nD) : Dat τ (Elt F) Unit ℕ (Pipeline.UD sig nD τ) ℕ cfg0 c where
  A w := V c (Pipeline.arrRef spec0 w)
  after w t := all0 V c w t
  Φ t := inv0 V c t.val
  q w := Pipeline.shareOf spec0 w
  owed _ := 0

/-- An operand's buffer holds its array's block at every point. -/
theorem before0 (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat0 V c).after w t) = (dat0 V c).blockOf w t)
    (t : Fin cfg0.N) (hf : ∀ d, (dat0 V c).fetched w t d = all0 V c w t) :
    iprop(∃ d, owns (c : Thread nD τ) ((cfg0.win w).stage (cfg0.slots t w)) fullShare ((dat0 V c).before w t d))
      ⊢ (owns (c : Thread nD τ) ((cfg0.win w).stage (cfg0.slots t w)) fullShare (all0 V c w t) : sProp 𝕄) := by
  iintro ⟨%d, H⟩
  rw [(dat0 V c).before_in_eq_fetched w hw hlive hclip hkeep t d, hf]
  iexact H

/-- What the body is called with at a point. -/
def pre0 (c : Dev nD) (t : Fin cfg0.N) : sProp 𝕄 :=
  iprop(inv0 V c t.val ∗ (dat0 V c).owesAt () t.castSucc
    ∗ owns (c : Thread nD τ) (st0_0 t) fullShare (blk0 V c 0 t)
    ∗ owns (c : Thread nD τ) (st0_1 t) fullShare (blk0 V c 1 t)
    ∗ owns (c : Thread nD τ) (st0_2 t) fullShare (blk0 V c 2 t)
    ∗ owns (c : Thread nD τ) (st0_3 t) fullShare (blk0 V c 3 t)
    ∗ owns (c : Thread nD τ) (st0_4 t) fullShare (blk0 V c 4 t)
    ∗ owns (c : Thread nD τ) (st0_5 t) fullShare (blk0 V c 5 t)
    ∗ (∃ Y, ⌜((dat0 V c).toRRel marked0 (left0 V c)).Finds 6 t Y⌝ ∗ owns (c : Thread nD τ) (st0_6 t) fullShare Y)
    ∗ (∃ Y, ⌜((dat0 V c).toRRel marked0 (left0 V c)).Finds 7 t Y⌝ ∗ owns (c : Thread nD τ) (st0_7 t) fullShare Y)
    ∗ (∃ Y, ⌜((dat0 V c).toRRel marked0 (left0 V c)).Finds 8 t Y⌝ ∗ owns (c : Thread nD τ) (st0_8 t) fullShare Y)
    ∗ (∃ Y, ⌜((dat0 V c).toRRel marked0 (left0 V c)).Finds 9 t Y⌝ ∗ owns (c : Thread nD τ) (st0_9 t) fullShare Y))

/-- What the body leaves at a point. -/
def post0 (c : Dev nD) (t : Fin cfg0.N) : sProp 𝕄 :=
  iprop(inv0 V c (t.val + 1) ∗ (dat0 V c).owesAt () t.castSucc
    ∗ owns (c : Thread nD τ) (st0_0 t) fullShare (blk0 V c 0 t)
    ∗ owns (c : Thread nD τ) (st0_1 t) fullShare (blk0 V c 1 t)
    ∗ owns (c : Thread nD τ) (st0_2 t) fullShare (blk0 V c 2 t)
    ∗ owns (c : Thread nD τ) (st0_3 t) fullShare (blk0 V c 3 t)
    ∗ owns (c : Thread nD τ) (st0_4 t) fullShare (blk0 V c 4 t)
    ∗ owns (c : Thread nD τ) (st0_5 t) fullShare (blk0 V c 5 t)
    ∗ (∃ X, ⌜left0 V c 6 t X⌝ ∗ owns (c : Thread nD τ) (st0_6 t) fullShare X)
    ∗ (∃ X, ⌜left0 V c 7 t X⌝ ∗ owns (c : Thread nD τ) (st0_7 t) fullShare X)
    ∗ (∃ X, ⌜left0 V c 8 t X⌝ ∗ owns (c : Thread nD τ) (st0_8 t) fullShare X)
    ∗ (∃ X, ⌜left0 V c 9 t X⌝ ∗ owns (c : Thread nD τ) (st0_9 t) fullShare X))

/-- The body at the first point. -/
theorem point0_0 (c : Dev nD) :
    pre0 V c t0_0 ⊢ wp frame (wpE (defs₀ (F := F)) Variants.none c none) Set.univ (bodyAt0 t0_0) (fun _ => post0 V c t0_0) := by
  unfold pre0 post0 bodyAt0 inv0
  iintro ⟨⟨%z₀, %z₁, %hz, S0, S1, HR⟩, HO, H0, H1, H2, H3, H4, H5, ⟨%Y6, %p6, H6⟩, ⟨%Y7, %p7, H7⟩, ⟨%Y8, %p8, H8⟩, ⟨%Y9, %p9, H9⟩⟩
  iapply (run0_A c (grid0.coords t0_0) _ _ _ _ _ _ _ _ _ _ _ _ _ _ _ _ _ _ _ _ _ _ _ _ (by decide) (by decide) (by decide) (by decide) (by decide) _ (blk0 V c 0 t0_0) (blk0 V c 2 t0_0) (blk0 V c 3 t0_0))
  isplitl [H0]; · iexact H0
  isplitl [H2]; · iexact H2
  isplitl [H3]; · iexact H3
  isplitl [H6]; · iexists _; iexact H6
  isplitl [S0]; · iexists _; iexact S0
  iintro ⟨H0, H2, H3, H6, S0⟩
  isplitl [S0 S1 HR]
  · iexists _, _; isplitr; swap
    · isplitl [S0]; · iexact S0
      isplitl [S1]; · iexact S1
      iexact HR
    · ipureintro; exact ⟨fun _ => rfl, fun h => absurd h (by decide), fun h => absurd h (by decide)⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact rfl
  isplitl [H7]
  · iexists _; isplitr; swap; (· iexact H7); ipureintro; exact fun h => absurd h (by decide)
  isplitl [H8]
  · iexists _; isplitr; swap; (· iexact H8); ipureintro; exact fun h => absurd h (by decide)
  · iexists _; isplitr; swap; (· iexact H9); ipureintro; exact fun h => absurd h (by decide)

/-- The body at the second point. -/
theorem point0_1 (c : Dev nD) :
    pre0 V c t0_1 ⊢ wp frame (wpE (defs₀ (F := F)) Variants.none c none) Set.univ (bodyAt0 t0_1) (fun _ => post0 V c t0_1) := by
  unfold pre0 post0 bodyAt0 inv0
  iintro ⟨⟨%z₀, %z₁, %hz, S0, S1, HR⟩, HO, H0, H1, H2, H3, H4, H5, ⟨%Y6, %p6, H6⟩, ⟨%Y7, %p7, H7⟩, ⟨%Y8, %p8, H8⟩, ⟨%Y9, %p9, H9⟩⟩
  obtain rfl := hz.1 rfl
  iapply (run0_B c (grid0.coords t0_1) _ _ _ _ _ _ _ _ _ _ _ _ _ _ _ _ _ _ _ _ _ _ _ _ (by decide) (by decide) (by decide) (by decide) (by decide) _ (blk0 V c 0 t0_1) (blk0 V c 2 t0_1) (blk0 V c 3 t0_1) _)
  isplitl [H0]; · iexact H0
  isplitl [H2]; · iexact H2
  isplitl [H3]; · iexact H3
  isplitl [S0]; · iexact S0
  isplitl [H6]; · iexists _; iexact H6
  isplitl [H7]; · iexists _; iexact H7
  iintro ⟨H0, H2, H3, H6, S0, H7⟩
  isplitl [S0 S1 HR]
  · iexists _, _; isplitr; swap
    · isplitl [S0]; · iexact S0
      isplitl [S1]; · iexact S1
      iexact HR
    · ipureintro; exact ⟨fun h => absurd h (by decide), fun h => absurd h (by decide), fun h => absurd h (by decide)⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact rfl
  isplitl [H7]
  · iexists _; isplitr; swap; (· iexact H7); ipureintro; exact fun _ => rfl
  isplitl [H8]
  · iexists _; isplitr; swap; (· iexact H8); ipureintro; exact fun h => absurd h (by decide)
  · iexists _; isplitr; swap; (· iexact H9); ipureintro; exact fun h => absurd h (by decide)

/-- The body at the third point. -/
theorem point0_2 (c : Dev nD) :
    pre0 V c t0_2 ⊢ wp frame (wpE (defs₀ (F := F)) Variants.none c none) Set.univ (bodyAt0 t0_2) (fun _ => post0 V c t0_2) := by
  unfold pre0 post0 bodyAt0 inv0
  iintro ⟨⟨%z₀, %z₁, %hz, S0, S1, HR⟩, HO, H0, H1, H2, H3, H4, H5, ⟨%Y6, %p6, H6⟩, ⟨%Y7, %p7, H7⟩, ⟨%Y8, %p8, H8⟩, ⟨%Y9, %p9, H9⟩⟩
  have k6 : Y6 = _ := Carry.finds_prev (dat0 V c) (w := 6) rfl (t := t0_2) (t' := t0_1) rfl (by decide) (by decide) p6
  have k7 := Carry.finds_prev (dat0 V c) (w := 7) rfl (t := t0_2) (t' := t0_1) rfl (by decide) (by decide) p7 (by decide)
  iapply (run0_C c (grid0.coords t0_2) _ _ _ _ _ _ _ _ _ _ _ _ _ _ _ _ _ _ _ _ _ _ _ _ (by decide) (by decide) (by decide) (by decide) (by decide) _ (blk0 V c 1 t0_2) (blk0 V c 4 t0_2) (blk0 V c 5 t0_2))
  isplitl [H1]; · iexact H1
  isplitl [H4]; · iexact H4
  isplitl [H5]; · iexact H5
  isplitl [H8]; · iexists _; iexact H8
  isplitl [S1]; · iexists _; iexact S1
  iintro ⟨H1, H4, H5, H8, S1⟩
  isplitl [S0 S1 HR]
  · iexists _, _; isplitr; swap
    · isplitl [S0]; · iexact S0
      isplitl [S1]; · iexact S1
      iexact HR
    · ipureintro; exact ⟨fun h => absurd h (by decide), fun _ => rfl, fun h => absurd h (by decide)⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact k6
  isplitl [H7]
  · iexists _; isplitr; swap; (· iexact H7); ipureintro; exact fun _ => k7
  isplitl [H8]
  · iexists _; isplitr; swap; (· iexact H8); ipureintro; exact fun _ => rfl
  · iexists _; isplitr; swap; (· iexact H9); ipureintro; exact fun h => absurd h (by decide)

/-- The body at the fourth point. -/
theorem point0_3 (c : Dev nD) :
    pre0 V c t0_3 ⊢ wp frame (wpE (defs₀ (F := F)) Variants.none c none) Set.univ (bodyAt0 t0_3) (fun _ => post0 V c t0_3) := by
  unfold pre0 post0 bodyAt0 inv0
  iintro ⟨⟨%z₀, %z₁, %hz, S0, S1, HR⟩, HO, H0, H1, H2, H3, H4, H5, ⟨%Y6, %p6, H6⟩, ⟨%Y7, %p7, H7⟩, ⟨%Y8, %p8, H8⟩, ⟨%Y9, %p9, H9⟩⟩
  have k6 : Y6 = _ := Carry.finds_prev (dat0 V c) (w := 6) rfl (t := t0_3) (t' := t0_2) rfl (by decide) (by decide) p6
  have k7 := Carry.finds_prev (dat0 V c) (w := 7) rfl (t := t0_3) (t' := t0_2) rfl (by decide) (by decide) p7 (by decide)
  obtain rfl := hz.2.1 rfl
  iapply (run0_D c (grid0.coords t0_3) _ _ _ _ _ _ _ _ _ _ _ _ _ _ _ _ _ _ _ _ _ _ _ _ (by decide) (by decide) (by decide) (by decide) (by decide) _ (blk0 V c 1 t0_3) (blk0 V c 4 t0_3) (blk0 V c 5 t0_3) _)
  isplitl [H1]; · iexact H1
  isplitl [H4]; · iexact H4
  isplitl [H5]; · iexact H5
  isplitl [S1]; · iexact S1
  isplitl [H8]; · iexists _; iexact H8
  iintro ⟨H1, H4, H5, H8, S1⟩
  isplitl [S0 S1 HR]
  · iexists _, _; isplitr; swap
    · isplitl [S0]; · iexact S0
      isplitl [S1]; · iexact S1
      iexact HR
    · ipureintro; exact ⟨fun h => absurd h (by decide), fun h => absurd h (by decide), fun _ => rfl⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact k6
  isplitl [H7]
  · iexists _; isplitr; swap; (· iexact H7); ipureintro; exact fun _ => k7
  isplitl [H8]
  · iexists _; isplitr; swap; (· iexact H8); ipureintro; exact fun _ => rfl
  · iexists _; isplitr; swap; (· iexact H9); ipureintro; exact fun h => absurd h (by decide)

/-- The body at the last point. -/
theorem point0_4 (c : Dev nD) :
    pre0 V c t0_4 ⊢ wp frame (wpE (defs₀ (F := F)) Variants.none c none) Set.univ (bodyAt0 t0_4) (fun _ => post0 V c t0_4) := by
  unfold pre0 post0 bodyAt0 inv0
  iintro ⟨⟨%z₀, %z₁, %hz, S0, S1, HR⟩, HO, H0, H1, H2, H3, H4, H5, ⟨%Y6, %p6, H6⟩, ⟨%Y7, %p7, H7⟩, ⟨%Y8, %p8, H8⟩, ⟨%Y9, %p9, H9⟩⟩
  have k6 : Y6 = _ := Carry.finds_prev (dat0 V c) (w := 6) rfl (t := t0_4) (t' := t0_3) rfl (by decide) (by decide) p6
  have k7 := Carry.finds_prev (dat0 V c) (w := 7) rfl (t := t0_4) (t' := t0_3) rfl (by decide) (by decide) p7 (by decide)
  obtain rfl := hz.2.2 rfl
  iapply (run0_E c (grid0.coords t0_4) _ _ _ _ _ _ _ _ _ _ _ _ _ _ _ _ _ _ _ _ _ _ _ _ (by decide) (by decide) (by decide) (by decide) (by decide) _ (blk0 V c 1 t0_4) (blk0 V c 4 t0_4) (blk0 V c 5 t0_4) _)
  isplitl [H1]; · iexact H1
  isplitl [H4]; · iexact H4
  isplitl [H5]; · iexact H5
  isplitl [S1]; · iexact S1
  isplitl [H8]; · iexists _; iexact H8
  isplitl [H9]; · iexists _; iexact H9
  iintro ⟨H1, H4, H5, H8, S1, H9⟩
  isplitl [S0 S1 HR]
  · iexists _, _; isplitr; swap
    · isplitl [S0]; · iexact S0
      isplitl [S1]; · iexact S1
      iexact HR
    · ipureintro; exact ⟨fun h => absurd h (by decide), fun h => absurd h (by decide), fun h => absurd h (by decide)⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact k6
  isplitl [H7]
  · iexists _; isplitr; swap; (· iexact H7); ipureintro; exact fun _ => k7
  isplitl [H8]
  · iexists _; isplitr; swap; (· iexact H8); ipureintro; exact fun _ => rfl
  · iexists _; isplitr; swap; (· iexact H9); ipureintro; exact fun _ => rfl

/-- The body at every point. -/
theorem point0 (c : Dev nD) (t : Fin cfg0.N) :
    pre0 V c t ⊢ wp frame (wpE (defs₀ (F := F)) Variants.none c none) Set.univ (bodyAt0 t) (fun _ => post0 V c t) := by
  rcases fin_N0 t with rfl | rfl | rfl | rfl | rfl
  exacts [point0_0 V c, point0_1 V c, point0_2 V c, point0_3 V c, point0_4 V c]

end Cert.KernelIdeal.Hand
-- ==== Proof.Ob0.lean ====
module

public import proofs.«01_k».proof.Proof.Reg0

public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)
open Cert.Rows

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Operand 0's buffer holds its array's block. -/
theorem in0_0 (c : Dev nD) (t : Fin cfg0.N) : iprop(∃ d, owns (c : Thread nD τ) (st0_0 t) fullShare ((dat0 V c).before 0 t d))
    ⊢ (owns (c : Thread nD τ) (st0_0 t) fullShare (blk0 V c 0 t) : sProp 𝕄) :=
  before0 V c 0 rfl (fun _ => rfl) (fun _ _ _ => rfl) (fun _ => rfl) t fun _ => rfl
/-- Operand 1's buffer holds its array's block. -/
theorem in0_1 (c : Dev nD) (t : Fin cfg0.N) : iprop(∃ d, owns (c : Thread nD τ) (st0_1 t) fullShare ((dat0 V c).before 1 t d))
    ⊢ (owns (c : Thread nD τ) (st0_1 t) fullShare (blk0 V c 1 t) : sProp 𝕄) :=
  before0 V c 1 rfl (fun _ => rfl) (fun _ _ _ => rfl) (fun _ => rfl) t fun _ => rfl
/-- Operand 2's buffer holds its array's block. -/
theorem in0_2 (c : Dev nD) (t : Fin cfg0.N) : iprop(∃ d, owns (c : Thread nD τ) (st0_2 t) fullShare ((dat0 V c).before 2 t d))
    ⊢ (owns (c : Thread nD τ) (st0_2 t) fullShare (blk0 V c 2 t) : sProp 𝕄) :=
  before0 V c 2 rfl (fun _ => rfl) (fun _ _ _ => rfl) (fun _ => rfl) t fun _ => rfl
/-- Operand 3's buffer holds its array's block. -/
theorem in0_3 (c : Dev nD) (t : Fin cfg0.N) : iprop(∃ d, owns (c : Thread nD τ) (st0_3 t) fullShare ((dat0 V c).before 3 t d))
    ⊢ (owns (c : Thread nD τ) (st0_3 t) fullShare (blk0 V c 3 t) : sProp 𝕄) :=
  before0 V c 3 rfl (fun _ => rfl) (fun _ _ _ => rfl) (fun _ => rfl) t fun _ => rfl
/-- Operand 4's buffer holds its array's block. -/
theorem in0_4 (c : Dev nD) (t : Fin cfg0.N) : iprop(∃ d, owns (c : Thread nD τ) (st0_4 t) fullShare ((dat0 V c).before 4 t d))
    ⊢ (owns (c : Thread nD τ) (st0_4 t) fullShare (blk0 V c 4 t) : sProp 𝕄) :=
  before0 V c 4 rfl (fun _ => rfl) (fun _ _ _ => rfl) (fun _ => rfl) t fun _ => rfl
/-- Operand 5's buffer holds its array's block. -/
theorem in0_5 (c : Dev nD) (t : Fin cfg0.N) : iprop(∃ d, owns (c : Thread nD τ) (st0_5 t) fullShare ((dat0 V c).before 5 t d))
    ⊢ (owns (c : Thread nD τ) (st0_5 t) fullShare (blk0 V c 5 t) : sProp 𝕄) :=
  before0 V c 5 rfl (fun _ => rfl) (fun _ _ _ => rfl) (fun _ => rfl) t fun _ => rfl

/-- The library's body obligation for the first call. -/
theorem obligation0 (c : Dev nD) : BodyObligationRel (dat0 V c) (defs₀ (F := F)) Variants.none () Set.univ marked0 (left0 V c) := fun t => by
  rw [bigSep_W0, bigSep_W0]
  refine triple_restated (point0 V c t) (by unfold defs₀; rw [Defs.onTc_tc]) ?_ fun _ => .rfl
  unfold pre0
  refine Laws.sep_mono .rfl (Laws.sep_mono .rfl ?_)
  exact Laws.sep_mono (in0_0 V c t) (Laws.sep_mono (in0_1 V c t) (Laws.sep_mono (in0_2 V c t) (Laws.sep_mono (in0_3 V c t) (Laws.sep_mono (in0_4 V c t) (Laws.sep_mono (in0_5 V c t) .rfl)))))

end Cert.KernelIdeal.Hand
-- ==== Proof.Body1.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Rows

variable {F : FTy → Type} [FloatOps F]

local notation "𝕄" => MT nD τ sig Unit (Elt F) ℕ (Pipeline.UD sig nD τ) ℕ

/-- The second hop of the large matrix: `Z10` times the first hop `Z12`, three slabs of 1024 rows, each the sum of six products of tiles. -/
def hopD (Z10 : Vec F S3072x3072 .bf16) (Z12 : Vec F S3072x256 .bf16) : Vec F S3072x256 .bf16 :=
  stack (n := 3072) (b := 1024) (m := 256) (by decide) (three
    (k1_pay14 (k1_pay13 (tile Z10 0 0 1024 512) (tile Z12 0 0 512 256) (tile Z10 0 512 1024 512) (tile Z12 512 0 512 256) (tile Z10 0 1024 1024 512) (tile Z12 1024 0 512 256) (tile Z10 0 1536 1024 512) (tile Z12 1536 0 512 256) (tile Z10 0 2048 1024 512) (tile Z12 2048 0 512 256) (tile Z10 0 2560 1024 512) (tile Z12 2560 0 512 256)))
    (k1_pay16 (k1_pay15 (tile Z10 1024 0 1024 512) (tile Z12 0 0 512 256) (tile Z10 1024 512 1024 512) (tile Z12 512 0 512 256) (tile Z10 1024 1024 1024 512) (tile Z12 1024 0 512 256) (tile Z10 1024 1536 1024 512) (tile Z12 1536 0 512 256) (tile Z10 1024 2048 1024 512) (tile Z12 2048 0 512 256) (tile Z10 1024 2560 1024 512) (tile Z12 2560 0 512 256)))
    (k1_pay18 (k1_pay17 (tile Z10 2048 0 1024 512) (tile Z12 0 0 512 256) (tile Z10 2048 512 1024 512) (tile Z12 512 0 512 256) (tile Z10 2048 1024 1024 512) (tile Z12 1024 0 512 256) (tile Z10 2048 1536 1024 512) (tile Z12 1536 0 512 256) (tile Z10 2048 2048 1024 512) (tile Z12 2048 0 512 256)) (tile Z10 2048 2560 1024 512) (tile Z12 2560 0 512 256) (constant S1024x256 .f32 0x00000000#32)))

/-- The carried part of the middle result: the four weight slices times the input rows `x4`, the first hop `Z12`, the second hop `H` and the
third hop, three slabs of 1024 rows. -/
def tailD (Z10 : Vec F S3072x3072 .bf16) (Z12 H x4 : Vec F S3072x256 .bf16) (x6 : Vec F S1024x128 .bf16) : Vec F S3072x128 .f32 :=
  stack (n := 3072) (b := 1024) (m := 128) (by decide) (three
    (k1_pay21 (k1_pay19 x6) (k1_pay20 (tile Z10 0 0 1024 512) (tile H 0 0 512 256) (tile Z10 0 512 1024 512) (tile H 512 0 512 256) (tile Z10 0 1024 1024 512) (tile H 1024 0 512 256) (tile Z10 0 1536 1024 512) (tile H 1536 0 512 256) (tile Z10 0 2048 1024 512) (tile H 2048 0 512 256)) (tile Z10 0 2560 1024 512) (tile H 2560 0 512 256) (tile x4 0 0 1024 256) (tile Z12 0 0 1024 256) (tile H 0 0 1024 256))
    (k1_pay25 (k1_pay23 (k1_pay19 x6) (tile x4 1024 0 1024 256) (tile Z12 1024 0 1024 256) (tile H 1024 0 1024 256))
      (k1_pay24 (k1_pay19 x6) (k1_pay22 (tile Z10 1024 0 1024 512) (tile H 0 0 512 256) (tile Z10 1024 512 1024 512) (tile H 512 0 512 256)) (tile Z10 1024 1024 1024 512) (tile H 1024 0 512 256) (tile Z10 1024 1536 1024 512) (tile H 1536 0 512 256) (tile Z10 1024 2048 1024 512) (tile H 2048 0 512 256) (tile Z10 1024 2560 1024 512) (tile H 2560 0 512 256)))
    (k1_pay8 (k1_pay19 x6) (k1_pay26 (tile Z10 2048 0 1024 512) (tile H 0 0 512 256) (tile Z10 2048 512 1024 512) (tile H 512 0 512 256) (tile Z10 2048 1024 1024 512) (tile H 1024 0 512 256) (tile Z10 2048 1536 1024 512) (tile H 1536 0 512 256) (tile Z10 2048 2048 1024 512) (tile H 2048 0 512 256)) (k1_pay27 (tile Z10 2048 2560 1024 512) (tile H 2560 0 512 256)) (tile x4 2048 0 1024 256) (tile Z12 2048 0 1024 256) (tile H 2048 0 1024 256)))

/-- The second hop of the small matrix, one slab of 1024 rows. -/
def hopS (x9 : Vec F S1024x1024 .bf16) (x11 : Vec F S1024x256 .bf16) : Vec F S1024x256 .bf16 :=
  k1_pay9 (tile x9 0 0 1024 512) (tile x11 0 0 512 256) (tile x9 0 512 1024 512) (tile x11 512 0 512 256)

/-- The first result, one slab of 1024 rows: four weight slices times the input rows, the first, second and third hop. -/
def tailS (x9 : Vec F S1024x1024 .bf16) (x11 H x3 : Vec F S1024x256 .bf16) (x5 : Vec F S1024x128 .bf16) : Vec F S1024x128 .f32 :=
  k1_pay7 (k1_pay10 x5) (k1_pay11 (tile x9 0 0 1024 512) (tile H 0 0 512 256) (tile x9 0 512 1024 512) (tile H 512 0 512 256)) (k1_pay12 x5 x3) x11 H

variable (c : Dev nD) (i : grid1.Coords)
    (M1 : Memref sig .tc .vmem S512x1024 .f32) (h1 : M1.IsWhole)
    (M2 : Memref sig .tc .vmem S512x3072 .f32) (h2 : M2.IsWhole)
    (M3 : Memref sig .tc .vmem S1024x256 .bf16) (h3 : M3.IsWhole)
    (M4 : Memref sig .tc .vmem S3072x256 .bf16) (h4 : M4.IsWhole)
    (M5 : Memref sig .tc .vmem S1024x128 .bf16) (h5 : M5.IsWhole)
    (M6 : Memref sig .tc .vmem S1024x128 .bf16) (h6 : M6.IsWhole)
    (M7 : Memref sig .tc .vmem S1024x128 .f32) (h7 : M7.IsWhole)
    (M8 : Memref sig .tc .vmem S3072x128 .f32) (h8 : M8.IsWhole)
    (M9 : Memref sig .tc .vmem S1024x1024 .bf16) (h9 : M9.IsWhole)
    (M10 : Memref sig .tc .vmem S3072x3072 .bf16) (h10 : M10.IsWhole)
    (M11 : Memref sig .tc .vmem S1024x256 .bf16) (h11 : M11.IsWhole)
    (M12 : Memref sig .tc .vmem S3072x256 .bf16) (h12 : M12.IsWhole)
    (M13 : Memref sig .tc .vmem S3072x256 .bf16) (h13 : M13.IsWhole)

/-- A point of the first phase: 512 rows of the small bf16 matrix and of its product are stored. -/
theorem run1_A (hA : k1_cond1 i = 1#1) (hB : ¬ k1_cond2 i = 1#1) (hC : ¬ k1_cond3 i = 1#1) (hD : ¬ k1_cond4 i = 1#1)
    (K : PUnit → sProp 𝕄) (x1 : Vec F S512x1024 .f32) (x3 : Vec F S1024x256 .bf16) (y9 : Vec F S1024x1024 .bf16) (y11 : Vec F S1024x256 .bf16) :
    iprop(owns (c : Thread nD τ) M1 fullShare x1 ∗ owns (c : Thread nD τ) M3 fullShare x3
        ∗ owns (c : Thread nD τ) M9 fullShare y9 ∗ owns (c : Thread nD τ) M11 fullShare y11
        ∗ (iprop(owns (c : Thread nD τ) M1 fullShare x1 ∗ owns (c : Thread nD τ) M3 fullShare x3
          ∗ owns (c : Thread nD τ) M9 fullShare (VecWindow.put y9 (k1_off1 i) S512x1024.size (k1_pay2 x1))
          ∗ owns (c : Thread nD τ) M11 fullShare (VecWindow.put y11 (k1_off2 i) S512x256.size (k1_pay3 x1 x3))) -∗ K ⟨⟩))
      ⊢ wp frame (wpE (defs₀ (F := F)) Variants.none c none) Set.univ (cc1__k1_body i M1 h1 M2 h2 M3 h3 M4 h4 M5 h5 M6 h6 M7 h7 M8 h8 M9 h9 M10 h10 M11 h11 M12 h12 M13 h13) K := by
  simp only [cc1__k1_body_eq_skeleton]; unfold cc1__k1_body_skel
  unfold owns
  iintro ⟨⟨%f1, %e1, H1⟩, ⟨%f3, %e3, H3⟩, ⟨%f9, %e9, H9⟩, ⟨%f11, %e11, H11⟩, Hk⟩
  sl_exec_parts
  sl_unfold_run_names
  sl_step
  iapply Hk
  isplitl [H1]; · iexists _; isplitr; swap; (· iexact H1); ipureintro; exact e1
  isplitl [H3]; · iexists _; isplitr; swap; (· iexact H3); ipureintro; exact e3
  isplitl [H9]
  · iexists _; isplitr; swap; (· iexact H9); ipureintro
    rw [View.read_writes_cons_put _ _ _ _ _ rfl, View.writes_nil, e9, View.readAt_full, e1]
  iexists _; isplitr; swap; (· iexact H11); ipureintro
  rw [View.read_writes_cons_put _ _ _ _ _ rfl, View.writes_nil, e11, View.readAt_full, View.readAt_full, e1, e3]

set_option maxHeartbeats 2000000 in
/-- A point of the second phase that is neither its first nor its last: 512 rows of the large bf16 matrix and of its product are stored. -/
theorem run1_B (hA : ¬ k1_cond1 i = 1#1) (hB : k1_cond2 i = 1#1) (hC : ¬ k1_cond3 i = 1#1) (hD : ¬ k1_cond4 i = 1#1)
    (K : PUnit → sProp 𝕄) (x2 : Vec F S512x3072 .f32) (x4 : Vec F S3072x256 .bf16) (y10 : Vec F S3072x3072 .bf16) (y12 : Vec F S3072x256 .bf16) :
    iprop(owns (c : Thread nD τ) M2 fullShare x2 ∗ owns (c : Thread nD τ) M4 fullShare x4 ∗ owns (c : Thread nD τ) M10 fullShare y10 ∗ owns (c : Thread nD τ) M12 fullShare y12
        ∗ (iprop(owns (c : Thread nD τ) M2 fullShare x2 ∗ owns (c : Thread nD τ) M4 fullShare x4 ∗ owns (c : Thread nD τ) M10 fullShare (VecWindow.put y10 (k1_off3 i) S512x3072.size (k1_pay5 x2)) ∗ owns (c : Thread nD τ) M12 fullShare (VecWindow.put y12 (k1_off4 i) S512x256.size (k1_pay6 x2 x4))) -∗ K ⟨⟩))
      ⊢ wp frame (wpE (defs₀ (F := F)) Variants.none c none) Set.univ (cc1__k1_body i M1 h1 M2 h2 M3 h3 M4 h4 M5 h5 M6 h6 M7 h7 M8 h8 M9 h9 M10 h10 M11 h11 M12 h12 M13 h13) K := by
  simp only [cc1__k1_body_eq_skeleton]; unfold cc1__k1_body_skel
  unfold owns
  iintro ⟨⟨%f2, %e2, H2⟩, ⟨%f4, %e4, H4⟩, ⟨%f10, %e10, H10⟩, ⟨%f12, %e12, H12⟩, Hk⟩
  sl_exec_parts
  sl_unfold_run_names
  sl_step
  iapply Hk
  isplitl [H2]; · iexists _; isplitr; swap; (· iexact H2); ipureintro; exact e2
  isplitl [H4]; · iexists _; isplitr; swap; (· iexact H4); ipureintro; exact e4
  isplitl [H10]
  · iexists _; isplitr; swap; (· iexact H10); ipureintro
    rw [View.read_writes_cons_put _ _ _ _ _ rfl, View.writes_nil, e10, View.readAt_full, e2]
  iexists _; isplitr; swap; (· iexact H12); ipureintro
  rw [View.read_writes_cons_put _ _ _ _ _ rfl, View.writes_nil, e12, View.readAt_full, View.readAt_full, e2, e4]

set_option maxHeartbeats 2000000 in
/-- The first point of the second phase: beside the stores of the second phase the first result is computed from the small matrix. -/
theorem run1_C (hA : ¬ k1_cond1 i = 1#1) (hB : k1_cond2 i = 1#1) (hCD : True → k1_cond3 i = 1#1 ∧ ¬ k1_cond4 i = 1#1)
    (K : PUnit → sProp 𝕄) (x3 : Vec F S1024x256 .bf16) (x5 : Vec F S1024x128 .bf16) (y9 : Vec F S1024x1024 .bf16) (y11 : Vec F S1024x256 .bf16)
    (x2 : Vec F S512x3072 .f32) (x4 : Vec F S3072x256 .bf16) (y10 : Vec F S3072x3072 .bf16) (y12 : Vec F S3072x256 .bf16) :
    iprop(owns (c : Thread nD τ) M2 fullShare x2 ∗ owns (c : Thread nD τ) M4 fullShare x4 ∗ owns (c : Thread nD τ) M10 fullShare y10 ∗ owns (c : Thread nD τ) M12 fullShare y12 ∗ owns (c : Thread nD τ) M3 fullShare x3 ∗ owns (c : Thread nD τ) M5 fullShare x5 ∗ owns (c : Thread nD τ) M9 fullShare y9 ∗ owns (c : Thread nD τ) M11 fullShare y11 ∗ (∃ d, owns (c : Thread nD τ) M7 fullShare d) ∗ (∃ d, owns (c : Thread nD τ) M13 fullShare d)
        ∗ (iprop(owns (c : Thread nD τ) M2 fullShare x2 ∗ owns (c : Thread nD τ) M4 fullShare x4 ∗ owns (c : Thread nD τ) M10 fullShare (VecWindow.put y10 (k1_off3 i) S512x3072.size (k1_pay5 x2)) ∗ owns (c : Thread nD τ) M12 fullShare (VecWindow.put y12 (k1_off4 i) S512x256.size (k1_pay6 x2 x4)) ∗ owns (c : Thread nD τ) M3 fullShare x3 ∗ owns (c : Thread nD τ) M5 fullShare x5 ∗ owns (c : Thread nD τ) M9 fullShare y9 ∗ owns (c : Thread nD τ) M11 fullShare y11 ∗ owns (c : Thread nD τ) M7 fullShare (tailS y9 y11 (hopS y9 y11) x3 x5) ∗ (∃ d, owns (c : Thread nD τ) M13 fullShare d)) -∗ K ⟨⟩))
      ⊢ wp frame (wpE (defs₀ (F := F)) Variants.none c none) Set.univ (cc1__k1_body i M1 h1 M2 h2 M3 h3 M4 h4 M5 h5 M6 h6 M7 h7 M8 h8 M9 h9 M10 h10 M11 h11 M12 h12 M13 h13) K := by
  simp only [cc1__k1_body_eq_skeleton]; unfold cc1__k1_body_skel
  unfold owns
  iintro ⟨⟨%f2, %e2, H2⟩, ⟨%f4, %e4, H4⟩, ⟨%f10, %e10, H10⟩, ⟨%f12, %e12, H12⟩, ⟨%f3, %e3, H3⟩, ⟨%f5, %e5, H5⟩, H9, H11,
    ⟨%d7, %f7, -, H7⟩, ⟨%d13, %f13, -, H13⟩, Hk⟩
  sl_exec_parts
  sl_unfold_run_names
  obtain ⟨hC, hD⟩ := hCD trivial
  generalize ez10 : M10.view.writes (Elt F) f10 _ = g10
  generalize ez12 : M12.view.writes (Elt F) f12 _ = g12
  icases H9 with ⟨%f9, %e9, H9⟩
  icases H11 with ⟨%f11, %e11, H11⟩
  sl_exec_parts
  sl_unfold_run_names
  sl_step
  iapply Hk
  isplitl [H2]; · iexists _; isplitr; swap; (· iexact H2); ipureintro; exact e2
  isplitl [H4]; · iexists _; isplitr; swap; (· iexact H4); ipureintro; exact e4
  isplitl [H10]
  · iexists _; isplitr; swap; (· iexact H10); ipureintro
    rw [← ez10, View.read_writes_cons_put _ _ _ _ _ rfl, View.writes_nil, e10, View.readAt_full, e2]
  isplitl [H12]
  · iexists _; isplitr; swap; (· iexact H12); ipureintro
    rw [← ez12, View.read_writes_cons_put _ _ _ _ _ rfl, View.writes_nil, e12, View.readAt_full, View.readAt_full, e2, e4]
  isplitl [H3]; · iexists _; isplitr; swap; (· iexact H3); ipureintro; exact e3
  isplitl [H5]; · iexists _; isplitr; swap; (· iexact H5); ipureintro; exact e5
  isplitl [H9]; · iexists _; isplitr; swap; (· iexact H9); ipureintro; exact e9
  isplitl [H11]; · iexists _; isplitr; swap; (· iexact H11); ipureintro; exact e11
  isplitl [H7]
  · iexists _; isplitr; swap; (· iexact H7); ipureintro
    subst e3 e5 e9 e11
    rw [View.read_writes_cons_put _ _ _ _ _ rfl, put_full]
    simp only [View.readAt_full, View.readCov_eq_canon']
    generalize hL : View.canon (Val := Elt F) (s := S3072x256) (e := .bf16) (_ :: _) = Hc
    have hH : Hc = VecWindow.put (s := S3072x256) (View.canon []) ![0, 0] ![1024, 256] (hopS (M9.view.read (Elt F) f9) (M11.view.read (Elt F) f11)) := by
      rw [← hL, canon_cons_put]
      rfl
    clear hL
    show k1_pay7 (k1_pay10 (tile (M5.view.read (Elt F) f5) 0 0 1024 128)) (k1_pay11 _ (tile Hc 0 0 512 256) _ (tile Hc 512 0 512 256))
      (k1_pay12 (tile (M5.view.read (Elt F) f5) 0 0 1024 128) (tile (M3.view.read (Elt F) f3) 0 0 1024 256)) (tile (M11.view.read (Elt F) f11) 0 0 1024 256) (tile Hc 0 0 1024 256) = _
    rw [tile_full (M5.view.read (Elt F) f5), tile_full (M3.view.read (Elt F) f3), tile_full (M11.view.read (Elt F) f11), hH, tile_put_top _ _ 0 0 512 256 _ (by decide), tile_put_top _ _ 512 0 512 256 _ (by decide), tile_put_top _ _ 0 0 1024 256 _ (by decide), tile_full]
    rfl
  iexists _; iexists _; isplitr; swap; (· iexact H13); ipureintro; rfl

set_option maxHeartbeats 2000000 in
/-- The last point: beside the stores of the second phase the carried part of the middle result is computed from the large matrix. -/
theorem run1_D (hA : ¬ k1_cond1 i = 1#1) (hB : k1_cond2 i = 1#1) (hCD : True → ¬ k1_cond3 i = 1#1 ∧ k1_cond4 i = 1#1)
    (K : PUnit → sProp 𝕄) (x6 : Vec F S1024x128 .bf16)
    (x2 : Vec F S512x3072 .f32) (x4 : Vec F S3072x256 .bf16) (y10 : Vec F S3072x3072 .bf16) (y12 : Vec F S3072x256 .bf16)
    (z10 : Vec F S3072x3072 .bf16) (z12 : Vec F S3072x256 .bf16) (hz10 : z10 = VecWindow.put y10 (k1_off3 i) S512x3072.size (k1_pay5 x2)) (hz12 : z12 = VecWindow.put y12 (k1_off4 i) S512x256.size (k1_pay6 x2 x4)) :
    iprop(owns (c : Thread nD τ) M2 fullShare x2 ∗ owns (c : Thread nD τ) M4 fullShare x4 ∗ owns (c : Thread nD τ) M10 fullShare y10 ∗ owns (c : Thread nD τ) M12 fullShare y12 ∗ owns (c : Thread nD τ) M6 fullShare x6 ∗ (∃ d, owns (c : Thread nD τ) M8 fullShare d) ∗ (∃ d, owns (c : Thread nD τ) M13 fullShare d)
        ∗ (iprop(owns (c : Thread nD τ) M2 fullShare x2 ∗ owns (c : Thread nD τ) M4 fullShare x4 ∗ owns (c : Thread nD τ) M10 fullShare z10 ∗ owns (c : Thread nD τ) M12 fullShare z12 ∗ owns (c : Thread nD τ) M6 fullShare x6 ∗ owns (c : Thread nD τ) M8 fullShare (tailD z10 z12 (hopD z10 z12) x4 x6) ∗ (∃ d, owns (c : Thread nD τ) M13 fullShare d)) -∗ K ⟨⟩))
      ⊢ wp frame (wpE (defs₀ (F := F)) Variants.none c none) Set.univ (cc1__k1_body i M1 h1 M2 h2 M3 h3 M4 h4 M5 h5 M6 h6 M7 h7 M8 h8 M9 h9 M10 h10 M11 h11 M12 h12 M13 h13) K := by
  simp only [cc1__k1_body_eq_skeleton]; unfold cc1__k1_body_skel
  unfold owns
  iintro ⟨⟨%f2, %e2, H2⟩, ⟨%f4, %e4, H4⟩, ⟨%f10, %e10, H10⟩, ⟨%f12, %e12, H12⟩, ⟨%f6, %e6, H6⟩,
    ⟨%d8, %f8, -, H8⟩, ⟨%d13, %f13, -, H13⟩, Hk⟩
  sl_exec_parts
  sl_unfold_run_names
  obtain ⟨hC, hD⟩ := hCD trivial
  generalize ez10 : M10.view.writes (Elt F) f10 _ = g10
  generalize ez12 : M12.view.writes (Elt F) f12 _ = g12
  have eg10 : M10.view.read (Elt F) g10 = z10 := by
    rw [hz10, ← ez10, View.read_writes_cons_put _ _ _ _ _ rfl, View.writes_nil, e10, View.readAt_full, e2]
  have eg12 : M12.view.read (Elt F) g12 = z12 := by
    rw [hz12, ← ez12, View.read_writes_cons_put _ _ _ _ _ rfl, View.writes_nil, e12, View.readAt_full, View.readAt_full, e2, e4]
  clear hz10 hz12
  sl_exec_parts
  sl_unfold_run_names
  sl_step
  iapply Hk
  isplitl [H2]; · iexists _; isplitr; swap; (· iexact H2); ipureintro; exact e2
  isplitl [H4]; · iexists _; isplitr; swap; (· iexact H4); ipureintro; exact e4
  isplitl [H10]; · iexists _; isplitr; swap; (· iexact H10); ipureintro; exact eg10
  isplitl [H12]; · iexists _; isplitr; swap; (· iexact H12); ipureintro; exact eg12
  isplitl [H6]; · iexists _; isplitr; swap; (· iexact H6); ipureintro; exact e6
  isplitl [H8]
  · iexists _; isplitr; swap; (· iexact H8); ipureintro
    subst e4 e6 eg10 eg12
    simp only [readAt_whole, View.readCov_eq_canon']
    generalize hL : View.canon (Val := Elt F) (s := S3072x256) (e := .bf16) (_ :: _) = Hc
    have hH : Hc = hopD (M10.view.read (Elt F) g10) (M12.view.read (Elt F) g12) := by
      rw [← hL, canon_cons_put, canon_cons_put, canon_cons_put]
      exact put_three (b := 1024) (by decide) _ (three _ _ _) rfl rfl rfl (by decide)
    subst hH
    clear hL
    simp only [View.read_writes_cons_put _ _ _ _ _ rfl]
    exact put_three (b := 1024) (by decide) (M8.view.read (Elt F) f8) (three _ _ _) rfl rfl rfl (by decide)
  iexists _; iexists _; isplitr; swap; (· iexact H13); ipureintro; rfl

end Cert.KernelIdeal.Hand
-- ==== Proof.Reg1.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Body1
public import proofs.«01_k».proof.Proof.Carry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)
open Cert.Rows

variable {F : FTy → Type} [FloatOps F]

local notation "𝕄" => MT nD τ sig Unit (Elt F) ℕ (Pipeline.UD sig nD τ) ℕ

/-! # The second call: what its buffers hold from point to point

The eight points of the second call, on the buffers' contents `V` as the call finds them: two points read row blocks of the first
matrix, six points row blocks of the second. -/

variable (V : (c : Dev nD) → (b : Ref sig .tc) → Buf (Elt F) ((c : Thread nD τ).loc b))

/-- What a fetch at point `t` puts in window `w`: the block of the window's array there. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point number `s`. -/
def pt1 (s : ℕ) : Fin cfg1.N := ⟨s % 8, lt_of_lt_of_eq (Nat.mod_lt _ (by decide)) N_1.symm⟩

/-- The first matrix, rounded. -/
def matS (c : Dev nD) : Vec F S1024x1024 .bf16 := stack (n := 1024) (b := 512) (m := 1024) (by decide) (fun s => k1_pay2 (blk1 V c 0 (pt1 s)))
/-- The first hop over the first matrix. -/
def oneS (c : Dev nD) : Vec F S1024x256 .bf16 := stack (n := 1024) (b := 512) (m := 256) (by decide) (fun s => k1_pay3 (blk1 V c 0 (pt1 s)) (blk1 V c 2 (pt1 s)))
/-- The second matrix, rounded. -/
def matD (c : Dev nD) : Vec F S3072x3072 .bf16 := stack (n := 3072) (b := 512) (m := 3072) (by decide) (fun s => k1_pay5 (blk1 V c 1 (pt1 (s + 2))))
/-- The first hop over the second matrix. -/
def oneD (c : Dev nD) : Vec F S3072x256 .bf16 := stack (n := 3072) (b := 512) (m := 256) (by decide) (fun s => k1_pay6 (blk1 V c 1 (pt1 (s + 2))) (blk1 V c 3 (pt1 (s + 2))))
/-- The first result. -/
def outS (c : Dev nD) : Vec F S1024x128 .f32 := tailS (matS V c) (oneS V c) (hopS (matS V c) (oneS V c)) (blk1 V c 2 (pt1 2)) (blk1 V c 4 (pt1 2))
/-- The second result: the lower part of the middle sum. -/
def outD (c : Dev nD) : Vec F S3072x128 .f32 := tailD (matD V c) (oneD V c) (hopD (matD V c) (oneD V c)) (blk1 V c 3 (pt1 7)) (blk1 V c 5 (pt1 7))

theorem pt1_eq (t : Fin cfg1.N) (s : ℕ) (h : t.val = s) : pt1 s = t := Fin.ext (by
  have h1 : t.val < 8 := lt_of_lt_of_eq t.isLt N_1
  show s % 8 = t.val
  omega)

/-- What the body leaves in each result's buffer at each point. -/
def left1 (c : Dev nD) : (w : Fin cfg1.W) → Fin cfg1.N → ((cfg1.win w).block.Idx → Elt F (cfg1.win w).elt) → Prop
  | 6 => fun t X => 2 ≤ t.val → X = outS V c
  | 7 => fun t X => t.val = 7 → X = outD V c
  | 0 => fun _ _ => True | 1 => fun _ _ => True | 2 => fun _ _ => True | 3 => fun _ _ => True | 4 => fun _ _ => True | 5 => fun _ _ => True
  | ⟨_ + 8, h⟩ => absurd h (Nat.not_lt.2 (Nat.le_add_left _ _))

/-- The windows whose contents are described by `left1`: the results. -/
def marked1 : Fin cfg1.W → Bool
  | 6 => true | 7 => true | 0 => false | 1 => false | 2 => false | 3 => false | 4 => false | 5 => false
  | ⟨_ + 8, h⟩ => absurd h (Nat.not_lt.2 (Nat.le_add_left _ _))

/-- Between points: the scratch matrices, as far as they are filled, and the buffers of the other calls. -/
def inv1 (c : Dev nD) (n : ℕ) : sProp 𝕄 :=
  iprop(∃ z0 : Vec F S1024x1024 .bf16, ∃ z1 : Vec F S3072x3072 .bf16, ∃ z2 : Vec F S1024x256 .bf16, ∃ z3 : Vec F S3072x256 .bf16, ∃ z4 : Vec F S3072x256 .bf16, ⌜Agree (512 * min n 2) z0 (matS V c) ∧ Agree (512 * (n - 2)) z1 (matD V c) ∧ Agree (512 * min n 2) z2 (oneS V c) ∧ Agree (512 * (n - 2)) z3 (oneD V c) ∧ True⌝
    ∗ owns (c : Thread nD τ) (Memref.whole cc1_scratch0) fullShare z0
    ∗ owns (c : Thread nD τ) (Memref.whole cc1_scratch1) fullShare z1
    ∗ owns (c : Thread nD τ) (Memref.whole cc1_scratch2) fullShare z2
    ∗ owns (c : Thread nD τ) (Memref.whole cc1_scratch3) fullShare z3
    ∗ owns (c : Thread nD τ) (Memref.whole cc1_scratch4) fullShare z4
    ∗ Pipeline.scopedRestBut (Ix := Unit) (Name := ℕ) (U := Pipeline.UD sig nD τ) (Lvl := ℕ) (Val := Elt F) spec1 c [cc1_scratch0, cc1_scratch1, cc1_scratch2, cc1_scratch3, cc1_scratch4])

/-- Every window's block, as the contents of its buffer. -/
def all1 (c : Dev nD) : (w : Fin cfg1.W) → Fin cfg1.N → (cfg1.win w).block.Idx → Elt F (cfg1.win w).elt
  | 0 => fun t => blk1 V c 0 t | 1 => fun t => blk1 V c 1 t | 2 => fun t => blk1 V c 2 t | 3 => fun t => blk1 V c 3 t | 4 => fun t => blk1 V c 4 t | 5 => fun t => blk1 V c 5 t | 6 => fun t => blk1 V c 6 t | 7 => fun t => blk1 V c 7 t
  | ⟨_ + 8, h⟩ => absurd h (Nat.not_lt.2 (Nat.le_add_left _ _))

/-- The proof data of the second call. -/
def dat1 (c : Dev nD) : Dat τ (Elt F) Unit ℕ (Pipeline.UD sig nD τ) ℕ cfg1 c where
  A w := V c (Pipeline.arrRef spec1 w)
  after w t := all1 V c w t
  Φ t := inv1 V c t.val
  q w := Pipeline.shareOf spec1 w
  owed _ := 0

/-- An operand's buffer holds its array's block at every point. -/
theorem before1 (c : Dev nD) (w : Fin cfg1.W) (hw : (cfg1.win w).isOut = false) (hlive : ∀ i, cfg1.idle w i = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat1 V c).after w t) = (dat1 V c).blockOf w t)
    (t : Fin cfg1.N) (hf : ∀ d, (dat1 V c).fetched w t d = all1 V c w t) :
    iprop(∃ d, owns (c : Thread nD τ) ((cfg1.win w).stage (cfg1.slots t w)) fullShare ((dat1 V c).before w t d))
      ⊢ (owns (c : Thread nD τ) ((cfg1.win w).stage (cfg1.slots t w)) fullShare (all1 V c w t) : sProp 𝕄) := by
  iintro ⟨%d, H⟩
  rw [(dat1 V c).before_in_eq_fetched w hw hlive hclip hkeep t d, hf]
  iexact H

/-- What the body is called with at a point. -/
def pre1 (c : Dev nD) (t : Fin cfg1.N) : sProp 𝕄 :=
  iprop(inv1 V c t.val ∗ (dat1 V c).owesAt () t.castSucc
    ∗ owns (c : Thread nD τ) (st1_0 t) fullShare (blk1 V c 0 t)
    ∗ owns (c : Thread nD τ) (st1_1 t) fullShare (blk1 V c 1 t)
    ∗ owns (c : Thread nD τ) (st1_2 t) fullShare (blk1 V c 2 t)
    ∗ owns (c : Thread nD τ) (st1_3 t) fullShare (blk1 V c 3 t)
    ∗ owns (c : Thread nD τ) (st1_4 t) fullShare (blk1 V c 4 t)
    ∗ owns (c : Thread nD τ) (st1_5 t) fullShare (blk1 V c 5 t)
    ∗ (∃ Y, ⌜((dat1 V c).toRRel marked1 (left1 V c)).Finds 6 t Y⌝ ∗ owns (c : Thread nD τ) (st1_6 t) fullShare Y)
    ∗ (∃ Y, ⌜((dat1 V c).toRRel marked1 (left1 V c)).Finds 7 t Y⌝ ∗ owns (c : Thread nD τ) (st1_7 t) fullShare Y))

/-- What the body leaves at a point. -/
def post1 (c : Dev nD) (t : Fin cfg1.N) : sProp 𝕄 :=
  iprop(inv1 V c (t.val + 1) ∗ (dat1 V c).owesAt () t.castSucc
    ∗ owns (c : Thread nD τ) (st1_0 t) fullShare (blk1 V c 0 t)
    ∗ owns (c : Thread nD τ) (st1_1 t) fullShare (blk1 V c 1 t)
    ∗ owns (c : Thread nD τ) (st1_2 t) fullShare (blk1 V c 2 t)
    ∗ owns (c : Thread nD τ) (st1_3 t) fullShare (blk1 V c 3 t)
    ∗ owns (c : Thread nD τ) (st1_4 t) fullShare (blk1 V c 4 t)
    ∗ owns (c : Thread nD τ) (st1_5 t) fullShare (blk1 V c 5 t)
    ∗ (∃ X, ⌜left1 V c 6 t X⌝ ∗ owns (c : Thread nD τ) (st1_6 t) fullShare X)
    ∗ (∃ X, ⌜left1 V c 7 t X⌝ ∗ owns (c : Thread nD τ) (st1_7 t) fullShare X))

/-- A result neither stored nor written back keeps what it held. -/
theorem keep1_6 (c : Dev nD) (t t' : Fin cfg1.N) (ht : t.val = t'.val + 1) (hn : t.val < 8) (Y : (cfg1.win 6).block.Idx → Elt F (cfg1.win 6).elt)
    (hY : ((dat1 V c).toRRel marked1 (left1 V c)).Finds 6 t Y) : left1 V c 6 t' Y :=
  Carry.finds_prev (dat1 V c) (w := 6) rfl ht rfl (Bool.eq_false_iff.mpr fun h => by have := (flush1_6 t').mp h; omega) hY

/-- The conditions of the body's branches, by point number. -/
theorem cond1_1 (t : Fin cfg1.N) : k1_cond1 (grid1.coords t) = 1#1 ↔ t.val < 2 := by
  rcases fin_N1 t with rfl | rfl | rfl | rfl | rfl | rfl | rfl | rfl <;> decide
theorem cond1_2 (t : Fin cfg1.N) : k1_cond2 (grid1.coords t) = 1#1 ↔ 2 ≤ t.val := by
  rcases fin_N1 t with rfl | rfl | rfl | rfl | rfl | rfl | rfl | rfl <;> decide
theorem cond1_3 (t : Fin cfg1.N) : k1_cond3 (grid1.coords t) = 1#1 ↔ t.val = 2 := by
  rcases fin_N1 t with rfl | rfl | rfl | rfl | rfl | rfl | rfl | rfl <;> decide
theorem cond1_4 (t : Fin cfg1.N) : k1_cond4 (grid1.coords t) = 1#1 ↔ t.val = 7 := by
  rcases fin_N1 t with rfl | rfl | rfl | rfl | rfl | rfl | rfl | rfl <;> decide

/-- Where the body stores, by point number. -/
theorem off1_1 (t : Fin cfg1.N) (h : t.val < 2) : k1_off1 (grid1.coords t) = ![512 * t.val, 0] := by
  revert h; rcases fin_N1 t with rfl | rfl | rfl | rfl | rfl | rfl | rfl | rfl <;> decide
theorem off1_2 (t : Fin cfg1.N) (h : t.val < 2) : k1_off2 (grid1.coords t) = ![512 * t.val, 0] := by
  revert h; rcases fin_N1 t with rfl | rfl | rfl | rfl | rfl | rfl | rfl | rfl <;> decide
theorem off1_3 (t : Fin cfg1.N) (h : 2 ≤ t.val) : k1_off3 (grid1.coords t) = ![512 * (t.val - 2), 0] := by
  revert h; rcases fin_N1 t with rfl | rfl | rfl | rfl | rfl | rfl | rfl | rfl <;> decide
theorem off1_4 (t : Fin cfg1.N) (h : 2 ≤ t.val) : k1_off4 (grid1.coords t) = ![512 * (t.val - 2), 0] := by
  revert h; rcases fin_N1 t with rfl | rfl | rfl | rfl | rfl | rfl | rfl | rfl <;> decide

set_option maxHeartbeats 1000000 in
/-- The body at a point of the first phase. -/
theorem point1_A (c : Dev nD) (t : Fin cfg1.N) (ht : t.val < 2) :
    pre1 V c t ⊢ wp frame (wpE (defs₀ (F := F)) Variants.none c none) Set.univ (bodyAt1 t) (fun _ => post1 V c t) := by
  unfold pre1 post1 bodyAt1 inv1
  iintro ⟨⟨%z0, %z1, %z2, %z3, %z4, %hz, S0, S1, S2, S3, S4, HR⟩, HO, H0, H1, H2, H3, H4, H5, ⟨%Y6, %p6, H6⟩, ⟨%Y7, %p7, H7⟩⟩
  obtain ⟨hz0, hz1, hz2, hz3, hz4⟩ := hz
  rw [show min t.val 2 = t.val by omega] at hz0 hz2
  rw [show t.val - 2 = 0 by omega] at hz1 hz3
  have a0 := hz0.put (w := k1_pay2 (blk1 V c 0 t)) (by decide) (off1_1 t ht) (by rw [pt1_eq t t.val rfl])
  have a2 := hz2.put (w := k1_pay3 (blk1 V c 0 t) (blk1 V c 2 t)) (by decide) (off1_2 t ht) (by rw [pt1_eq t t.val rfl])
  rw [show t.val + 1 = min (t.val + 1) 2 by omega] at a0 a2
  rw [show 0 = t.val + 1 - 2 by omega] at hz1 hz3
  iapply (run1_A c (grid1.coords t) _ _ _ _ _ _ _ _ _ _ _ _ _ _ _ _ _ _ _ _ _ _ _ _ _ _ ((cond1_1 t).mpr (by omega)) (mt (cond1_2 t).mp (by omega)) (mt (cond1_3 t).mp (by omega)) (mt (cond1_4 t).mp (by omega)) _ (blk1 V c 0 t) (blk1 V c 2 t) z0 z2)
  isplitl [H0]; · iexact H0
  isplitl [H2]; · iexact H2
  isplitl [S0]; · iexact S0
  isplitl [S2]; · iexact S2
  iintro ⟨H0, H2, S0, S2⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨a0, hz1, a2, hz3, trivial⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact fun h => absurd h (by omega)
  · iexists _; isplitr; swap; (· iexact H7); ipureintro; exact fun h => absurd h (by omega)

set_option maxHeartbeats 1000000 in
/-- The body at the first point of the second phase. -/
theorem point1_C (c : Dev nD) (t : Fin cfg1.N) (ht : t.val = 2) :
    pre1 V c t ⊢ wp frame (wpE (defs₀ (F := F)) Variants.none c none) Set.univ (bodyAt1 t) (fun _ => post1 V c t) := by
  unfold pre1 post1 bodyAt1 inv1
  iintro ⟨⟨%z0, %z1, %z2, %z3, %z4, %hz, S0, S1, S2, S3, S4, HR⟩, HO, H0, H1, H2, H3, H4, H5, ⟨%Y6, %p6, H6⟩, ⟨%Y7, %p7, H7⟩⟩
  obtain ⟨hz0, hz1, hz2, hz3, hz4⟩ := hz
  rw [show min t.val 2 = 2 by omega] at hz0 hz2
  have a1 := hz1.put (w := k1_pay5 (blk1 V c 1 t)) (by decide) (off1_3 t (by omega)) (by rw [pt1_eq t (t.val - 2 + 2) (by omega)])
  have a3 := hz3.put (w := k1_pay6 (blk1 V c 1 t) (blk1 V c 3 t)) (by decide) (off1_4 t (by omega)) (by rw [pt1_eq t (t.val - 2 + 2) (by omega)])
  rw [show t.val - 2 + 1 = t.val + 1 - 2 by omega] at a1 a3
  have e0 : z0 = matS V c := hz0.full (by decide)
  have e2 : z2 = oneS V c := hz2.full (by decide)
  rw [show 2 = min (t.val + 1) 2 by omega] at hz0 hz2
  iapply (run1_C c (grid1.coords t) _ _ _ _ _ _ _ _ _ _ _ _ _ _ _ _ _ _ _ _ _ _ _ _ _ _ (mt (cond1_1 t).mp (by omega)) ((cond1_2 t).mpr (by omega)) (fun _ => ⟨(cond1_3 t).mpr ht, mt (cond1_4 t).mp (by omega)⟩) _ (blk1 V c 2 t) (blk1 V c 4 t) z0 z2 (blk1 V c 1 t) (blk1 V c 3 t) z1 z3)
  isplitl [H1]; · iexact H1
  isplitl [H3]; · iexact H3
  isplitl [S1]; · iexact S1
  isplitl [S3]; · iexact S3
  isplitl [H2]; · iexact H2
  isplitl [H4]; · iexact H4
  isplitl [S0]; · iexact S0
  isplitl [S2]; · iexact S2
  isplitl [H6]; · iexists _; iexact H6
  isplitl [S4]; · iexists _; iexact S4
  iintro ⟨H1, H3, S1, S3, H2, H4, S0, S2, H6, ⟨%z4, S4⟩⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨hz0, a1, hz2, a3, trivial⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact fun _ => by rw [e0, e2]; unfold outS; rw [pt1_eq t 2 ht]
  · iexists _; isplitr; swap; (· iexact H7); ipureintro; exact fun h => absurd h (by omega)

set_option maxHeartbeats 1000000 in
/-- The body at an inner point of the second phase. -/
theorem point1_B (c : Dev nD) (t : Fin cfg1.N) (ht : 2 < t.val) (ht7 : t.val < 7) :
    pre1 V c t ⊢ wp frame (wpE (defs₀ (F := F)) Variants.none c none) Set.univ (bodyAt1 t) (fun _ => post1 V c t) := by
  unfold pre1 post1 bodyAt1 inv1
  iintro ⟨⟨%z0, %z1, %z2, %z3, %z4, %hz, S0, S1, S2, S3, S4, HR⟩, HO, H0, H1, H2, H3, H4, H5, ⟨%Y6, %p6, H6⟩, ⟨%Y7, %p7, H7⟩⟩
  obtain ⟨hz0, hz1, hz2, hz3, hz4⟩ := hz
  rw [show min t.val 2 = 2 by omega] at hz0 hz2
  have a1 := hz1.put (w := k1_pay5 (blk1 V c 1 t)) (by decide) (off1_3 t (by omega)) (by rw [pt1_eq t (t.val - 2 + 2) (by omega)])
  have a3 := hz3.put (w := k1_pay6 (blk1 V c 1 t) (blk1 V c 3 t)) (by decide) (off1_4 t (by omega)) (by rw [pt1_eq t (t.val - 2 + 2) (by omega)])
  rw [show t.val - 2 + 1 = t.val + 1 - 2 by omega] at a1 a3
  rw [show 2 = min (t.val + 1) 2 by omega] at hz0 hz2
  have k6 := keep1_6 V c t ⟨t.val - 1, by omega⟩ (by show t.val = t.val - 1 + 1; omega) (lt_of_lt_of_eq t.isLt N_1) Y6 p6 (by show 2 ≤ t.val - 1; omega)
  iapply (run1_B c (grid1.coords t) _ _ _ _ _ _ _ _ _ _ _ _ _ _ _ _ _ _ _ _ _ _ _ _ _ _ (mt (cond1_1 t).mp (by omega)) ((cond1_2 t).mpr (by omega)) (mt (cond1_3 t).mp (by omega)) (mt (cond1_4 t).mp (by omega)) _ (blk1 V c 1 t) (blk1 V c 3 t) z1 z3)
  isplitl [H1]; · iexact H1
  isplitl [H3]; · iexact H3
  isplitl [S1]; · iexact S1
  isplitl [S3]; · iexact S3
  iintro ⟨H1, H3, S1, S3⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨hz0, a1, hz2, a3, trivial⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact fun _ => k6
  · iexists _; isplitr; swap; (· iexact H7); ipureintro; exact fun h => absurd h (by omega)

set_option maxHeartbeats 1000000 in
/-- The body at the last point. -/
theorem point1_D (c : Dev nD) (t : Fin cfg1.N) (ht : t.val = 7) :
    pre1 V c t ⊢ wp frame (wpE (defs₀ (F := F)) Variants.none c none) Set.univ (bodyAt1 t) (fun _ => post1 V c t) := by
  unfold pre1 post1 bodyAt1 inv1
  iintro ⟨⟨%z0, %z1, %z2, %z3, %z4, %hz, S0, S1, S2, S3, S4, HR⟩, HO, H0, H1, H2, H3, H4, H5, ⟨%Y6, %p6, H6⟩, ⟨%Y7, %p7, H7⟩⟩
  obtain ⟨hz0, hz1, hz2, hz3, hz4⟩ := hz
  rw [show min t.val 2 = 2 by omega] at hz0 hz2
  have a1 := hz1.put (w := k1_pay5 (blk1 V c 1 t)) (by decide) (off1_3 t (by omega)) (by rw [pt1_eq t (t.val - 2 + 2) (by omega)])
  have a3 := hz3.put (w := k1_pay6 (blk1 V c 1 t) (blk1 V c 3 t)) (by decide) (off1_4 t (by omega)) (by rw [pt1_eq t (t.val - 2 + 2) (by omega)])
  rw [show t.val - 2 + 1 = t.val + 1 - 2 by omega] at a1 a3
  rw [show 2 = min (t.val + 1) 2 by omega] at hz0 hz2
  have k6 := keep1_6 V c t ⟨t.val - 1, by omega⟩ (by show t.val = t.val - 1 + 1; omega) (lt_of_lt_of_eq t.isLt N_1) Y6 p6 (by show 2 ≤ t.val - 1; omega)
  iapply (run1_D c (grid1.coords t) _ _ _ _ _ _ _ _ _ _ _ _ _ _ _ _ _ _ _ _ _ _ _ _ _ _ (mt (cond1_1 t).mp (by omega)) ((cond1_2 t).mpr (by omega)) (fun _ => ⟨mt (cond1_3 t).mp (by omega), (cond1_4 t).mpr ht⟩) _ (blk1 V c 5 t) (blk1 V c 1 t) (blk1 V c 3 t) z1 z3 (matD V c) (oneD V c) (a1.full (by omega)).symm (a3.full (by omega)).symm)
  isplitl [H1]; · iexact H1
  isplitl [H3]; · iexact H3
  isplitl [S1]; · iexact S1
  isplitl [S3]; · iexact S3
  isplitl [H5]; · iexact H5
  isplitl [H7]; · iexists _; iexact H7
  isplitl [S4]; · iexists _; iexact S4
  iintro ⟨H1, H3, S1, S3, H5, H7, ⟨%z4, S4⟩⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨hz0, Agree.refl _ _, hz2, Agree.refl _ _, trivial⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; (· iexact H6); ipureintro; exact fun _ => k6
  · iexists _; isplitr; swap; (· iexact H7); ipureintro; exact fun _ => by unfold outD; rw [pt1_eq t 7 ht]

/-- The body at every point. -/
theorem point1 (c : Dev nD) (t : Fin cfg1.N) :
    pre1 V c t ⊢ wp frame (wpE (defs₀ (F := F)) Variants.none c none) Set.univ (bodyAt1 t) (fun _ => post1 V c t) := by
  have h8 : t.val < 8 := lt_of_lt_of_eq t.isLt N_1
  by_cases h2 : t.val < 2
  · exact point1_A V c t h2
  by_cases h3 : t.val = 2
  · exact point1_C V c t h3
  by_cases h7 : t.val = 7
  · exact point1_D V c t h7
  exact point1_B V c t (by omega) (by omega)

/-- Operand 0's buffer holds its array's block. -/
theorem in1_0 (c : Dev nD) (t : Fin cfg1.N) : iprop(∃ d, owns (c : Thread nD τ) (st1_0 t) fullShare ((dat1 V c).before 0 t d))
    ⊢ (owns (c : Thread nD τ) (st1_0 t) fullShare (blk1 V c 0 t) : sProp 𝕄) :=
  before1 V c 0 rfl (fun _ => rfl) (fun _ _ _ => rfl) (fun _ => rfl) t fun _ => rfl
/-- Operand 1's buffer holds its array's block. -/
theorem in1_1 (c : Dev nD) (t : Fin cfg1.N) : iprop(∃ d, owns (c : Thread nD τ) (st1_1 t) fullShare ((dat1 V c).before 1 t d))
    ⊢ (owns (c : Thread nD τ) (st1_1 t) fullShare (blk1 V c 1 t) : sProp 𝕄) :=
  before1 V c 1 rfl (fun _ => rfl) (fun _ _ _ => rfl) (fun _ => rfl) t fun _ => rfl
/-- Operand 2's buffer holds its array's block. -/
theorem in1_2 (c : Dev nD) (t : Fin cfg1.N) : iprop(∃ d, owns (c : Thread nD τ) (st1_2 t) fullShare ((dat1 V c).before 2 t d))
    ⊢ (owns (c : Thread nD τ) (st1_2 t) fullShare (blk1 V c 2 t) : sProp 𝕄) :=
  before1 V c 2 rfl (fun _ => rfl) (fun _ _ _ => rfl) (fun _ => rfl) t fun _ => rfl
/-- Operand 3's buffer holds its array's block. -/
theorem in1_3 (c : Dev nD) (t : Fin cfg1.N) : iprop(∃ d, owns (c : Thread nD τ) (st1_3 t) fullShare ((dat1 V c).before 3 t d))
    ⊢ (owns (c : Thread nD τ) (st1_3 t) fullShare (blk1 V c 3 t) : sProp 𝕄) :=
  before1 V c 3 rfl (fun _ => rfl) (fun _ _ _ => rfl) (fun _ => rfl) t fun _ => rfl
/-- Operand 4's buffer holds its array's block. -/
theorem in1_4 (c : Dev nD) (t : Fin cfg1.N) : iprop(∃ d, owns (c : Thread nD τ) (st1_4 t) fullShare ((dat1 V c).before 4 t d))
    ⊢ (owns (c : Thread nD τ) (st1_4 t) fullShare (blk1 V c 4 t) : sProp 𝕄) :=
  before1 V c 4 rfl (fun _ => rfl) (fun _ _ _ => rfl) (fun _ => rfl) t fun _ => rfl
/-- Operand 5's buffer holds its array's block. -/
theorem in1_5 (c : Dev nD) (t : Fin cfg1.N) : iprop(∃ d, owns (c : Thread nD τ) (st1_5 t) fullShare ((dat1 V c).before 5 t d))
    ⊢ (owns (c : Thread nD τ) (st1_5 t) fullShare (blk1 V c 5 t) : sProp 𝕄) :=
  before1 V c 5 rfl (fun _ => rfl) (fun _ _ _ => rfl) (fun _ => rfl) t fun _ => rfl

/-- The library's body obligation for the second call. -/
theorem obligation1 (c : Dev nD) : BodyObligationRel (dat1 V c) (defs₀ (F := F)) Variants.none () Set.univ marked1 (left1 V c) := fun t => by
  rw [bigSep_W1, bigSep_W1]
  refine triple_restated (point1 V c t) (by unfold defs₀; rw [Defs.onTc_tc]) ?_ fun _ => .rfl
  unfold pre1
  refine Laws.sep_mono .rfl (Laws.sep_mono .rfl ?_)
  exact Laws.sep_mono (in1_0 V c t) (Laws.sep_mono (in1_1 V c t) (Laws.sep_mono (in1_2 V c t) (Laws.sep_mono (in1_3 V c t) (Laws.sep_mono (in1_4 V c t) (Laws.sep_mono (in1_5 V c t) (.rfl))))))

end Cert.KernelIdeal.Hand
-- ==== Proof.Body2.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Rows

variable {F : FTy → Type} [FloatOps F]

local notation "𝕄" => MT nD τ sig Unit (Elt F) ℕ (Pipeline.UD sig nD τ) ℕ

/-- Slab `k` of 512 rows of the second hop of the upper matrix. -/
def hopU (Z10 : Vec F S3072x3072 .bf16) (Z12 : Vec F S3072x256 .bf16) (k : ℕ) : Vec F S512x256 .bf16 :=
  k2_pay38 (k2_pay7 (slabTile Z10 k 0 512) (tile Z12 0 0 512 256) (slabTile Z10 k 512 512) (tile Z12 512 0 512 256) (slabTile Z10 k 1024 512) (tile Z12 1024 0 512 256) (slabTile Z10 k 1536 512) (tile Z12 1536 0 512 256) (slabTile Z10 k 2048 512) (tile Z12 2048 0 512 256) (slabTile Z10 k 2560 512) (tile Z12 2560 0 512 256))

/-- Slab `k` of 512 rows of the middle result: four weight slices times the input rows, the first, second and third hop, and the carried part. -/
def tailU (Z10 : Vec F S3072x3072 .bf16) (Z12 H x3 : Vec F S3072x256 .bf16) (x5 : Vec F S1024x128 .bf16) (x7 : Vec F S3072x128 .f32) (k : ℕ) : Vec F S512x128 .f32 :=
  k2_pay44 (k2_pay13 x5) (k2_pay14 (slabTile Z10 k 0 512) (tile H 0 0 512 256) (slabTile Z10 k 512 512) (tile H 512 0 512 256) (slabTile Z10 k 1024 512) (tile H 1024 0 512 256) (slabTile Z10 k 1536 512) (tile H 1536 0 512 256) (slabTile Z10 k 2048 512) (tile H 2048 0 512 256) (slabTile Z10 k 2560 512) (tile H 2560 0 512 256))
    (slabTile x3 k 0 256) (slabTile Z12 k 0 256) (slabTile H k 0 256) (slabTile x7 k 0 128)

/-- The slabs of 1024 rows of the second hop of the third matrix. -/
def hopLs (Z11 : Vec F S2048x2048 .bf16) (Z14 : Vec F S2048x256 .bf16) : ℕ → Vec F S1024x256 .bf16 :=
  three
    (k2_pay25 (tile Z11 0 0 1024 512) (tile Z14 0 0 512 256) (tile Z11 0 512 1024 512) (tile Z14 512 0 512 256) (tile Z11 0 1024 1024 512) (tile Z14 1024 0 512 256) (tile Z11 0 1536 1024 512) (tile Z14 1536 0 512 256))
    (k2_pay27 (k2_pay26 (tile Z11 1024 0 1024 512) (tile Z14 0 0 512 256)) (tile Z11 1024 512 1024 512) (tile Z14 512 0 512 256) (tile Z11 1024 1024 1024 512) (tile Z14 1024 0 512 256) (tile Z11 1024 1536 1024 512) (tile Z14 1536 0 512 256))
    (k2_pay25 (tile Z11 0 0 1024 512) (tile Z14 0 0 512 256) (tile Z11 0 512 1024 512) (tile Z14 512 0 512 256) (tile Z11 0 1024 1024 512) (tile Z14 1024 0 512 256) (tile Z11 0 1536 1024 512) (tile Z14 1536 0 512 256))

/-- The second hop of the third matrix, two slabs of 1024 rows. -/
def hopL (Z11 : Vec F S2048x2048 .bf16) (Z14 : Vec F S2048x256 .bf16) : Vec F S2048x256 .bf16 :=
  stack (n := 2048) (b := 1024) (m := 256) (by decide) (hopLs Z11 Z14)

/-- The last result, two slabs of 1024 rows: four weight slices times the input rows, the first, second and third hop. -/
def tailL (Z11 : Vec F S2048x2048 .bf16) (Z14 H x4 : Vec F S2048x256 .bf16) (x6 : Vec F S1024x128 .bf16) : Vec F S2048x128 .f32 :=
  stack (n := 2048) (b := 1024) (m := 128) (by decide) (three
    (k2_pay30 (k2_pay28 x6) (k2_pay29 (tile Z11 0 0 1024 512) (tile H 0 0 512 256) (tile Z11 0 512 1024 512) (tile H 512 0 512 256)) (tile Z11 0 1024 1024 512) (tile H 1024 0 512 256) (tile Z11 0 1536 1024 512) (tile H 1536 0 512 256) (tile x4 0 0 1024 256) (tile Z14 0 0 1024 256) (tile H 0 0 1024 256))
    (k2_pay6 (k2_pay28 x6) (k2_pay31 (tile Z11 1024 0 1024 512) (tile H 0 0 512 256)) (tile Z11 1024 512 1024 512) (tile H 512 0 512 256) (constant S1024x256 .f32 0x00000000#32) (tile Z11 1024 1024 1024 512) (tile H 1024 0 512 256) (tile Z11 1024 1536 1024 512) (tile H 1536 0 512 256)
      (tile x4 1024 0 1024 256) (tile Z14 1024 0 1024 256) (tile H 1024 0 1024 256))
    (k2_pay30 (k2_pay28 x6) (k2_pay29 (tile Z11 0 0 1024 512) (tile H 0 0 512 256) (tile Z11 0 512 1024 512) (tile H 512 0 512 256)) (tile Z11 0 1024 1024 512) (tile H 1024 0 512 256) (tile Z11 0 1536 1024 512) (tile H 1536 0 512 256) (tile x4 0 0 1024 256) (tile Z14 0 0 1024 256) (tile H 0 0 1024 256)))

theorem at2_1 (i : grid2.Coords) : k2_cond1 i = 1#1 ↔ (i 0).val < 6 := by
  unfold k2_cond1; generalize i 0 = a; revert a; decide

theorem at2_2 (i : grid2.Coords) : k2_cond2 i = 1#1 ↔ 6 ≤ (i 0).val ∧ (i 0).val < 22 := by
  unfold k2_cond2; generalize i 0 = a; revert a; decide

theorem at2_9 (i : grid2.Coords) : k2_cond9 i = 1#1 ↔ (i 0).val = 12 := by
  unfold k2_cond9; generalize i 0 = a; revert a; decide

theorem at2_10 (i : grid2.Coords) : k2_cond10 i = 1#1 ↔ (i 0).val = 13 := by
  unfold k2_cond10; generalize i 0 = a; revert a; decide

theorem at2_11 (i : grid2.Coords) : k2_cond11 i = 1#1 ↔ (i 0).val = 14 := by
  unfold k2_cond11; generalize i 0 = a; revert a; decide

theorem at2_12 (i : grid2.Coords) : k2_cond12 i = 1#1 ↔ (i 0).val = 15 := by
  unfold k2_cond12; generalize i 0 = a; revert a; decide

theorem at2_13 (i : grid2.Coords) : k2_cond13 i = 1#1 ↔ (i 0).val = 16 := by
  unfold k2_cond13; generalize i 0 = a; revert a; decide

theorem at2_14 (i : grid2.Coords) : k2_cond14 i = 1#1 ↔ (i 0).val = 17 := by
  unfold k2_cond14; generalize i 0 = a; revert a; decide

theorem at2_15 (i : grid2.Coords) : k2_cond15 i = 1#1 ↔ (i 0).val = 22 := by
  unfold k2_cond15; generalize i 0 = a; revert a; decide

/-- The unnamed tests of the second call compare the point with a number. -/
theorem at2_eq (i : grid2.Coords) (n : ℕ) (hn : n < 23) :
    Scalar.cmpi .ne (Scalar.extui (Scalar.cmpi .eq (BitVec.ofNat 32 (i 0).val) (BitVec.ofNat 32 n)) : BitVec 32) 0#32 = 1#1 ↔ (i 0).val = n := by
  have h : ∀ (a n : Fin 23), Scalar.cmpi .ne (Scalar.extui (Scalar.cmpi .eq (BitVec.ofNat 32 a.val) (BitVec.ofNat 32 n.val)) : BitVec 32) 0#32 = 1#1 ↔ a.val = n.val := by decide
  exact h (i 0) ⟨n, hn⟩

theorem at2_eq_of (i : grid2.Coords) (a : ℕ) (ha : (i 0).val = a) (n : ℕ) (hn : n < 23) :
    Scalar.cmpi .ne (Scalar.extui (Scalar.cmpi .eq (BitVec.ofNat 32 (i 0).val) (BitVec.ofNat 32 n)) : BitVec 32) 0#32 = 1#1 ↔ a = n := by
  rw [← ha]; exact at2_eq i n hn

variable (c : Dev nD) (i : grid2.Coords)
    (M1 : Memref sig .tc .vmem S512x3072 .f32) (h1 : M1.IsWhole)
    (M2 : Memref sig .tc .vmem S128x2048 .f32) (h2 : M2.IsWhole)
    (M3 : Memref sig .tc .vmem S3072x256 .bf16) (h3 : M3.IsWhole)
    (M4 : Memref sig .tc .vmem S2048x256 .bf16) (h4 : M4.IsWhole)
    (M5 : Memref sig .tc .vmem S1024x128 .bf16) (h5 : M5.IsWhole)
    (M6 : Memref sig .tc .vmem S1024x128 .bf16) (h6 : M6.IsWhole)
    (M7 : Memref sig .tc .vmem S3072x128 .f32) (h7 : M7.IsWhole)
    (M8 : Memref sig .tc .vmem S3072x128 .f32) (h8 : M8.IsWhole)
    (M9 : Memref sig .tc .vmem S2048x128 .f32) (h9 : M9.IsWhole)
    (M10 : Memref sig .tc .vmem S3072x3072 .bf16) (h10 : M10.IsWhole)
    (M11 : Memref sig .tc .vmem S2048x2048 .bf16) (h11 : M11.IsWhole)
    (M12 : Memref sig .tc .vmem S3072x256 .bf16) (h12 : M12.IsWhole)
    (M13 : Memref sig .tc .vmem S3072x256 .bf16) (h13 : M13.IsWhole)
    (M14 : Memref sig .tc .vmem S2048x256 .bf16) (h14 : M14.IsWhole)

set_option maxHeartbeats 4000000 in
/-- A point of the first phase: 512 rows of the upper bf16 matrix and of its product are stored. -/
theorem run2_A (hs : (i 0).val < 6)
    (K : PUnit → sProp 𝕄) (x1 : Vec F S512x3072 .f32) (x3 : Vec F S3072x256 .bf16) (y10 : Vec F S3072x3072 .bf16) (y12 : Vec F S3072x256 .bf16) :
    iprop(owns (c : Thread nD τ) M1 fullShare x1 ∗ owns (c : Thread nD τ) M3 fullShare x3 ∗ owns (c : Thread nD τ) M10 fullShare y10 ∗ owns (c : Thread nD τ) M12 fullShare y12
        ∗ (iprop(owns (c : Thread nD τ) M1 fullShare x1 ∗ owns (c : Thread nD τ) M3 fullShare x3 ∗ owns (c : Thread nD τ) M10 fullShare (VecWindow.put y10 (k2_off1 i) S512x3072.size (k2_pay33 x1)) ∗ owns (c : Thread nD τ) M12 fullShare (VecWindow.put y12 (k2_off2 i) S512x256.size (k2_pay34 x1 x3))) -∗ K ⟨⟩))
      ⊢ wp frame (wpE (defs₀ (F := F)) Variants.none c none) Set.univ (cc2__k2_body i M1 h1 M2 h2 M3 h3 M4 h4 M5 h5 M6 h6 M7 h7 M8 h8 M9 h9 M10 h10 M11 h11 M12 h12 M13 h13 M14 h14) K := by
  have c1 := at2_1 i
  have c2 := at2_2 i
  have c9 := at2_9 i
  have c10 := at2_10 i
  have c11 := at2_11 i
  have c12 := at2_12 i
  have c13 := at2_13 i
  have c14 := at2_14 i
  have c15 := at2_15 i
  have u6 := at2_eq i 6 (by decide)
  have u7 := at2_eq i 7 (by decide)
  have u8 := at2_eq i 8 (by decide)
  have u9 := at2_eq i 9 (by decide)
  have u10 := at2_eq i 10 (by decide)
  have u11 := at2_eq i 11 (by decide)
  simp only [cc2__k2_body_eq_skeleton]; unfold cc2__k2_body_skel
  unfold owns
  iintro ⟨⟨%f1, %e1, H1⟩, ⟨%f3, %e3, H3⟩, ⟨%f10, %e10, H10⟩, ⟨%f12, %e12, H12⟩, Hk⟩
  replace c1 := c1.mpr (by omega)
  replace c2 := mt c2.mp (by omega)
  replace c9 := mt c9.mp (by omega)
  replace c10 := mt c10.mp (by omega)
  replace c11 := mt c11.mp (by omega)
  replace c12 := mt c12.mp (by omega)
  replace c13 := mt c13.mp (by omega)
  replace c14 := mt c14.mp (by omega)
  replace c15 := mt c15.mp (by omega)
  replace u6 := mt u6.mp (show ¬ (i 0).val = 6 by omega)
  replace u7 := mt u7.mp (show ¬ (i 0).val = 7 by omega)
  replace u8 := mt u8.mp (show ¬ (i 0).val = 8 by omega)
  replace u9 := mt u9.mp (show ¬ (i 0).val = 9 by omega)
  replace u10 := mt u10.mp (show ¬ (i 0).val = 10 by omega)
  replace u11 := mt u11.mp (show ¬ (i 0).val = 11 by omega)
  sl_exec_parts
  sl_unfold_run_names
  sl_step
  iapply Hk
  isplitl [H1]; · iexists _; isplitr; swap; (· iexact H1); ipureintro; exact e1
  isplitl [H3]; · iexists _; isplitr; swap; (· iexact H3); ipureintro; exact e3
  isplitl [H10]
  · iexists _; isplitr; swap; (· iexact H10); ipureintro
    subst e1 e3 e10 e12
    rw [View.read_writes_cons_put _ _ _ _ _ rfl, View.writes_nil]
    simp only [readAt_whole]
  · iexists _; isplitr; swap; (· iexact H12); ipureintro
    subst e1 e3 e10 e12
    rw [View.read_writes_cons_put _ _ _ _ _ rfl, View.writes_nil]
    simp only [readAt_whole]

set_option maxHeartbeats 4000000 in
/-- A point of the second phase at which nothing else happens: 128 rows of the third bf16 matrix and of its product are stored. -/
theorem run2_N (hs : 18 ≤ (i 0).val ∧ (i 0).val < 22)
    (K : PUnit → sProp 𝕄) (x2 : Vec F S128x2048 .f32) (x4 : Vec F S2048x256 .bf16) (y11 : Vec F S2048x2048 .bf16) (y14 : Vec F S2048x256 .bf16) :
    iprop(owns (c : Thread nD τ) M2 fullShare x2 ∗ owns (c : Thread nD τ) M4 fullShare x4 ∗ owns (c : Thread nD τ) M11 fullShare y11 ∗ owns (c : Thread nD τ) M14 fullShare y14
        ∗ (iprop(owns (c : Thread nD τ) M2 fullShare x2 ∗ owns (c : Thread nD τ) M4 fullShare x4 ∗ owns (c : Thread nD τ) M11 fullShare (VecWindow.put y11 (k2_off3 i) S128x2048.size (k2_pay36 x2)) ∗ owns (c : Thread nD τ) M14 fullShare (VecWindow.put y14 (k2_off4 i) S128x256.size (k2_pay37 x2 x4))) -∗ K ⟨⟩))
      ⊢ wp frame (wpE (defs₀ (F := F)) Variants.none c none) Set.univ (cc2__k2_body i M1 h1 M2 h2 M3 h3 M4 h4 M5 h5 M6 h6 M7 h7 M8 h8 M9 h9 M10 h10 M11 h11 M12 h12 M13 h13 M14 h14) K := by
  have c1 := at2_1 i
  have c2 := at2_2 i
  have c9 := at2_9 i
  have c10 := at2_10 i
  have c11 := at2_11 i
  have c12 := at2_12 i
  have c13 := at2_13 i
  have c14 := at2_14 i
  have c15 := at2_15 i
  have u6 := at2_eq i 6 (by decide)
  have u7 := at2_eq i 7 (by decide)
  have u8 := at2_eq i 8 (by decide)
  have u9 := at2_eq i 9 (by decide)
  have u10 := at2_eq i 10 (by decide)
  have u11 := at2_eq i 11 (by decide)
  simp only [cc2__k2_body_eq_skeleton]; unfold cc2__k2_body_skel
  unfold owns
  iintro ⟨⟨%f2, %e2, H2⟩, ⟨%f4, %e4, H4⟩, ⟨%f11, %e11, H11⟩, ⟨%f14, %e14, H14⟩, Hk⟩
  replace c1 := mt c1.mp (by omega)
  replace c2 := c2.mpr (by omega)
  replace c9 := mt c9.mp (by omega)
  replace c10 := mt c10.mp (by omega)
  replace c11 := mt c11.mp (by omega)
  replace c12 := mt c12.mp (by omega)
  replace c13 := mt c13.mp (by omega)
  replace c14 := mt c14.mp (by omega)
  replace c15 := mt c15.mp (by omega)
  replace u6 := mt u6.mp (show ¬ (i 0).val = 6 by omega)
  replace u7 := mt u7.mp (show ¬ (i 0).val = 7 by omega)
  replace u8 := mt u8.mp (show ¬ (i 0).val = 8 by omega)
  replace u9 := mt u9.mp (show ¬ (i 0).val = 9 by omega)
  replace u10 := mt u10.mp (show ¬ (i 0).val = 10 by omega)
  replace u11 := mt u11.mp (show ¬ (i 0).val = 11 by omega)
  sl_exec_parts
  sl_unfold_run_names
  sl_step
  iapply Hk
  isplitl [H2]; · iexists _; isplitr; swap; (· iexact H2); ipureintro; exact e2
  isplitl [H4]; · iexists _; isplitr; swap; (· iexact H4); ipureintro; exact e4
  isplitl [H11]
  · iexists _; isplitr; swap; (· iexact H11); ipureintro
    subst e2 e4 e11 e14
    rw [View.read_writes_cons_put _ _ _ _ _ rfl, View.writes_nil]
    simp only [readAt_whole]
  · iexists _; isplitr; swap; (· iexact H14); ipureintro
    subst e2 e4 e11 e14
    rw [View.read_writes_cons_put _ _ _ _ _ rfl, View.writes_nil]
    simp only [readAt_whole]

set_option maxHeartbeats 4000000 in
/-- The last point: the last result is computed from the third matrix. -/
theorem run2_L (hs : (i 0).val = 22)
    (K : PUnit → sProp 𝕄) (x4 : Vec F S2048x256 .bf16) (x6 : Vec F S1024x128 .bf16) (y11 : Vec F S2048x2048 .bf16) (y14 : Vec F S2048x256 .bf16) :
    iprop(owns (c : Thread nD τ) M4 fullShare x4 ∗ owns (c : Thread nD τ) M6 fullShare x6 ∗ owns (c : Thread nD τ) M11 fullShare y11 ∗ owns (c : Thread nD τ) M14 fullShare y14 ∗ (∃ d, owns (c : Thread nD τ) M9 fullShare d) ∗ (∃ d, owns (c : Thread nD τ) M13 fullShare d)
        ∗ (iprop(owns (c : Thread nD τ) M4 fullShare x4 ∗ owns (c : Thread nD τ) M6 fullShare x6 ∗ owns (c : Thread nD τ) M11 fullShare y11 ∗ owns (c : Thread nD τ) M14 fullShare y14 ∗ owns (c : Thread nD τ) M9 fullShare (tailL y11 y14 (hopL y11 y14) x4 x6) ∗ (∃ d, owns (c : Thread nD τ) M13 fullShare d)) -∗ K ⟨⟩))
      ⊢ wp frame (wpE (defs₀ (F := F)) Variants.none c none) Set.univ (cc2__k2_body i M1 h1 M2 h2 M3 h3 M4 h4 M5 h5 M6 h6 M7 h7 M8 h8 M9 h9 M10 h10 M11 h11 M12 h12 M13 h13 M14 h14) K := by
  have c1 := at2_1 i
  have c2 := at2_2 i
  have c9 := at2_9 i
  have c10 := at2_10 i
  have c11 := at2_11 i
  have c12 := at2_12 i
  have c13 := at2_13 i
  have c14 := at2_14 i
  have c15 := at2_15 i
  have u6 := at2_eq i 6 (by decide)
  have u7 := at2_eq i 7 (by decide)
  have u8 := at2_eq i 8 (by decide)
  have u9 := at2_eq i 9 (by decide)
  have u10 := at2_eq i 10 (by decide)
  have u11 := at2_eq i 11 (by decide)
  simp only [cc2__k2_body_eq_skeleton]; unfold cc2__k2_body_skel
  unfold owns
  iintro ⟨⟨%f4, %e4, H4⟩, ⟨%f6, %e6, H6⟩, ⟨%f11, %e11, H11⟩, ⟨%f14, %e14, H14⟩, ⟨%d9, %f9, -, H9⟩, ⟨%d13, %f13, -, H13⟩, Hk⟩
  replace c1 := mt c1.mp (by omega)
  replace c2 := mt c2.mp (by omega)
  replace c9 := mt c9.mp (by omega)
  replace c10 := mt c10.mp (by omega)
  replace c11 := mt c11.mp (by omega)
  replace c12 := mt c12.mp (by omega)
  replace c13 := mt c13.mp (by omega)
  replace c14 := mt c14.mp (by omega)
  replace c15 := c15.mpr (by omega)
  replace u6 := mt u6.mp (show ¬ (i 0).val = 6 by omega)
  replace u7 := mt u7.mp (show ¬ (i 0).val = 7 by omega)
  replace u8 := mt u8.mp (show ¬ (i 0).val = 8 by omega)
  replace u9 := mt u9.mp (show ¬ (i 0).val = 9 by omega)
  replace u10 := mt u10.mp (show ¬ (i 0).val = 10 by omega)
  replace u11 := mt u11.mp (show ¬ (i 0).val = 11 by omega)
  sl_exec_parts
  sl_unfold_run_names
  sl_step
  iapply Hk
  isplitl [H4]; · iexists _; isplitr; swap; (· iexact H4); ipureintro; exact e4
  isplitl [H6]; · iexists _; isplitr; swap; (· iexact H6); ipureintro; exact e6
  isplitl [H11]; · iexists _; isplitr; swap; (· iexact H11); ipureintro; exact e11
  isplitl [H14]; · iexists _; isplitr; swap; (· iexact H14); ipureintro; exact e14
  isplitl [H9]
  · iexists _; isplitr; swap; (· iexact H9); ipureintro
    subst e4 e6 e11 e14
    simp only [readAt_whole, View.readCov_eq_canon']
    generalize hL : View.canon (Val := Elt F) (s := S3072x256) (e := .bf16) (_ :: _) = Hc
    have hH : Agree 2048 Hc (stack (n := 3072) (b := 1024) (m := 256) (by decide) (hopLs (M11.view.read (Elt F) f11) (M14.view.read (Elt F) f14))) := by
      rw [← hL, canon_cons_put, canon_cons_put]
      exact agree_put_two (b := 1024) (by decide) _ (hopLs _ _) rfl rfl
    clear hL
    have hb : ∀ a, S2048x256.size a ≤ S3072x256.size a := by decide
    have hG : (fun y => Hc (fun a => ⟨(y a).val, lt_of_lt_of_le (y a).isLt (hb a)⟩) : Vec F S2048x256 .bf16) = hopL (M11.view.read (Elt F) f11) (M14.view.read (Elt F) f14) := by
      funext y
      exact hH _ (y 0).isLt
    rw [← hG]
    simp only [View.read_writes_cons_put _ _ _ _ _ rfl]
    exact put_two (b := 1024) (by decide) (M9.view.read (Elt F) f9) (three _ _ _) rfl rfl (by decide)
  · iexists _; iexists _; isplitr; swap; (· iexact H13); ipureintro; rfl

end Cert.KernelIdeal.Hand
-- ==== Proof.Body2H.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Body2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Rows

variable {F : FTy → Type} [FloatOps F]

local notation "𝕄" => MT nD τ sig Unit (Elt F) ℕ (Pipeline.UD sig nD τ) ℕ

variable (c : Dev nD) (i : grid2.Coords)
    (M1 : Memref sig .tc .vmem S512x3072 .f32) (h1 : M1.IsWhole)
    (M2 : Memref sig .tc .vmem S128x2048 .f32) (h2 : M2.IsWhole)
    (M3 : Memref sig .tc .vmem S3072x256 .bf16) (h3 : M3.IsWhole)
    (M4 : Memref sig .tc .vmem S2048x256 .bf16) (h4 : M4.IsWhole)
    (M5 : Memref sig .tc .vmem S1024x128 .bf16) (h5 : M5.IsWhole)
    (M6 : Memref sig .tc .vmem S1024x128 .bf16) (h6 : M6.IsWhole)
    (M7 : Memref sig .tc .vmem S3072x128 .f32) (h7 : M7.IsWhole)
    (M8 : Memref sig .tc .vmem S3072x128 .f32) (h8 : M8.IsWhole)
    (M9 : Memref sig .tc .vmem S2048x128 .f32) (h9 : M9.IsWhole)
    (M10 : Memref sig .tc .vmem S3072x3072 .bf16) (h10 : M10.IsWhole)
    (M11 : Memref sig .tc .vmem S2048x2048 .bf16) (h11 : M11.IsWhole)
    (M12 : Memref sig .tc .vmem S3072x256 .bf16) (h12 : M12.IsWhole)
    (M13 : Memref sig .tc .vmem S3072x256 .bf16) (h13 : M13.IsWhole)
    (M14 : Memref sig .tc .vmem S2048x256 .bf16) (h14 : M14.IsWhole)

set_option maxHeartbeats 4000000 in
/-- A point of the second phase that also stores a slab of the second hop of the upper matrix. -/
theorem run2_H (j : ℕ) (hj : j < 6) (hs : (i 0).val = 6 + j)
    (K : PUnit → sProp 𝕄) (x2 : Vec F S128x2048 .f32) (x4 : Vec F S2048x256 .bf16) (y10 : Vec F S3072x3072 .bf16) (y12 : Vec F S3072x256 .bf16) (y11 : Vec F S2048x2048 .bf16) (y14 : Vec F S2048x256 .bf16) (y13 : Vec F S3072x256 .bf16) :
    iprop(owns (c : Thread nD τ) M2 fullShare x2 ∗ owns (c : Thread nD τ) M4 fullShare x4 ∗ owns (c : Thread nD τ) M10 fullShare y10 ∗ owns (c : Thread nD τ) M12 fullShare y12 ∗ owns (c : Thread nD τ) M11 fullShare y11 ∗ owns (c : Thread nD τ) M14 fullShare y14 ∗ owns (c : Thread nD τ) M13 fullShare y13
        ∗ (iprop(owns (c : Thread nD τ) M2 fullShare x2 ∗ owns (c : Thread nD τ) M4 fullShare x4 ∗ owns (c : Thread nD τ) M10 fullShare y10 ∗ owns (c : Thread nD τ) M12 fullShare y12 ∗ owns (c : Thread nD τ) M11 fullShare (VecWindow.put y11 (k2_off3 i) S128x2048.size (k2_pay36 x2)) ∗ owns (c : Thread nD τ) M14 fullShare (VecWindow.put y14 (k2_off4 i) S128x256.size (k2_pay37 x2 x4)) ∗ owns (c : Thread nD τ) M13 fullShare (VecWindow.put y13 (![512 * j, 0]) S512x256.size (hopU y10 y12 j))) -∗ K ⟨⟩))
      ⊢ wp frame (wpE (defs₀ (F := F)) Variants.none c none) Set.univ (cc2__k2_body i M1 h1 M2 h2 M3 h3 M4 h4 M5 h5 M6 h6 M7 h7 M8 h8 M9 h9 M10 h10 M11 h11 M12 h12 M13 h13 M14 h14) K := by
  have c1 := at2_1 i
  have c2 := at2_2 i
  have c9 := at2_9 i
  have c10 := at2_10 i
  have c11 := at2_11 i
  have c12 := at2_12 i
  have c13 := at2_13 i
  have c14 := at2_14 i
  have c15 := at2_15 i
  have u6 := at2_eq_of i (6 + j) hs 6 (by decide)
  have u7 := at2_eq_of i (6 + j) hs 7 (by decide)
  have u8 := at2_eq_of i (6 + j) hs 8 (by decide)
  have u9 := at2_eq_of i (6 + j) hs 9 (by decide)
  have u10 := at2_eq_of i (6 + j) hs 10 (by decide)
  have u11 := at2_eq_of i (6 + j) hs 11 (by decide)
  simp only [cc2__k2_body_eq_skeleton]; unfold cc2__k2_body_skel
  unfold owns
  iintro ⟨⟨%f2, %e2, H2⟩, ⟨%f4, %e4, H4⟩, ⟨%f10, %e10, H10⟩, ⟨%f12, %e12, H12⟩, ⟨%f11, %e11, H11⟩, ⟨%f14, %e14, H14⟩, ⟨%f13, %e13, H13⟩, Hk⟩
  interval_cases j <;> simp only [hs, Nat.reduceAdd, Nat.reduceEqDiff, Nat.reduceLT, Nat.reduceLeDiff, and_true, and_false, and_self, iff_true, iff_false] at c1 c2 c9 c10 c11 c12 c13 c14 c15 <;>
  simp only [Nat.reduceAdd, Nat.reduceEqDiff, Nat.reduceLT, Nat.reduceLeDiff, and_true, and_false, and_self, iff_true, iff_false] at u6 u7 u8 u9 u10 u11 <;>
  (sl_exec_parts
   sl_unfold_run_names
   sl_step
   iapply Hk
   isplitl [H2]; · iexists _; isplitr; swap; (· iexact H2); ipureintro; exact e2
   isplitl [H4]; · iexists _; isplitr; swap; (· iexact H4); ipureintro; exact e4
   isplitl [H10]; · iexists _; isplitr; swap; (· iexact H10); ipureintro; exact e10
   isplitl [H12]; · iexists _; isplitr; swap; (· iexact H12); ipureintro; exact e12
   isplitl [H11]
   · iexists _; isplitr; swap; (· iexact H11); ipureintro
     subst e2 e4 e10 e12 e11 e14 e13
     rw [View.read_writes_cons_put _ _ _ _ _ rfl, View.writes_nil]
     simp only [readAt_whole]
   isplitl [H14]
   · iexists _; isplitr; swap; (· iexact H14); ipureintro
     subst e2 e4 e10 e12 e11 e14 e13
     rw [View.read_writes_cons_put _ _ _ _ _ rfl, View.writes_nil]
     simp only [readAt_whole]
   · iexists _; isplitr; swap; (· iexact H13); ipureintro
     subst e2 e4 e10 e12 e11 e14 e13
     rw [View.read_writes_cons_put _ _ _ _ _ rfl, View.writes_nil]
     rfl)

end Cert.KernelIdeal.Hand
-- ==== Proof.Body2T.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Body2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Rows

variable {F : FTy → Type} [FloatOps F]

local notation "𝕄" => MT nD τ sig Unit (Elt F) ℕ (Pipeline.UD sig nD τ) ℕ

variable (c : Dev nD) (i : grid2.Coords)
    (M1 : Memref sig .tc .vmem S512x3072 .f32) (h1 : M1.IsWhole)
    (M2 : Memref sig .tc .vmem S128x2048 .f32) (h2 : M2.IsWhole)
    (M3 : Memref sig .tc .vmem S3072x256 .bf16) (h3 : M3.IsWhole)
    (M4 : Memref sig .tc .vmem S2048x256 .bf16) (h4 : M4.IsWhole)
    (M5 : Memref sig .tc .vmem S1024x128 .bf16) (h5 : M5.IsWhole)
    (M6 : Memref sig .tc .vmem S1024x128 .bf16) (h6 : M6.IsWhole)
    (M7 : Memref sig .tc .vmem S3072x128 .f32) (h7 : M7.IsWhole)
    (M8 : Memref sig .tc .vmem S3072x128 .f32) (h8 : M8.IsWhole)
    (M9 : Memref sig .tc .vmem S2048x128 .f32) (h9 : M9.IsWhole)
    (M10 : Memref sig .tc .vmem S3072x3072 .bf16) (h10 : M10.IsWhole)
    (M11 : Memref sig .tc .vmem S2048x2048 .bf16) (h11 : M11.IsWhole)
    (M12 : Memref sig .tc .vmem S3072x256 .bf16) (h12 : M12.IsWhole)
    (M13 : Memref sig .tc .vmem S3072x256 .bf16) (h13 : M13.IsWhole)
    (M14 : Memref sig .tc .vmem S2048x256 .bf16) (h14 : M14.IsWhole)

set_option maxHeartbeats 4000000 in
/-- A point of the second phase that also stores a slab of the middle result. -/
theorem run2_T (j : ℕ) (hj : j < 6) (hs : (i 0).val = 12 + j)
    (K : PUnit → sProp 𝕄) (x2 : Vec F S128x2048 .f32) (x4 : Vec F S2048x256 .bf16) (x3 : Vec F S3072x256 .bf16) (x5 : Vec F S1024x128 .bf16) (x7 : Vec F S3072x128 .f32) (y10 : Vec F S3072x3072 .bf16) (y12 : Vec F S3072x256 .bf16) (y13 : Vec F S3072x256 .bf16) (y11 : Vec F S2048x2048 .bf16) (y14 : Vec F S2048x256 .bf16) (y8 : Vec F S3072x128 .f32) :
    iprop(owns (c : Thread nD τ) M2 fullShare x2 ∗ owns (c : Thread nD τ) M4 fullShare x4 ∗ owns (c : Thread nD τ) M3 fullShare x3 ∗ owns (c : Thread nD τ) M5 fullShare x5 ∗ owns (c : Thread nD τ) M7 fullShare x7 ∗ owns (c : Thread nD τ) M10 fullShare y10 ∗ owns (c : Thread nD τ) M12 fullShare y12 ∗ owns (c : Thread nD τ) M13 fullShare y13 ∗ owns (c : Thread nD τ) M11 fullShare y11 ∗ owns (c : Thread nD τ) M14 fullShare y14 ∗ owns (c : Thread nD τ) M8 fullShare y8
        ∗ (iprop(owns (c : Thread nD τ) M2 fullShare x2 ∗ owns (c : Thread nD τ) M4 fullShare x4 ∗ owns (c : Thread nD τ) M3 fullShare x3 ∗ owns (c : Thread nD τ) M5 fullShare x5 ∗ owns (c : Thread nD τ) M7 fullShare x7 ∗ owns (c : Thread nD τ) M10 fullShare y10 ∗ owns (c : Thread nD τ) M12 fullShare y12 ∗ owns (c : Thread nD τ) M13 fullShare y13 ∗ owns (c : Thread nD τ) M11 fullShare (VecWindow.put y11 (k2_off3 i) S128x2048.size (k2_pay36 x2)) ∗ owns (c : Thread nD τ) M14 fullShare (VecWindow.put y14 (k2_off4 i) S128x256.size (k2_pay37 x2 x4)) ∗ owns (c : Thread nD τ) M8 fullShare (VecWindow.put y8 (![512 * j, 0]) S512x128.size (tailU y10 y12 y13 x3 x5 x7 j))) -∗ K ⟨⟩))
      ⊢ wp frame (wpE (defs₀ (F := F)) Variants.none c none) Set.univ (cc2__k2_body i M1 h1 M2 h2 M3 h3 M4 h4 M5 h5 M6 h6 M7 h7 M8 h8 M9 h9 M10 h10 M11 h11 M12 h12 M13 h13 M14 h14) K := by
  have c1 := at2_1 i
  have c2 := at2_2 i
  have c9 := at2_9 i
  have c10 := at2_10 i
  have c11 := at2_11 i
  have c12 := at2_12 i
  have c13 := at2_13 i
  have c14 := at2_14 i
  have c15 := at2_15 i
  have u6 := at2_eq_of i (12 + j) hs 6 (by decide)
  have u7 := at2_eq_of i (12 + j) hs 7 (by decide)
  have u8 := at2_eq_of i (12 + j) hs 8 (by decide)
  have u9 := at2_eq_of i (12 + j) hs 9 (by decide)
  have u10 := at2_eq_of i (12 + j) hs 10 (by decide)
  have u11 := at2_eq_of i (12 + j) hs 11 (by decide)
  simp only [cc2__k2_body_eq_skeleton]; unfold cc2__k2_body_skel
  unfold owns
  iintro ⟨⟨%f2, %e2, H2⟩, ⟨%f4, %e4, H4⟩, ⟨%f3, %e3, H3⟩, ⟨%f5, %e5, H5⟩, ⟨%f7, %e7, H7⟩, ⟨%f10, %e10, H10⟩, ⟨%f12, %e12, H12⟩, ⟨%f13, %e13, H13⟩, ⟨%f11, %e11, H11⟩, ⟨%f14, %e14, H14⟩, ⟨%f8, %e8, H8⟩, Hk⟩
  interval_cases j <;> simp only [hs, Nat.reduceAdd, Nat.reduceEqDiff, Nat.reduceLT, Nat.reduceLeDiff, and_true, and_false, and_self, iff_true, iff_false] at c1 c2 c9 c10 c11 c12 c13 c14 c15 <;>
  simp only [Nat.reduceAdd, Nat.reduceEqDiff, Nat.reduceLT, Nat.reduceLeDiff, and_true, and_false, and_self, iff_true, iff_false] at u6 u7 u8 u9 u10 u11 <;>
  (sl_exec_parts
   sl_unfold_run_names
   sl_step
   iapply Hk
   isplitl [H2]; · iexists _; isplitr; swap; (· iexact H2); ipureintro; exact e2
   isplitl [H4]; · iexists _; isplitr; swap; (· iexact H4); ipureintro; exact e4
   isplitl [H3]; · iexists _; isplitr; swap; (· iexact H3); ipureintro; exact e3
   isplitl [H5]; · iexists _; isplitr; swap; (· iexact H5); ipureintro; exact e5
   isplitl [H7]; · iexists _; isplitr; swap; (· iexact H7); ipureintro; exact e7
   isplitl [H10]; · iexists _; isplitr; swap; (· iexact H10); ipureintro; exact e10
   isplitl [H12]; · iexists _; isplitr; swap; (· iexact H12); ipureintro; exact e12
   isplitl [H13]; · iexists _; isplitr; swap; (· iexact H13); ipureintro; exact e13
   isplitl [H11]
   · iexists _; isplitr; swap; (· iexact H11); ipureintro
     subst e2 e4 e3 e5 e7 e10 e12 e13 e11 e14 e8
     rw [View.read_writes_cons_put _ _ _ _ _ rfl, View.writes_nil]
     simp only [readAt_whole]
   isplitl [H14]
   · iexists _; isplitr; swap; (· iexact H14); ipureintro
     subst e2 e4 e3 e5 e7 e10 e12 e13 e11 e14 e8
     rw [View.read_writes_cons_put _ _ _ _ _ rfl, View.writes_nil]
     simp only [readAt_whole]
   · iexists _; isplitr; swap; (· iexact H8); ipureintro
     subst e2 e4 e3 e5 e7 e10 e12 e13 e11 e14 e8
     rw [View.read_writes_cons_put _ _ _ _ _ rfl, View.writes_nil]
     simp only [readAt_whole]
     rfl)

end Cert.KernelIdeal.Hand
-- ==== Proof.Reg2.lean ====
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import proofs.«01_k».proof.Proof.Body2
public import proofs.«01_k».proof.Proof.Body2H
public import proofs.«01_k».proof.Proof.Body2T
public import proofs.«01_k».proof.Proof.Carry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)
open Cert.Rows

variable {F : FTy → Type} [FloatOps F]

local notation "𝕄" => MT nD τ sig Unit (Elt F) ℕ (Pipeline.UD sig nD τ) ℕ

/-! # The third call: what its buffers hold from point to point

The 23 points of the third call, on the buffers' contents `V` as the call finds them: six points read row blocks of the upper
matrix, sixteen row blocks of the third matrix, during which the second hop over the upper matrix and the middle result are made. -/

variable (V : (c : Dev nD) → (b : Ref sig .tc) → Buf (Elt F) ((c : Thread nD τ).loc b))

/-- What a fetch at point `t` puts in window `w`: the block of the window's array there. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Point number `s`. -/
def pt2 (s : ℕ) : Fin cfg2.N := ⟨s % 23, lt_of_lt_of_eq (Nat.mod_lt _ (by decide)) N_2.symm⟩

/-- The upper matrix, rounded. -/
def matU (c : Dev nD) : Vec F S3072x3072 .bf16 := stack (n := 3072) (b := 512) (m := 3072) (by decide) (fun s => k2_pay33 (blk2 V c 0 (pt2 s)))
/-- The first hop over the upper matrix. -/
def oneU (c : Dev nD) : Vec F S3072x256 .bf16 := stack (n := 3072) (b := 512) (m := 256) (by decide) (fun s => k2_pay34 (blk2 V c 0 (pt2 s)) (blk2 V c 2 (pt2 s)))
/-- The second hop over the upper matrix. -/
def twoU (c : Dev nD) : Vec F S3072x256 .bf16 := stack (n := 3072) (b := 512) (m := 256) (by decide) (hopU (matU V c) (oneU V c))
/-- The third matrix, rounded. -/
def matL (c : Dev nD) : Vec F S2048x2048 .bf16 := stack (n := 2048) (b := 128) (m := 2048) (by decide) (fun s => k2_pay36 (blk2 V c 1 (pt2 (s + 6))))
/-- The first hop over the third matrix. -/
def oneL (c : Dev nD) : Vec F S2048x256 .bf16 := stack (n := 2048) (b := 128) (m := 256) (by decide) (fun s => k2_pay37 (blk2 V c 1 (pt2 (s + 6))) (blk2 V c 3 (pt2 (s + 6))))
/-- The middle result. -/
def outU (c : Dev nD) : Vec F S3072x128 .f32 := stack (n := 3072) (b := 512) (m := 128) (by decide) (fun k =>
  tailU (matU V c) (oneU V c) (twoU V c) (blk2 V c 2 (pt2 (k + 12))) (blk2 V c 4 (pt2 (k + 12))) (blk2 V c 6 (pt2 (k + 12))) k)
/-- The last result. -/
def outL (c : Dev nD) : Vec F S2048x128 .f32 := tailL (matL V c) (oneL V c) (hopL (matL V c) (oneL V c)) (blk2 V c 3 (pt2 22)) (blk2 V c 5 (pt2 22))

theorem pt2_eq (t : Fin cfg2.N) (s : ℕ) (h : t.val = s) : pt2 s = t := Fin.ext (by
  have h1 : t.val < 23 := lt_of_lt_of_eq t.isLt N_2
  show s % 23 = t.val
  omega)

/-- A grid point's one coordinate is its number. -/
theorem coord2 : ∀ t : Fin cfg2.N, (grid2.coords t 0).val = t.val := by decide +kernel

/-- What the body leaves in each result's buffer at each point. -/
def left2 (c : Dev nD) : (w : Fin cfg2.W) → Fin cfg2.N → ((cfg2.win w).block.Idx → Elt F (cfg2.win w).elt) → Prop
  | 7 => fun t X => Agree (n := 3072) (m := 128) (512 * min (t.val - 11) 6) X (outU V c)
  | 8 => fun t X => t.val = 22 → X = outL V c
  | 0 => fun _ _ => True | 1 => fun _ _ => True | 2 => fun _ _ => True | 3 => fun _ _ => True | 4 => fun _ _ => True | 5 => fun _ _ => True | 6 => fun _ _ => True
  | ⟨_ + 9, h⟩ => absurd h (Nat.not_lt.2 (Nat.le_add_left _ _))

/-- The windows whose contents are described by `left2`: the results. -/
def marked2 : Fin cfg2.W → Bool
  | 7 => true | 8 => true | 0 => false | 1 => false | 2 => false | 3 => false | 4 => false | 5 => false | 6 => false
  | ⟨_ + 9, h⟩ => absurd h (Nat.not_lt.2 (Nat.le_add_left _ _))

/-- Between points: the scratch matrices, as far as they are filled, and the buffers of the other calls. -/
def inv2 (c : Dev nD) (n : ℕ) : sProp 𝕄 :=
  iprop(∃ z0 : Vec F S3072x3072 .bf16, ∃ z1 : Vec F S2048x2048 .bf16, ∃ z2 : Vec F S3072x256 .bf16, ∃ z3 : Vec F S3072x256 .bf16, ∃ z4 : Vec F S2048x256 .bf16, ⌜Agree (512 * min n 6) z0 (matU V c) ∧ Agree (128 * min (n - 6) 16) z1 (matL V c) ∧ Agree (512 * min n 6) z2 (oneU V c) ∧ (n ≤ 22 → Agree (512 * min (n - 6) 6) z3 (twoU V c)) ∧ Agree (128 * min (n - 6) 16) z4 (oneL V c)⌝
    ∗ owns (c : Thread nD τ) (Memref.whole cc2_scratch0) fullShare z0
    ∗ owns (c : Thread nD τ) (Memref.whole cc2_scratch1) fullShare z1
    ∗ owns (c : Thread nD τ) (Memref.whole cc2_scratch2) fullShare z2
    ∗ owns (c : Thread nD τ) (Memref.whole cc2_scratch3) fullShare z3
    ∗ owns (c : Thread nD τ) (Memref.whole cc2_scratch4) fullShare z4
    ∗ Pipeline.scopedRestBut (Ix := Unit) (Name := ℕ) (U := Pipeline.UD sig nD τ) (Lvl := ℕ) (Val := Elt F) spec2 c [cc2_scratch0, cc2_scratch1, cc2_scratch2, cc2_scratch3, cc2_scratch4])

/-- Every window's block, as the contents of its buffer. -/
def all2 (c : Dev nD) : (w : Fin cfg2.W) → Fin cfg2.N → (cfg2.win w).block.Idx → Elt F (cfg2.win w).elt
  | 0 => fun t => blk2 V c 0 t | 1 => fun t => blk2 V c 1 t | 2 => fun t => blk2 V c 2 t | 3 => fun t => blk2 V c 3 t | 4 => fun t => blk2 V c 4 t | 5 => fun t => blk2 V c 5 t | 6 => fun t => blk2 V c 6 t | 7 => fun t => blk2 V c 7 t | 8 => fun t => blk2 V c 8 t
  | ⟨_ + 9, h⟩ => absurd h (Nat.not_lt.2 (Nat.le_add_left _ _))

/-- The proof data of the third call. -/
def dat2 (c : Dev nD) : Dat τ (Elt F) Unit ℕ (Pipeline.UD sig nD τ) ℕ cfg2 c where
  A w := V c (Pipeline.arrRef spec2 w)
  after w t := all2 V c w t
  Φ t := inv2 V c t.val
  q w := Pipeline.shareOf spec2 w
  owed _ := 0

/-- An operand's buffer holds its array's block at every point. -/
theorem before2 (c : Dev nD) (w : Fin cfg2.W) (hw : (cfg2.win w).isOut = false) (hlive : ∀ i, cfg2.idle w i = false)
    (hclip : ∀ t t' : Fin cfg2.N, (cfg2.win w).index t = (cfg2.win w).index t' → (cfg2.win w).clip (cfg2.grid.coords t) = (cfg2.win w).clip (cfg2.grid.coords t'))
    (hkeep : ∀ t, (cfg2.win w).cut (cfg2.grid.coords t) ((dat2 V c).after w t) = (dat2 V c).blockOf w t)
    (t : Fin cfg2.N) (hf : ∀ d, (dat2 V c).fetched w t d = all2 V c w t) :
    iprop(∃ d, owns (c : Thread nD τ) ((cfg2.win w).stage (cfg2.slots t w)) fullShare ((dat2 V c).before w t d))
      ⊢ (owns (c : Thread nD τ) ((cfg2.win w).stage (cfg2.slots t w)) fullShare (all2 V c w t) : sProp 𝕄) := by
  iintro ⟨%d, H⟩
  rw [(dat2 V c).before_in_eq_fetched w hw hlive hclip hkeep t d, hf]
  iexact H

/-- What the body is called with at a point. -/
def pre2 (c : Dev nD) (t : Fin cfg2.N) : sProp 𝕄 :=
  iprop(inv2 V c t.val ∗ (dat2 V c).owesAt () t.castSucc
    ∗ owns (c : Thread nD τ) (st2_0 t) fullShare (blk2 V c 0 t)
    ∗ owns (c : Thread nD τ) (st2_1 t) fullShare (blk2 V c 1 t)
    ∗ owns (c : Thread nD τ) (st2_2 t) fullShare (blk2 V c 2 t)
    ∗ owns (c : Thread nD τ) (st2_3 t) fullShare (blk2 V c 3 t)
    ∗ owns (c : Thread nD τ) (st2_4 t) fullShare (blk2 V c 4 t)
    ∗ owns (c : Thread nD τ) (st2_5 t) fullShare (blk2 V c 5 t)
    ∗ owns (c : Thread nD τ) (st2_6 t) fullShare (blk2 V c 6 t)
    ∗ (∃ Y, ⌜((dat2 V c).toRRel marked2 (left2 V c)).Finds 7 t Y⌝ ∗ owns (c : Thread nD τ) (st2_7 t) fullShare Y)
    ∗ (∃ Y, ⌜((dat2 V c).toRRel marked2 (left2 V c)).Finds 8 t Y⌝ ∗ owns (c : Thread nD τ) (st2_8 t) fullShare Y))

/-- What the body leaves at a point. -/
def post2 (c : Dev nD) (t : Fin cfg2.N) : sProp 𝕄 :=
  iprop(inv2 V c (t.val + 1) ∗ (dat2 V c).owesAt () t.castSucc
    ∗ owns (c : Thread nD τ) (st2_0 t) fullShare (blk2 V c 0 t)
    ∗ owns (c : Thread nD τ) (st2_1 t) fullShare (blk2 V c 1 t)
    ∗ owns (c : Thread nD τ) (st2_2 t) fullShare (blk2 V c 2 t)
    ∗ owns (c : Thread nD τ) (st2_3 t) fullShare (blk2 V c 3 t)
    ∗ owns (c : Thread nD τ) (st2_4 t) fullShare (blk2 V c 4 t)
    ∗ owns (c : Thread nD τ) (st2_5 t) fullShare (blk2 V c 5 t)
    ∗ owns (c : Thread nD τ) (st2_6 t) fullShare (blk2 V c 6 t)
    ∗ (∃ X, ⌜left2 V c 7 t X⌝ ∗ owns (c : Thread nD τ) (st2_7 t) fullShare X)
    ∗ (∃ X, ⌜left2 V c 8 t X⌝ ∗ owns (c : Thread nD τ) (st2_8 t) fullShare X))

/-- A result neither stored nor written back keeps what it held. -/
theorem keep2_7 (c : Dev nD) (t t' : Fin cfg2.N) (ht : t.val = t'.val + 1) (hn : t.val < 23) (Y : (cfg2.win 7).block.Idx → Elt F (cfg2.win 7).elt)
    (hY : ((dat2 V c).toRRel marked2 (left2 V c)).Finds 7 t Y) : left2 V c 7 t' Y :=
  Carry.finds_prev (dat2 V c) (w := 7) rfl ht rfl (Bool.eq_false_iff.mpr fun h => by have := (flush2_7 t').mp h; omega) hY

/-- Where the body stores, by point number. -/
theorem off2_1 (t : Fin cfg2.N) (h : t.val < 6) : k2_off1 (grid2.coords t) = ![512 * t.val, 0] := by
  rw [← coord2 t] at h ⊢; revert h; generalize grid2.coords t = i; revert i; decide +kernel
theorem off2_2 (t : Fin cfg2.N) (h : t.val < 6) : k2_off2 (grid2.coords t) = ![512 * t.val, 0] := by
  rw [← coord2 t] at h ⊢; revert h; generalize grid2.coords t = i; revert i; decide +kernel
theorem off2_3 (t : Fin cfg2.N) (h : 6 ≤ t.val ∧ t.val < 22) : k2_off3 (grid2.coords t) = ![128 * (t.val - 6), 0] := by
  rw [← coord2 t] at h ⊢; revert h; generalize grid2.coords t = i; revert i; decide +kernel
theorem off2_4 (t : Fin cfg2.N) (h : 6 ≤ t.val ∧ t.val < 22) : k2_off4 (grid2.coords t) = ![128 * (t.val - 6), 0] := by
  rw [← coord2 t] at h ⊢; revert h; generalize grid2.coords t = i; revert i; decide +kernel

set_option maxHeartbeats 1000000 in
/-- The body at a point of the first phase. -/
theorem point2_A (c : Dev nD) (t : Fin cfg2.N) (ht : t.val < 6) :
    pre2 V c t ⊢ wp frame (wpE (defs₀ (F := F)) Variants.none c none) Set.univ (bodyAt2 t) (fun _ => post2 V c t) := by
  unfold pre2 post2 bodyAt2 inv2
  iintro ⟨⟨%z0, %z1, %z2, %z3, %z4, %hz, S0, S1, S2, S3, S4, HR⟩, HO, H0, H1, H2, H3, H4, H5, H6, ⟨%Y7, %p7, H7⟩, ⟨%Y8, %p8, H8⟩⟩
  obtain ⟨hz0, hz1, hz2, hz3, hz4⟩ := hz
  rw [show min t.val 6 = t.val by omega] at hz0 hz2
  rw [show min (t.val - 6) 16 = min (t.val + 1 - 6) 16 by omega] at hz1 hz4
  rw [show min (t.val - 6) 6 = min (t.val + 1 - 6) 6 by omega] at hz3
  have a0 := hz0.put (w := k2_pay33 (blk2 V c 0 t)) (by decide) (off2_1 t ht) (by rw [pt2_eq t t.val rfl])
  have a2 := hz2.put (w := k2_pay34 (blk2 V c 0 t) (blk2 V c 2 t)) (by decide) (off2_2 t ht) (by rw [pt2_eq t t.val rfl])
  rw [show t.val + 1 = min (t.val + 1) 6 by omega] at a0 a2
  iapply (run2_A c (grid2.coords t) _ _ _ _ _ _ _ _ _ _ _ _ _ _ _ _ _ _ _ _ _ _ _ _ _ _ _ _ (by rw [coord2]; exact ht) _ (blk2 V c 0 t) (blk2 V c 2 t) z0 z2)
  isplitl [H0]; · iexact H0
  isplitl [H2]; · iexact H2
  isplitl [S0]; · iexact S0
  isplitl [S2]; · iexact S2
  iintro ⟨H0, H2, S0, S2⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨a0, hz1, a2, fun _ => hz3 (by omega), hz4⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro; exact by show Agree (512 * min (t.val - 11) 6) _ _; rw [show min (t.val - 11) 6 = 0 by omega]; exact Agree.zero _ _
  · iexists _; isplitr; swap; (· iexact H8); ipureintro; exact fun h => absurd h (by omega)

set_option maxHeartbeats 1000000 in
/-- The body at a point storing a slab of the second hop. -/
theorem point2_H (c : Dev nD) (t : Fin cfg2.N) (ht : 6 ≤ t.val) (ht2 : t.val < 12) :
    pre2 V c t ⊢ wp frame (wpE (defs₀ (F := F)) Variants.none c none) Set.univ (bodyAt2 t) (fun _ => post2 V c t) := by
  unfold pre2 post2 bodyAt2 inv2
  iintro ⟨⟨%z0, %z1, %z2, %z3, %z4, %hz, S0, S1, S2, S3, S4, HR⟩, HO, H0, H1, H2, H3, H4, H5, H6, ⟨%Y7, %p7, H7⟩, ⟨%Y8, %p8, H8⟩⟩
  obtain ⟨hz0, hz1, hz2, hz3, hz4⟩ := hz
  rw [show min t.val 6 = 6 by omega] at hz0 hz2
  rw [show min (t.val - 6) 16 = t.val - 6 by omega] at hz1 hz4
  have a1 := hz1.put (w := k2_pay36 (blk2 V c 1 t)) (by decide) (off2_3 t (by omega)) (by rw [pt2_eq t (t.val - 6 + 6) (by omega)])
  have a4 := hz4.put (w := k2_pay37 (blk2 V c 1 t) (blk2 V c 3 t)) (by decide) (off2_4 t (by omega)) (by rw [pt2_eq t (t.val - 6 + 6) (by omega)])
  rw [show t.val - 6 + 1 = min (t.val + 1 - 6) 16 by omega] at a1 a4
  obtain rfl : z0 = matU V c := hz0.full (by decide)
  obtain rfl : z2 = oneU V c := hz2.full (by decide)
  have a3 := (hz3 (by omega))
  rw [show min (t.val - 6) 6 = t.val - 6 by omega] at a3
  have a3 := a3.put (w := hopU (matU V c) (oneU V c) (t.val - 6)) (by decide) rfl rfl
  rw [show t.val - 6 + 1 = min (t.val + 1 - 6) 6 by omega] at a3
  iapply (run2_H c (grid2.coords t) _ _ _ _ _ _ _ _ _ _ _ _ _ _ _ _ _ _ _ _ _ _ _ _ _ _ _ _ (t.val - 6) (by omega) (by rw [coord2]; omega) _ (blk2 V c 1 t) (blk2 V c 3 t) (matU V c) (oneU V c) z1 z4 z3)
  isplitl [H1]; · iexact H1
  isplitl [H3]; · iexact H3
  isplitl [S0]; · iexact S0
  isplitl [S2]; · iexact S2
  isplitl [S1]; · iexact S1
  isplitl [S4]; · iexact S4
  isplitl [S3]; · iexact S3
  iintro ⟨H1, H3, S0, S2, S1, S4, S3⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨Agree.refl _ _, a1, Agree.refl _ _, fun _ => a3, a4⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro; exact by show Agree (512 * min (t.val - 11) 6) _ _; rw [show min (t.val - 11) 6 = 0 by omega]; exact Agree.zero _ _
  · iexists _; isplitr; swap; (· iexact H8); ipureintro; exact fun h => absurd h (by omega)

set_option maxHeartbeats 1000000 in
/-- The body at a point storing a slab of the middle result. -/
theorem point2_T (c : Dev nD) (t : Fin cfg2.N) (ht : 12 ≤ t.val) (ht2 : t.val < 18) :
    pre2 V c t ⊢ wp frame (wpE (defs₀ (F := F)) Variants.none c none) Set.univ (bodyAt2 t) (fun _ => post2 V c t) := by
  unfold pre2 post2 bodyAt2 inv2
  iintro ⟨⟨%z0, %z1, %z2, %z3, %z4, %hz, S0, S1, S2, S3, S4, HR⟩, HO, H0, H1, H2, H3, H4, H5, H6, ⟨%Y7, %p7, H7⟩, ⟨%Y8, %p8, H8⟩⟩
  obtain ⟨hz0, hz1, hz2, hz3, hz4⟩ := hz
  rw [show min t.val 6 = 6 by omega] at hz0 hz2
  rw [show min (t.val - 6) 16 = t.val - 6 by omega] at hz1 hz4
  have a1 := hz1.put (w := k2_pay36 (blk2 V c 1 t)) (by decide) (off2_3 t (by omega)) (by rw [pt2_eq t (t.val - 6 + 6) (by omega)])
  have a4 := hz4.put (w := k2_pay37 (blk2 V c 1 t) (blk2 V c 3 t)) (by decide) (off2_4 t (by omega)) (by rw [pt2_eq t (t.val - 6 + 6) (by omega)])
  rw [show t.val - 6 + 1 = min (t.val + 1 - 6) 16 by omega] at a1 a4
  obtain rfl : z0 = matU V c := hz0.full (by decide)
  obtain rfl : z2 = oneU V c := hz2.full (by decide)
  obtain rfl : z3 = twoU V c := (hz3 (by omega)).full (by omega)
  have k7 := keep2_7 V c t ⟨t.val - 1, by omega⟩ (by show t.val = t.val - 1 + 1; omega) (lt_of_lt_of_eq t.isLt N_2) Y7 p7
  have b7 : Agree (n := 3072) (m := 128) (512 * (t.val - 12)) Y7 (outU V c) := by
    have h : min (t.val - 1 - 11) 6 = t.val - 12 := by omega
    rw [← h]; exact k7
  have a7 := b7.put (w := tailU (matU V c) (oneU V c) (twoU V c) (blk2 V c 2 t) (blk2 V c 4 t) (blk2 V c 6 t) (t.val - 12)) (by decide) rfl
    (by rw [pt2_eq t (t.val - 12 + 12) (by omega)])
  rw [show t.val - 12 + 1 = min (t.val - 11) 6 by omega] at a7
  iapply (run2_T c (grid2.coords t) _ _ _ _ _ _ _ _ _ _ _ _ _ _ _ _ _ _ _ _ _ _ _ _ _ _ _ _ (t.val - 12) (by omega) (by rw [coord2]; omega) _ (blk2 V c 1 t) (blk2 V c 3 t) (blk2 V c 2 t) (blk2 V c 4 t) (blk2 V c 6 t) (matU V c) (oneU V c) (twoU V c) z1 z4 Y7)
  isplitl [H1]; · iexact H1
  isplitl [H3]; · iexact H3
  isplitl [H2]; · iexact H2
  isplitl [H4]; · iexact H4
  isplitl [H6]; · iexact H6
  isplitl [S0]; · iexact S0
  isplitl [S2]; · iexact S2
  isplitl [S3]; · iexact S3
  isplitl [S1]; · iexact S1
  isplitl [S4]; · iexact S4
  isplitl [H7]; · iexact H7
  iintro ⟨H1, H3, H2, H4, H6, S0, S2, S3, S1, S4, H7⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨Agree.refl _ _, a1, Agree.refl _ _, fun _ => Agree.refl _ _, a4⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro; exact a7
  · iexists _; isplitr; swap; (· iexact H8); ipureintro; exact fun h => absurd h (by omega)

set_option maxHeartbeats 1000000 in
/-- The body at a later point of the second phase. -/
theorem point2_N (c : Dev nD) (t : Fin cfg2.N) (ht : 18 ≤ t.val) (ht2 : t.val < 22) :
    pre2 V c t ⊢ wp frame (wpE (defs₀ (F := F)) Variants.none c none) Set.univ (bodyAt2 t) (fun _ => post2 V c t) := by
  unfold pre2 post2 bodyAt2 inv2
  iintro ⟨⟨%z0, %z1, %z2, %z3, %z4, %hz, S0, S1, S2, S3, S4, HR⟩, HO, H0, H1, H2, H3, H4, H5, H6, ⟨%Y7, %p7, H7⟩, ⟨%Y8, %p8, H8⟩⟩
  obtain ⟨hz0, hz1, hz2, hz3, hz4⟩ := hz
  rw [show min t.val 6 = 6 by omega] at hz0 hz2
  rw [show min (t.val - 6) 16 = t.val - 6 by omega] at hz1 hz4
  have a1 := hz1.put (w := k2_pay36 (blk2 V c 1 t)) (by decide) (off2_3 t (by omega)) (by rw [pt2_eq t (t.val - 6 + 6) (by omega)])
  have a4 := hz4.put (w := k2_pay37 (blk2 V c 1 t) (blk2 V c 3 t)) (by decide) (off2_4 t (by omega)) (by rw [pt2_eq t (t.val - 6 + 6) (by omega)])
  rw [show t.val - 6 + 1 = min (t.val + 1 - 6) 16 by omega] at a1 a4
  obtain rfl : z0 = matU V c := hz0.full (by decide)
  obtain rfl : z2 = oneU V c := hz2.full (by decide)
  have k7 := keep2_7 V c t ⟨t.val - 1, by omega⟩ (by show t.val = t.val - 1 + 1; omega) (lt_of_lt_of_eq t.isLt N_2) Y7 p7
  have a7 : left2 V c 7 t Y7 := by
    have h : min (t.val - 1 - 11) 6 = min (t.val - 11) 6 := by omega
    show Agree (512 * min (t.val - 11) 6) _ _
    rw [← h]; exact k7
  rw [show min (t.val - 6) 6 = min (t.val + 1 - 6) 6 by omega] at hz3
  iapply (run2_N c (grid2.coords t) _ _ _ _ _ _ _ _ _ _ _ _ _ _ _ _ _ _ _ _ _ _ _ _ _ _ _ _ (by rw [coord2]; omega) _ (blk2 V c 1 t) (blk2 V c 3 t) z1 z4)
  isplitl [H1]; · iexact H1
  isplitl [H3]; · iexact H3
  isplitl [S1]; · iexact S1
  isplitl [S4]; · iexact S4
  iintro ⟨H1, H3, S1, S4⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨Agree.refl _ _, a1, Agree.refl _ _, fun _ => hz3 (by omega), a4⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro; exact a7
  · iexists _; isplitr; swap; (· iexact H8); ipureintro; exact fun h => absurd h (by omega)

set_option maxHeartbeats 1000000 in
/-- The body at the last point. -/
theorem point2_L (c : Dev nD) (t : Fin cfg2.N) (ht : t.val = 22) :
    pre2 V c t ⊢ wp frame (wpE (defs₀ (F := F)) Variants.none c none) Set.univ (bodyAt2 t) (fun _ => post2 V c t) := by
  unfold pre2 post2 bodyAt2 inv2
  iintro ⟨⟨%z0, %z1, %z2, %z3, %z4, %hz, S0, S1, S2, S3, S4, HR⟩, HO, H0, H1, H2, H3, H4, H5, H6, ⟨%Y7, %p7, H7⟩, ⟨%Y8, %p8, H8⟩⟩
  obtain ⟨hz0, hz1, hz2, hz3, hz4⟩ := hz
  rw [show min t.val 6 = 6 by omega] at hz0 hz2
  rw [show min (t.val - 6) 16 = 16 by omega] at hz1 hz4
  obtain rfl : z0 = matU V c := hz0.full (by decide)
  obtain rfl : z2 = oneU V c := hz2.full (by decide)
  obtain rfl : z1 = matL V c := hz1.full (by decide)
  obtain rfl : z4 = oneL V c := hz4.full (by decide)
  have k7 := keep2_7 V c t ⟨t.val - 1, by omega⟩ (by show t.val = t.val - 1 + 1; omega) (lt_of_lt_of_eq t.isLt N_2) Y7 p7
  have a7 : left2 V c 7 t Y7 := by
    have h : min (t.val - 1 - 11) 6 = min (t.val - 11) 6 := by omega
    show Agree (512 * min (t.val - 11) 6) _ _
    rw [← h]; exact k7
  iapply (run2_L c (grid2.coords t) _ _ _ _ _ _ _ _ _ _ _ _ _ _ _ _ _ _ _ _ _ _ _ _ _ _ _ _ (by rw [coord2]; exact ht) _ (blk2 V c 3 t) (blk2 V c 5 t) (matL V c) (oneL V c))
  isplitl [H3]; · iexact H3
  isplitl [H5]; · iexact H5
  isplitl [S1]; · iexact S1
  isplitl [S4]; · iexact S4
  isplitl [H8]; · iexists _; iexact H8
  isplitl [S3]; · iexists _; iexact S3
  iintro ⟨H3, H5, S1, S4, H8, ⟨%z3, S3⟩⟩
  isplitl [S0 S1 S2 S3 S4 HR]
  · iexists _, _, _, _, _; isplitr; swap
    · isplitl [S0]; · iexact S0
      isplitl [S1]; · iexact S1
      isplitl [S2]; · iexact S2
      isplitl [S3]; · iexact S3
      isplitl [S4]; · iexact S4
      iexact HR
    · ipureintro; exact ⟨Agree.refl _ _, Agree.refl _ _, Agree.refl _ _, fun h => absurd h (by omega), Agree.refl _ _⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro; exact a7
  · iexists _; isplitr; swap; (· iexact H8); ipureintro; exact fun _ => by unfold outL; rw [pt2_eq t 22 ht]

/-- The body at every point. -/
theorem point2 (c : Dev nD) (t : Fin cfg2.N) :
    pre2 V c t ⊢ wp frame (wpE (defs₀ (F := F)) Variants.none c none) Set.univ (bodyAt2 t) (fun _ => post2 V c t) := by
  have h23 : t.val < 23 := lt_of_lt_of_eq t.isLt N_2
  by_cases h6 : t.val < 6
  · exact point2_A V c t h6
  by_cases h12 : t.val < 12
  · exact point2_H V c t (by omega) h12
  by_cases h18 : t.val < 18
  · exact point2_T V c t (by omega) h18
  by_cases h22 : t.val = 22
  · exact point2_L V c t h22
  exact point2_N V c t (by omega) (by omega)

/-- Operand 0's buffer holds its array's block. -/
theorem in2_0 (c : Dev nD) (t : Fin cfg2.N) : iprop(∃ d, owns (c : Thread nD τ) (st2_0 t) fullShare ((dat2 V c).before 0 t d))
    ⊢ (owns (c : Thread nD τ) (st2_0 t) fullShare (blk2 V c 0 t) : sProp 𝕄) :=
  before2 V c 0 rfl (fun _ => rfl) (fun _ _ _ => rfl) (fun _ => rfl) t fun _ => rfl
/-- Operand 1's buffer holds its array's block. -/
theorem in2_1 (c : Dev nD) (t : Fin cfg2.N) : iprop(∃ d, owns (c : Thread nD τ) (st2_1 t) fullShare ((dat2 V c).before 1 t d))
    ⊢ (owns (c : Thread nD τ) (st2_1 t) fullShare (blk2 V c 1 t) : sProp 𝕄) :=
  before2 V c 1 rfl (fun _ => rfl) (fun _ _ _ => rfl) (fun _ => rfl) t fun _ => rfl
/-- Operand 2's buffer holds its array's block. -/
theorem in2_2 (c : Dev nD) (t : Fin cfg2.N) : iprop(∃ d, owns (c : Thread nD τ) (st2_2 t) fullShare ((dat2 V c).before 2 t d))
    ⊢ (owns (c : Thread nD τ) (st2_2 t) fullShare (blk2 V c 2 t) : sProp 𝕄) :=
  before2 V c 2 rfl (fun _ => rfl) (fun _ _ _ => rfl) (fun _ => rfl) t fun _ => rfl
/-- Operand 3's buffer holds its array's block. -/
theorem in2_3 (c : Dev nD) (t : Fin cfg2.N) : iprop(∃ d, owns (c : Thread nD τ) (st2_3 t) fullShare ((dat2 V c).before 3 t d))
    ⊢ (owns (c : Thread nD τ) (st2_3 t) fullShare (blk2 V c 3 t) : sProp 𝕄) :=
  before2 V c 3 rfl (fun _ => rfl) (fun _ _ _ => rfl) (fun _ => rfl) t fun _ => rfl
/-- Operand 4's buffer holds its array's block. -/
theorem in2_4 (c : Dev nD) (t : Fin cfg2.N) : iprop(∃ d, owns (c : Thread nD τ) (st2_4 t) fullShare ((dat2 V c).before 4 t d))
    ⊢ (owns (c : Thread nD τ) (st2_4 t) fullShare (blk2 V c 4 t) : sProp 𝕄) :=
  before2 V c 4 rfl (fun _ => rfl) (fun _ _ _ => rfl) (fun _ => rfl) t fun _ => rfl
/-- Operand 5's buffer holds its array's block. -/
theorem in2_5 (c : Dev nD) (t : Fin cfg2.N) : iprop(∃ d, owns (c : Thread nD τ) (st2_5 t) fullShare ((dat2 V c).before 5 t d))
    ⊢ (owns (c : Thread nD τ) (st2_5 t) fullShare (blk2 V c 5 t) : sProp 𝕄) :=
  before2 V c 5 rfl (fun _ => rfl) (fun _ _ _ => rfl) (fun _ => rfl) t fun _ => rfl
/-- Operand 6's buffer holds its array's block. -/
theorem in2_6 (c : Dev nD) (t : Fin cfg2.N) : iprop(∃ d, owns (c : Thread nD τ) (st2_6 t) fullShare ((dat2 V c).before 6 t d))
    ⊢ (owns (c : Thread nD τ) (st2_6 t) fullShare (blk2 V c 6 t) : sProp 𝕄) :=
  before2 V c 6 rfl (fun _ => rfl) (fun _ _ _ => rfl) (fun _ => rfl) t fun _ => rfl

/-- The library's body obligation for the third call. -/
theorem obligation2 (c : Dev nD) : BodyObligationRel (dat2 V c) (defs₀ (F := F)) Variants.none () Set.univ marked2 (left2 V c) := fun t => by
  rw [bigSep_W2, bigSep_W2]
  refine triple_restated (point2 V c t) (by unfold defs₀; rw [Defs.onTc_tc]) ?_ fun _ => .rfl
  unfold pre2
  refine Laws.sep_mono .rfl (Laws.sep_mono .rfl ?_)
  exact Laws.sep_mono (in2_0 V c t) (Laws.sep_mono (in2_1 V c t) (Laws.sep_mono (in2_2 V c t) (Laws.sep_mono (in2_3 V c t) (Laws.sep_mono (in2_4 V c t) (Laws.sep_mono (in2_5 V c t) (Laws.sep_mono (in2_6 V c t) (.rfl)))))))

end Cert.KernelIdeal.Hand
-- ==== Proof.Region.lean ====
module

public import proofs.«01_k».proof.Proof.Gen.KernelIdeal.Launch
public import proofs.«01_k».proof.Proof.Gen.KernelIdeal.Regions
public import Idealize.ShloMosaic.Lib.Pipeline.RegionsLoop
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (Pipeline.UD sig nD τ) ℕ

/-! # One call as a segment of the program

A call is entered with every buffer outside the calls held at some contents, and left with the same buffers held at the
contents the call's proof data fix for its results. -/

/-- No core owes another anything: no cell has a level. -/
abbrev lev : GSem nD τ sig → Finset Unit := fun _ => ∅
/-- The level of every cell. -/
abbrev lvl : GSem nD τ sig → Unit → ℕ := fun _ _ => 0

/-- A core that owes nothing. -/
def idle (c : Dev nD) : sProp 𝕄 := iprop(∃ W, owes (c : Thread nD τ) (0 : CellTallies nD τ sig Unit) W)

/-- The arrays after the write-backs hold some contents that each of them may hold then. -/
theorem arrays_open {cfg : Pipeline.Cfg sig Λ₀} {c : Dev nD} (rd : RDat τ (Elt F) Unit ℕ (Pipeline.UD sig nD τ) ℕ cfg c) (n : ℕ) :
    (rd.arraysAt n : sProp 𝕄) ⊢ iprop(∃ A, ⌜∀ w, rd.ArrAt w n (A w)⌝ ∗ rd.arrays A) := by
  unfold RDat.arraysAt
  iintro H
  ihave H₁ := (BI.bigSep_exists_pi Finset.univ (fun w G => iprop(⌜rd.ArrAt w n G⌝
      ∗ (cfg.win w).arr.view.loc (c : Thread nD τ) ↦[(cfg.win w).arr.view.set]{rd.share w} G))) $$ H
  icases H₁ with ⟨%A, H₁⟩
  ihave H₂ := (BI.bigSep_pure_sep Finset.univ (fun w => rd.ArrAt w n (A w))
      (fun w => (cfg.win w).arr.view.loc (c : Thread nD τ) ↦[(cfg.win w).arr.view.set]{rd.share w} A w)) $$ H₁
  icases H₂ with ⟨%h, H₂⟩
  iexists A
  isplitr
  · ipureintro; exact fun w => h w (Finset.mem_univ w)
  · unfold RDat.arrays; iexact H₂

-- a library lemma stated over the chosen configuration unifies only when unification may unfold definitions in a type
set_option backward.isDefEq.respectTransparency.types false in
/-- The segment of call `p`: entered with the buffers at `V`, left with them at `V'`, given that whatever its arrays may hold at
    the end is what `V'` says (`hend`), and that `V'` is `V` off the arrays (`hrest`). -/
def region {p : Fin 3} (rdats : (p : Fin 3) → (c : Dev nD) → RDat τ (Elt F) Unit ℕ (Pipeline.UD sig nD τ) ℕ (Pipeline.pin (pcfgs (F := F)) adm p) c)
    (kit : Pipeline.LaunchFacts₀ (nD := nD) (τ := τ) cfgs p)
    (hbody : ∀ c, (rdats p c).BodyObligation (defs₀ (F := F)) Variants.none () Set.univ)
    (howed : ∀ c t, (rdats p c).owed t = 0)
    (hrec : ∀ c t, (rdats p c).recorded t = Set.univ)
    (hq : ∀ c w, ((cfgs p).spec w).isOut = false → (rdats p c).q w = Pipeline.shareOf (cfgs p).spec w)
    (hin : ∀ c, (Pipeline.scopedRest (cfgs p).spec c : sProp 𝕄) ⊢ (rdats p c).Φ 0)
    (hout : ∀ c, (rdats p c).Φ (Fin.last (cfgs p).N) ⊢ (Pipeline.scopedRest (cfgs p).spec c : sProp 𝕄))
    (V V' : (c : Dev nD) → (b : Ref sig .tc) → Buf (Elt F) ((c : Thread nD τ).loc b))
    (hA : ∀ c w, (rdats p c).A w = V c (Pipeline.arrRef (cfgs p).spec w))
    (hend : ∀ (c : Dev nD) (G : (w : Fin (cfgs p).W) → Buf (Elt F) (((cfgs p).spec w).arr.view.loc (c : Thread nD τ))),
      (∀ w, (rdats p c).ArrAt w (cfgs p).N (G w)) → ∀ w, G w = V' c (Pipeline.arrRef (cfgs p).spec w))
    (hrest : ∀ c b, b ∉ Finset.univ.image (Pipeline.arrRef (cfgs p).spec) → V' c b = V c b) :
    RDat.RegionSeg (pcfgs (F := F)) adm rdats () (defs₀ (F := F)) Variants.none lev lvl p where
  win := kit.win
  block_pos := kit.block_pos
  stage_whole := kit.stage_whole
  K := PEmpty
  osem k := k.elim
  ho := Pipeline.OwnSemFacts.none _
  hbody := hbody
  hwaits := RDat.hwaits_of_owed_zero _ _ _ _ lev lvl p howed
  pre c := iprop(unscopedBufs c (V c) ∗ idle c)
  post c := iprop(unscopedBufs c (V' c) ∗ idle c)
  X _ := BI.emp
  Y _ := BI.emp
  Z c := Pipeline.unscopedRest (Ix := Unit) (Name := ℕ) (U := Pipeline.UD sig nD τ) (Lvl := ℕ) (cfgs p).spec c (V c)
  hentry c := by
    rw [Pipeline.ownSems0_none]
    have hsplit : (unscopedBufs c (V c) : sProp 𝕄) ⊢ iprop((rdats p c).arrays (rdats p c).A ∗ Pipeline.unscopedRest (cfgs p).spec c (V c)) := by
      rw [Pipeline.unscopedBufs_split₀ (Pipeline.pin (pcfgs (F := F)) adm) p kit.win.arr_unscoped c (V c)]
      exact Laws.sep_mono ((rdats p c).arrays_split_shared kit.sharedIn kit.arr_whole (hq c) (V c) _ (hA c)) .rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold idle RDat.owesAt Pipeline.owesWithin
      rw [howed]
      icases HO with ⟨%W, HO⟩; iexists W; isplitr; · ipureintro; exact fun _ _ => Or.inl (by rw [hrec]; trivial)
      iexact HO
    isplitr; · iempintro
    iexact Hrest
  hin c := by
    iintro ⟨-, -, Hr⟩
    iapply (hin c); iexact Hr
  hout c := by
    rw [Pipeline.ownSems0_none]
    iintro Hr
    isplitr; · iempintro
    isplitr; · iempintro
    iapply (hout c); iexact Hr
  hexit c := by
    have hjoin : ∀ G, (∀ w, (rdats p c).ArrAt w (cfgs p).N (G w)) →
        iprop((rdats p c).arrays G ∗ Pipeline.unscopedRest (cfgs p).spec c (V c)) ⊢ (unscopedBufs c (V' c) : sProp 𝕄) := fun G hG => by
      rw [Pipeline.unscopedBufs_split₀ (Pipeline.pin (pcfgs (F := F)) adm) p kit.win.arr_unscoped c (V' c)]
      refine Laws.sep_mono (Entails.of_eq ((rdats p c).arrBufs_eq_arrays kit.sharedIn kit.arr_whole (hq c) (V' c) G (hend c G hG)).symm) (Entails.of_eq ?_)
      unfold Pipeline.unscopedRest
      exact BI.bigSep_congr fun b hb => by rw [hrest c b (Finset.mem_sdiff.mp hb).2]
    iintro ⟨Ha, HO, -, Hrest⟩
    ihave Ha₁ := (arrays_open (rdats p c) (cfgs p).N) $$ Ha
    icases Ha₁ with ⟨%G, %hG, Ha₂⟩
    imodintro
    isplitl [Ha₂ Hrest]
    · iapply (hjoin G hG); isplitl [Ha₂] <;> iassumption
    unfold idle RDat.owesAt Pipeline.owesWithin
    rw [howed]
    icases HO with ⟨%W, -, HO⟩; iexists W; iexact HO

end Cert.KernelIdeal.Hand

end
-- ==== Proof.Ends.lean ====
module

public import proofs.«01_k».proof.Proof.Ob0
public import proofs.«01_k».proof.Proof.Reg1
public import proofs.«01_k».proof.Proof.Reg2
public import proofs.«01_k».proof.Proof.Region
public import Idealize.ShloMosaic.Lib.Pipeline.ArrRel
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)
open Cert.Rows

variable {F : FTy → Type} [FloatOps F]

local notation "𝕄" => MT nD τ sig Unit (Elt F) ℕ (Pipeline.UD sig nD τ) ℕ

/-! # What each call leaves in its result arrays -/

/-- An array whose write-backs cover it ends at `H` if every block that may be written back is `H`'s. -/
theorem end_eq {cfg : Pipeline.Cfg sig Λ₀} {c : Dev nD} (rd : RDat τ (Elt F) Unit ℕ (Pipeline.UD sig nD τ) ℕ cfg c) (w : Fin cfg.W)
    (G H : Buf (Elt F) ((cfg.win w).arr.view.loc (c : Thread nD τ))) (hG : rd.ArrAt w cfg.N G) (hcov : (cfg.win w).Covers)
    (hH : ∀ t, (cfg.win w).flush t = true → ∀ X, rd.Leaves w t X → ∀ y : ((cfg.win w).xblock (cfg.grid.coords t)).Idx,
      _root_.cast (congrArg (Elt F) ((cfg.win w).blk t).view.elt_eq.symm) (X ((cfg.win w).xinj (cfg.grid.coords t) y))
        = H (((cfg.win w).blk t).view.emb y))
    (harr : (cfg.win w).arr.IsWhole) : G = H := by
  obtain ⟨X, hX, hA⟩ := hG.exists_exact
  rw [hA (Function.update (fun _ _ _ => Classical.arbitrary _) w X) fun u _ _ => by rw [Function.update_self]]
  refine Dat.arrAt_eq_of_covers _ w H hcov (fun t hf y => ?_) harr
  rw [RDat.withAfter_after, Function.update_self]
  exact hH t hf (X t) (hX t t.isLt hf) y

variable (V : (c : Dev nD) → (b : Ref sig .tc) → Buf (Elt F) ((c : Thread nD τ).loc b))

/-- The first call's first result: its two row blocks. -/
def resA (c : Dev nD) : Vec F S1024x128 .bf16 := stack (n := 1024) (b := 512) (m := 128) (by decide) (fun s => lowA V c (if s = 0 then t0_0 else t0_1))
/-- The first call's third result: its three row blocks. -/
def resB (c : Dev nD) : Vec F S3072x128 .bf16 := stack (n := 3072) (b := 1024) (m := 128) (by decide) (fun s => lowB V c (if s = 0 then t0_2 else if s = 1 then t0_3 else t0_4))

theorem end0_7 (c : Dev nD) (G) (hG : ((dat0 V c).toRRel marked0 (left0 V c)).ArrAt 7 cfg0.N G) : G = upA V c := by
  refine end_eq _ 7 G _ hG (by decide +kernel) (fun t hf X hX y => ?_) (Memref.isWhole_whole _)
  have h : 1 ≤ t.val → X = upA V c := (dat0 V c).toRRel_leaves rfl hX
  have ht := (flush0_7 t).1 hf
  have hn : t.val < 5 := lt_of_lt_of_eq t.isLt N_0
  have e : win0_7.index t = ![0, 0] := (by decide +kernel : ∀ t : Fin grid0.N, win0_7.index t = ![0, 0]) t
  rw [h (by omega)]
  blk_simp
  refine congrArg _ ?_
  blk_ext [e]

theorem end0_9 (c : Dev nD) (G) (hG : ((dat0 V c).toRRel marked0 (left0 V c)).ArrAt 9 cfg0.N G) : G = upB V c := by
  refine end_eq _ 9 G _ hG (by decide +kernel) (fun t hf X hX y => ?_) (Memref.isWhole_whole _)
  have h : t.val = 4 → X = upB V c := (dat0 V c).toRRel_leaves rfl hX
  have ht := (flush0_9 t).1 hf
  have hn : t.val < 5 := lt_of_lt_of_eq t.isLt N_0
  have e : win0_9.index t = ![0, 0] := (by decide +kernel : ∀ t : Fin grid0.N, win0_9.index t = ![0, 0]) t
  rw [h (by omega)]
  blk_simp
  refine congrArg _ ?_
  blk_ext [e]

theorem end1_6 (c : Dev nD) (G) (hG : ((dat1 V c).toRRel marked1 (left1 V c)).ArrAt 6 cfg1.N G) : G = outS V c := by
  refine end_eq _ 6 G _ hG (by decide +kernel) (fun t hf X hX y => ?_) (Memref.isWhole_whole _)
  have h : 2 ≤ t.val → X = outS V c := (dat1 V c).toRRel_leaves rfl hX
  have ht := (flush1_6 t).1 hf
  have hn : t.val < 8 := lt_of_lt_of_eq t.isLt N_1
  have e : win1_6.index t = ![0, 0] := (by decide +kernel : ∀ t : Fin grid1.N, win1_6.index t = ![0, 0]) t
  rw [h (by omega)]
  blk_simp
  refine congrArg _ ?_
  blk_ext [e]

theorem end1_7 (c : Dev nD) (G) (hG : ((dat1 V c).toRRel marked1 (left1 V c)).ArrAt 7 cfg1.N G) : G = outD V c := by
  refine end_eq _ 7 G _ hG (by decide +kernel) (fun t hf X hX y => ?_) (Memref.isWhole_whole _)
  have h : t.val = 7 → X = outD V c := (dat1 V c).toRRel_leaves rfl hX
  have ht := (flush1_7 t).1 hf
  have hn : t.val < 8 := lt_of_lt_of_eq t.isLt N_1
  have e : win1_7.index t = ![0, 0] := (by decide +kernel : ∀ t : Fin grid1.N, win1_7.index t = ![0, 0]) t
  rw [h (by omega)]
  blk_simp
  refine congrArg _ ?_
  blk_ext [e]

theorem end2_7 (c : Dev nD) (G) (hG : ((dat2 V c).toRRel marked2 (left2 V c)).ArrAt 7 cfg2.N G) : G = outU V c := by
  refine end_eq _ 7 G _ hG (by decide +kernel) (fun t hf X hX y => ?_) (Memref.isWhole_whole _)
  have h : Agree (n := 3072) (m := 128) (512 * min (t.val - 11) 6) X (outU V c) := (dat2 V c).toRRel_leaves rfl hX
  have ht := (flush2_7 t).1 hf
  have hn : t.val < 23 := lt_of_lt_of_eq t.isLt N_2
  have e : win2_7.index t = ![0, 0] := (by decide +kernel : ∀ t : Fin grid2.N, win2_7.index t = ![0, 0]) t
  rw [h.full (by omega)]
  blk_simp
  refine congrArg _ ?_
  blk_ext [e]

theorem end2_8 (c : Dev nD) (G) (hG : ((dat2 V c).toRRel marked2 (left2 V c)).ArrAt 8 cfg2.N G) : G = outL V c := by
  refine end_eq _ 8 G _ hG (by decide +kernel) (fun t hf X hX y => ?_) (Memref.isWhole_whole _)
  have h : t.val = 22 → X = outL V c := (dat2 V c).toRRel_leaves rfl hX
  have ht := (flush2_8 t).1 hf
  have hn : t.val < 23 := lt_of_lt_of_eq t.isLt N_2
  have e : win2_8.index t = ![0, 0] := (by decide +kernel : ∀ t : Fin grid2.N, win2_8.index t = ![0, 0]) t
  rw [h (by omega)]
  blk_simp
  refine congrArg _ ?_
  blk_ext [e]

theorem end0_6 (c : Dev nD) (G) (hG : ((dat0 V c).toRRel marked0 (left0 V c)).ArrAt 6 cfg0.N G) : G = resA V c := by
  refine end_eq _ 6 G _ hG (by decide +kernel) (fun t hf X hX y => ?_) (Memref.isWhole_whole _)
  have h : X = lowA V c (if t.val = 0 then t0_0 else t0_1) := (dat0 V c).toRRel_leaves rfl hX
  have e : win0_6.index t = ![if t.val = 0 then 0 else 1, 0] :=
    (by decide +kernel : ∀ t : Fin grid0.N, win0_6.index t = ![if t.val = 0 then 0 else 1, 0]) t
  rw [h]
  blk_simp
  refine ((stack_at _ _ _ (if t.val = 0 then 0 else 1) y ?_ ?_).trans ?_).symm
  · blk_simp [e]
  · blk_simp [e]
  · by_cases h0 : t.val = 0
    · rw [if_pos h0, if_pos h0, if_pos rfl]
    · simp only [if_neg h0, if_neg (one_ne_zero (α := ℕ))]

theorem end0_8 (c : Dev nD) (G) (hG : ((dat0 V c).toRRel marked0 (left0 V c)).ArrAt 8 cfg0.N G) : G = resB V c := by
  refine end_eq _ 8 G _ hG (by decide +kernel) (fun t hf X hX y => ?_) (Memref.isWhole_whole _)
  have h : 2 ≤ t.val → X = lowB V c t := (dat0 V c).toRRel_leaves rfl hX
  have ht : 2 ≤ t.val := (by decide +kernel : ∀ t : Fin grid0.N, win0_8.flush t = true → 2 ≤ t.val) t hf
  have hn : t.val < 5 := lt_of_lt_of_eq t.isLt N_0
  have e : win0_8.index t = ![t.val - 2, 0] :=
    (by decide +kernel : ∀ t : Fin grid0.N, win0_8.index t = ![t.val - 2, 0]) t
  rw [h ht]
  blk_simp
  refine ((stack_at _ _ _ (t.val - 2) y ?_ ?_).trans ?_).symm
  · blk_simp [e]
  · blk_simp [e]
  · have hs : (if t.val - 2 = 0 then t0_2 else if t.val - 2 = 1 then t0_3 else t0_4) = t :=
      (by decide +kernel : ∀ t : Fin grid0.N, 2 ≤ t.val → (if t.val - 2 = 0 then t0_2 else if t.val - 2 = 1 then t0_3 else t0_4) = t) t ht
    rw [hs]

end Cert.KernelIdeal.Hand

end
-- ==== Proof.Run.lean ====
module

public import proofs.«01_k».proof.Proof.Ends

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)
open Cert.Rows

variable {F : FTy → Type} [FloatOps F]

local notation "𝕄" => MT nD τ sig Unit (Elt F) ℕ (Pipeline.UD sig nD τ) ℕ

/-! # The whole program's run

The three calls as segments between the host operations, and the contents of every buffer outside the calls at the end. -/

section Invariants

variable (V : (c : Dev nD) → (b : Ref sig .tc) → Buf (Elt F) ((c : Thread nD τ).loc b))

theorem enter0 (c : Dev nD) : (Pipeline.scopedRest spec0 c : sProp 𝕄) ⊢ inv0 V c 0 := by
  rw [scopedRest0_split]
  unfold inv0
  simp only [owns_whole]
  iintro ⟨⟨⟨%a, Ha⟩, ⟨%b, Hb⟩⟩, Hr⟩
  iexists a; iexists b
  isplitr; · ipureintro; exact ⟨fun h => absurd h (by decide), fun h => absurd h (by decide), fun h => absurd h (by decide)⟩
  isplitl [Ha]; · iexact Ha
  isplitl [Hb]; · iexact Hb
  iexact Hr

theorem leave0 (c : Dev nD) (n : ℕ) : (inv0 V c n : sProp 𝕄) ⊢ Pipeline.scopedRest spec0 c := by
  rw [scopedRest0_split]
  unfold inv0
  simp only [owns_whole]
  iintro ⟨%a, %b, %h, Ha, Hb, Hr⟩
  isplitr [Hr]
  · isplitl [Ha]; · iexists a; iexact Ha
    iexists b; iexact Hb
  iexact Hr

theorem enter1 (c : Dev nD) : (Pipeline.scopedRest spec1 c : sProp 𝕄) ⊢ inv1 V c 0 := by
  rw [scopedRest1_split]
  unfold inv1
  simp only [owns_whole]
  iintro ⟨⟨⟨%a, Ha⟩, ⟨%b, Hb⟩, ⟨%d, Hd⟩, ⟨%e, He⟩, ⟨%f, Hf⟩⟩, Hr⟩
  iexists a; iexists b; iexists d; iexists e; iexists f
  isplitr; · ipureintro; exact ⟨Agree.zero _ _, Agree.zero _ _, Agree.zero _ _, Agree.zero _ _, trivial⟩
  isplitl [Ha]; · iexact Ha
  isplitl [Hb]; · iexact Hb
  isplitl [Hd]; · iexact Hd
  isplitl [He]; · iexact He
  isplitl [Hf]; · iexact Hf
  iexact Hr

theorem leave1 (c : Dev nD) (n : ℕ) : (inv1 V c n : sProp 𝕄) ⊢ Pipeline.scopedRest spec1 c := by
  rw [scopedRest1_split]
  unfold inv1
  simp only [owns_whole]
  iintro ⟨%a, %b, %d, %e, %f, %h, Ha, Hb, Hd, He, Hf, Hr⟩
  isplitr [Hr]
  · isplitl [Ha]; · iexists a; iexact Ha
    isplitl [Hb]; · iexists b; iexact Hb
    isplitl [Hd]; · iexists d; iexact Hd
    isplitl [He]; · iexists e; iexact He
    iexists f; iexact Hf
  iexact Hr

theorem enter2 (c : Dev nD) : (Pipeline.scopedRest spec2 c : sProp 𝕄) ⊢ inv2 V c 0 := by
  rw [scopedRest2_split]
  unfold inv2
  simp only [owns_whole]
  iintro ⟨⟨⟨%a, Ha⟩, ⟨%b, Hb⟩, ⟨%d, Hd⟩, ⟨%e, He⟩, ⟨%f, Hf⟩⟩, Hr⟩
  iexists a; iexists b; iexists d; iexists e; iexists f
  isplitr; · ipureintro; exact ⟨Agree.zero _ _, Agree.zero _ _, Agree.zero _ _, fun _ => Agree.zero _ _, Agree.zero _ _⟩
  isplitl [Ha]; · iexact Ha
  isplitl [Hb]; · iexact Hb
  isplitl [Hd]; · iexact Hd
  isplitl [He]; · iexact He
  isplitl [Hf]; · iexact Hf
  iexact Hr

theorem leave2 (c : Dev nD) (n : ℕ) : (inv2 V c n : sProp 𝕄) ⊢ Pipeline.scopedRest spec2 c := by
  rw [scopedRest2_split]
  unfold inv2
  simp only [owns_whole]
  iintro ⟨%a, %b, %d, %e, %f, %h, Ha, Hb, Hd, He, Hf, Hr⟩
  isplitr [Hr]
  · isplitl [Ha]; · iexists a; iexact Ha
    isplitl [Hb]; · iexists b; iexact Hb
    isplitl [Hd]; · iexists d; iexact Hd
    isplitl [He]; · iexists e; iexact He
    iexists f; iexact Hf
  iexact Hr

end Invariants

variable (m : (ℓ : Loc nD τ sig) → Buf (Elt F) ℓ)

/-! ## The contents between the items -/

/-- The buffers the first call finds. -/
def at1 (c : Dev nD) (b : Ref sig .tc) : Buf (Elt F) ((c : Thread nD τ).loc b) := V1 m c b

/-- What the first call leaves. -/
def outA (r : Ref sig .tc) (c : Dev nD) : Buf (Elt F) ((c : Thread nD τ).loc r) :=
  (Function.update (Function.update (Function.update (Function.update (V1 m c) main_v3_0 (resA (at1 m) c)) main_v3_1 (upA (at1 m) c))
    main_v3_2 (resB (at1 m) c)) main_v3_3 (upB (at1 m) c) : Valuation τ sig (Elt F)) r

/-- The buffers the second call finds. -/
def at3 (c : Dev nD) (b : Ref sig .tc) : Buf (Elt F) ((c : Thread nD τ).loc b) := V3 m (fun _ => outA m) c b

/-- What the second call leaves. -/
def outB (r : Ref sig .tc) (c : Dev nD) : Buf (Elt F) ((c : Thread nD τ).loc r) :=
  (Function.update (Function.update (V3 m (fun _ => outA m) c) main_v82_0 (outS (at3 m) c)) main_v82_1 (outD (at3 m) c) : Valuation τ sig (Elt F)) r

/-- What the first two calls leave. -/
def outs₂ : Outs (F := F) := fun k => if k = 2 then outA m else outB m

/-- The buffers the third call finds. -/
def at4 (c : Dev nD) (b : Ref sig .tc) : Buf (Elt F) ((c : Thread nD τ).loc b) := V4 m (outs₂ m) c b

/-- What the third call leaves. -/
def outC (r : Ref sig .tc) (c : Dev nD) : Buf (Elt F) ((c : Thread nD τ).loc r) :=
  (Function.update (Function.update (V4 m (outs₂ m) c) main_v83_0 (outU (at4 m) c)) main_v83_1 (outL (at4 m) c) : Valuation τ sig (Elt F)) r

/-- What the three calls leave. -/
def outs : Outs (F := F) := fun k => if k = 2 then outA m else if k = 4 then outB m else outC m

theorem at3_eq (c : Dev nD) (b : Ref sig .tc) : at3 m c b = V3 m (outs m) c b := rfl
theorem at4_eq (c : Dev nD) (b : Ref sig .tc) : at4 m c b = V4 m (outs m) c b := rfl

theorem ne_dev {a b : Ref sig .tc} (h : a ≠ b) : (Proc.devRef .tc a : DevRef τ sig) ≠ Proc.devRef .tc b := StableHlo.devRef_ne_of_ne h

theorem V2_0 (c : Dev nD) : V2 m (outs m) c main_v3_0 = resA (at1 m) c := by
  unfold outs V2
  rw [Function.update_of_ne (ne_dev (by decide)), Function.update_of_ne (ne_dev (by decide)), Function.update_of_ne (ne_dev (by decide)), Function.update_self]
  show outA m main_v3_0 c = _
  unfold outA
  rw [Function.update_of_ne (ne_dev (by decide)), Function.update_of_ne (ne_dev (by decide)), Function.update_of_ne (ne_dev (by decide)), Function.update_self]

theorem V2_1 (c : Dev nD) : V2 m (outs m) c main_v3_1 = upA (at1 m) c := by
  unfold outs V2
  rw [Function.update_of_ne (ne_dev (by decide)), Function.update_of_ne (ne_dev (by decide)), Function.update_self]
  show outA m main_v3_1 c = _
  unfold outA
  rw [Function.update_of_ne (ne_dev (by decide)), Function.update_of_ne (ne_dev (by decide)), Function.update_self]

theorem V2_2 (c : Dev nD) : V2 m (outs m) c main_v3_2 = resB (at1 m) c := by
  unfold outs V2
  rw [Function.update_of_ne (ne_dev (by decide)), Function.update_self]
  show outA m main_v3_2 c = _
  unfold outA
  rw [Function.update_of_ne (ne_dev (by decide)), Function.update_self]

theorem V2_3 (c : Dev nD) : V2 m (outs m) c main_v3_3 = upB (at1 m) c := by
  unfold outs V2
  rw [Function.update_self]
  show outA m main_v3_3 c = _
  unfold outA
  rw [Function.update_self]

theorem V4_0 (c : Dev nD) : V4 m (outs m) c main_v82_0 = outS (at3 m) c := by
  unfold V4
  rw [Function.update_of_ne (ne_dev (by decide)), Function.update_self]
  show outB m main_v82_0 c = _
  unfold outB
  rw [Function.update_of_ne (ne_dev (by decide)), Function.update_self]

theorem V4_1 (c : Dev nD) : V4 m (outs m) c main_v82_1 = outD (at3 m) c := by
  unfold V4
  rw [Function.update_self]
  show outB m main_v82_1 c = _
  unfold outB
  rw [Function.update_self]

theorem V5_0 (c : Dev nD) : V5 m (outs m) c main_v83_0 = outU (at4 m) c := by
  unfold V5
  rw [Function.update_of_ne (ne_dev (by decide)), Function.update_self]
  show outC m main_v83_0 c = _
  unfold outC
  rw [Function.update_of_ne (ne_dev (by decide)), Function.update_self]

theorem V5_1 (c : Dev nD) : V5 m (outs m) c main_v83_1 = outL (at4 m) c := by
  unfold V5
  rw [Function.update_self]
  show outC m main_v83_1 c = _
  unfold outC
  rw [Function.update_self]

/-! ## The calls -/

section Calls

variable (Va Vb Vc : (c : Dev nD) → (b : Ref sig .tc) → Buf (Elt F) ((c : Thread nD τ).loc b))

/-- The proof data of the three calls, each on the contents it finds. -/
def rdats : (p : Fin 3) → (c : Dev nD) → RDat τ (Elt F) Unit ℕ (Pipeline.UD sig nD τ) ℕ (Pipeline.pin (pcfgs (F := F)) adm p) c
  | ⟨0, _⟩ => fun c => (dat0 Va c).toRRel marked0 (left0 Va c)
  | ⟨1, _⟩ => fun c => (dat1 Vb c).toRRel marked1 (left1 Vb c)
  | ⟨2, _⟩ => fun c => (dat2 Vc c).toRRel marked2 (left2 Vc c)

variable (V V' : (c : Dev nD) → (b : Ref sig .tc) → Buf (Elt F) ((c : Thread nD τ).loc b))

/-- An operand's array is as the call found it. -/
theorem kept {cfg : Pipeline.Cfg sig Λ₀} {c : Dev nD} (rd : RDat τ (Elt F) Unit ℕ (Pipeline.UD sig nD τ) ℕ cfg c) (w : Fin cfg.W)
    (hw : (cfg.win w).isOut = false) {n : ℕ} {G H : Buf (Elt F) ((cfg.win w).arr.view.loc (c : Thread nD τ))} (hG : rd.ArrAt w n G) (hH : H = rd.A w) : G = H := by
  rw [rd.ArrAt_in w hw n] at hG
  exact Eq.trans hG hH.symm

/-- A window of the call is an operand, whose array no result shares, or a result. -/
theorem sides0 : ∀ w : Fin cfg0.W, ((cfg0.win w).isOut = false ∧ Pipeline.arrRef spec0 w ∉ ([main_v3_0, main_v3_1, main_v3_2, main_v3_3] : List (Ref sig .tc))) ∨ w = 6 ∨ w = 7 ∨ w = 8 ∨ w = 9 := by decide +kernel

/-- What the first call leaves is what `V'` says, if `V'` has its results and is otherwise `V`. -/
theorem hend0 (h6 : ∀ c, V' c main_v3_0 = resA V c)
    (h7 : ∀ c, V' c main_v3_1 = upA V c)
    (h8 : ∀ c, V' c main_v3_2 = resB V c)
    (h9 : ∀ c, V' c main_v3_3 = upB V c)
    (hk : ∀ c b, b ∉ ([main_v3_0, main_v3_1, main_v3_2, main_v3_3] : List (Ref sig .tc)) → V' c b = V c b) (c : Dev nD) (G : (w : Fin cfg0.W) → Buf (Elt F) ((spec0 w).arr.view.loc (c : Thread nD τ)))
    (hG : ∀ w, ((dat0 V c).toRRel marked0 (left0 V c)).ArrAt w cfg0.N (G w)) (w : Fin cfg0.W) : G w = V' c (Pipeline.arrRef spec0 w) := by
  have hs := sides0 w
  have hGw := hG w
  clear hG
  rcases hs with ⟨hw, hn⟩ | rfl | rfl | rfl | rfl
  · exact kept _ w hw hGw (hk c _ hn)
  · exact (end0_6 V c _ hGw).trans (h6 c).symm
  · exact (end0_7 V c _ hGw).trans (h7 c).symm
  · exact (end0_8 V c _ hGw).trans (h8 c).symm
  · exact (end0_9 V c _ hGw).trans (h9 c).symm

/-- The arrays the first call does not write are as before. -/
theorem hoff0 (hk : ∀ c b, b ∉ ([main_v3_0, main_v3_1, main_v3_2, main_v3_3] : List (Ref sig .tc)) → V' c b = V c b) (c : Dev nD) (b : Ref sig .tc)
    (hb : b ∉ Finset.univ.image (Pipeline.arrRef spec0)) : V' c b = V c b :=
  hk c b fun h => hb (by
    simp only [List.mem_cons, List.not_mem_nil, or_false] at h
    rcases h with rfl | rfl | rfl | rfl
    · exact Finset.mem_image.mpr ⟨6, Finset.mem_univ _, rfl⟩
    · exact Finset.mem_image.mpr ⟨7, Finset.mem_univ _, rfl⟩
    · exact Finset.mem_image.mpr ⟨8, Finset.mem_univ _, rfl⟩
    · exact Finset.mem_image.mpr ⟨9, Finset.mem_univ _, rfl⟩)

/-- The first call. -/
def reg0 (h6 : ∀ c, V' c main_v3_0 = resA Va c)
    (h7 : ∀ c, V' c main_v3_1 = upA Va c)
    (h8 : ∀ c, V' c main_v3_2 = resB Va c)
    (h9 : ∀ c, V' c main_v3_3 = upB Va c)
    (hk : ∀ c b, b ∉ ([main_v3_0, main_v3_1, main_v3_2, main_v3_3] : List (Ref sig .tc)) → V' c b = Va c b) :
    RDat.RegionSeg (pcfgs (F := F)) adm (rdats Va Vb Vc) () (defs₀ (F := F)) Variants.none lev lvl 0 :=
  region (p := 0) (rdats Va Vb Vc) launch₀0
    (fun c => (obligation0 Va c).toRRel) (fun _ _ => rfl) (fun _ _ => rfl) (fun _ _ _ => rfl)
    (fun c => enter0 Va c) (fun c => leave0 Va c _) Va V' (fun _ _ => rfl)
    (hend0 Va V' h6 h7 h8 h9 hk) (hoff0 Va V' hk)

/-- A window of the call is an operand, whose array no result shares, or a result. -/
theorem sides1 : ∀ w : Fin cfg1.W, ((cfg1.win w).isOut = false ∧ Pipeline.arrRef spec1 w ∉ ([main_v82_0, main_v82_1] : List (Ref sig .tc))) ∨ w = 6 ∨ w = 7 := by decide +kernel

/-- What the second call leaves is what `V'` says, if `V'` has its results and is otherwise `V`. -/
theorem hend1 (h6 : ∀ c, V' c main_v82_0 = outS V c)
    (h7 : ∀ c, V' c main_v82_1 = outD V c)
    (hk : ∀ c b, b ∉ ([main_v82_0, main_v82_1] : List (Ref sig .tc)) → V' c b = V c b) (c : Dev nD) (G : (w : Fin cfg1.W) → Buf (Elt F) ((spec1 w).arr.view.loc (c : Thread nD τ)))
    (hG : ∀ w, ((dat1 V c).toRRel marked1 (left1 V c)).ArrAt w cfg1.N (G w)) (w : Fin cfg1.W) : G w = V' c (Pipeline.arrRef spec1 w) := by
  have hs := sides1 w
  have hGw := hG w
  clear hG
  rcases hs with ⟨hw, hn⟩ | rfl | rfl
  · exact kept _ w hw hGw (hk c _ hn)
  · exact (end1_6 V c _ hGw).trans (h6 c).symm
  · exact (end1_7 V c _ hGw).trans (h7 c).symm

/-- The arrays the second call does not write are as before. -/
theorem hoff1 (hk : ∀ c b, b ∉ ([main_v82_0, main_v82_1] : List (Ref sig .tc)) → V' c b = V c b) (c : Dev nD) (b : Ref sig .tc)
    (hb : b ∉ Finset.univ.image (Pipeline.arrRef spec1)) : V' c b = V c b :=
  hk c b fun h => hb (by
    simp only [List.mem_cons, List.not_mem_nil, or_false] at h
    rcases h with rfl | rfl
    · exact Finset.mem_image.mpr ⟨6, Finset.mem_univ _, rfl⟩
    · exact Finset.mem_image.mpr ⟨7, Finset.mem_univ _, rfl⟩)

/-- The second call. -/
def reg1 (h6 : ∀ c, V' c main_v82_0 = outS Vb c)
    (h7 : ∀ c, V' c main_v82_1 = outD Vb c)
    (hk : ∀ c b, b ∉ ([main_v82_0, main_v82_1] : List (Ref sig .tc)) → V' c b = Vb c b) :
    RDat.RegionSeg (pcfgs (F := F)) adm (rdats Va Vb Vc) () (defs₀ (F := F)) Variants.none lev lvl 1 :=
  region (p := 1) (rdats Va Vb Vc) ⟨cellOf_inj, winFacts1.to₀, (by decide : Pipeline.SharedIn spec1), block_pos1, arr_whole1, stage_whole1⟩
    (fun c => (obligation1 Vb c).toRRel) (fun _ _ => rfl) (fun _ _ => rfl) (fun _ _ _ => rfl)
    (fun c => enter1 Vb c) (fun c => leave1 Vb c _) Vb V' (fun _ _ => rfl)
    (hend1 Vb V' h6 h7 hk) (hoff1 Vb V' hk)

/-- A window of the call is an operand, whose array no result shares, or a result. -/
theorem sides2 : ∀ w : Fin cfg2.W, ((cfg2.win w).isOut = false ∧ Pipeline.arrRef spec2 w ∉ ([main_v83_0, main_v83_1] : List (Ref sig .tc))) ∨ w = 7 ∨ w = 8 := by decide +kernel

/-- What the third call leaves is what `V'` says, if `V'` has its results and is otherwise `V`. -/
theorem hend2 (h7 : ∀ c, V' c main_v83_0 = outU V c)
    (h8 : ∀ c, V' c main_v83_1 = outL V c)
    (hk : ∀ c b, b ∉ ([main_v83_0, main_v83_1] : List (Ref sig .tc)) → V' c b = V c b) (c : Dev nD) (G : (w : Fin cfg2.W) → Buf (Elt F) ((spec2 w).arr.view.loc (c : Thread nD τ)))
    (hG : ∀ w, ((dat2 V c).toRRel marked2 (left2 V c)).ArrAt w cfg2.N (G w)) (w : Fin cfg2.W) : G w = V' c (Pipeline.arrRef spec2 w) := by
  have hs := sides2 w
  have hGw := hG w
  clear hG
  rcases hs with ⟨hw, hn⟩ | rfl | rfl
  · exact kept _ w hw hGw (hk c _ hn)
  · exact (end2_7 V c _ hGw).trans (h7 c).symm
  · exact (end2_8 V c _ hGw).trans (h8 c).symm

/-- The arrays the third call does not write are as before. -/
theorem hoff2 (hk : ∀ c b, b ∉ ([main_v83_0, main_v83_1] : List (Ref sig .tc)) → V' c b = V c b) (c : Dev nD) (b : Ref sig .tc)
    (hb : b ∉ Finset.univ.image (Pipeline.arrRef spec2)) : V' c b = V c b :=
  hk c b fun h => hb (by
    simp only [List.mem_cons, List.not_mem_nil, or_false] at h
    rcases h with rfl | rfl
    · exact Finset.mem_image.mpr ⟨7, Finset.mem_univ _, rfl⟩
    · exact Finset.mem_image.mpr ⟨8, Finset.mem_univ _, rfl⟩)

/-- The third call. -/
def reg2 (h7 : ∀ c, V' c main_v83_0 = outU Vc c)
    (h8 : ∀ c, V' c main_v83_1 = outL Vc c)
    (hk : ∀ c b, b ∉ ([main_v83_0, main_v83_1] : List (Ref sig .tc)) → V' c b = Vc c b) :
    RDat.RegionSeg (pcfgs (F := F)) adm (rdats Va Vb Vc) () (defs₀ (F := F)) Variants.none lev lvl 2 :=
  region (p := 2) (rdats Va Vb Vc) ⟨cellOf_inj, winFacts2.to₀, (by decide : Pipeline.SharedIn spec2), block_pos2, arr_whole2, stage_whole2⟩
    (fun c => (obligation2 Vc c).toRRel) (fun _ _ => rfl) (fun _ _ => rfl) (fun _ _ _ => rfl)
    (fun c => enter2 Vc c) (fun c => leave2 Vc c _) Vc V' (fun _ _ => rfl)
    (hend2 Vc V' h7 h8 hk) (hoff2 Vc V' hk)

end Calls

/-! ## The program -/

/-- The host operations before the first call. -/
def host0 : Pipeline.HostSeg (Ix := Unit) (Name := ℕ) (U := Pipeline.UD sig nD τ) (Lvl := ℕ) (pcfgs (F := F)) defs₀ Variants.none lev lvl :=
  seg0 m Variants.none lev lvl (fun _ => idle)
/-- The host operations between the first call and the second. -/
def host1 : Pipeline.HostSeg (Ix := Unit) (Name := ℕ) (U := Pipeline.UD sig nD τ) (Lvl := ℕ) (pcfgs (F := F)) defs₀ Variants.none lev lvl :=
  seg2 m (outs m) Variants.none lev lvl (fun _ => idle)

/-- The three calls' proof data, on the contents the program hands them. -/
def data : (p : Fin 3) → (c : Dev nD) → RDat τ (Elt F) Unit ℕ (Pipeline.UD sig nD τ) ℕ (Pipeline.pin (pcfgs (F := F)) adm p) c :=
  rdats (at1 m) (at3 m) (at4 m)

/-- The first call in the program. -/
def call0 : RDat.RegionSeg (pcfgs (F := F)) adm (data m) () (defs₀ (F := F)) Variants.none lev lvl 0 :=
  reg0 (at1 m) (at3 m) (at4 m) (fun c b => V2 m (outs m) c b) (V2_0 m) (V2_1 m) (V2_2 m) (V2_3 m) (fun c b h => V2_of m (outs m) c b h)
/-- The second call in the program. -/
def call1 : RDat.RegionSeg (pcfgs (F := F)) adm (data m) () (defs₀ (F := F)) Variants.none lev lvl 1 :=
  reg1 (at1 m) (at3 m) (at4 m) (fun c b => V4 m (outs m) c b) (V4_0 m) (V4_1 m) (fun c b h => V4_of m (outs m) c b h)
/-- The third call in the program. -/
def call2 : RDat.RegionSeg (pcfgs (F := F)) adm (data m) () (defs₀ (F := F)) Variants.none lev lvl 2 :=
  reg2 (at1 m) (at3 m) (at4 m) (fun c b => V5 m (outs m) c b) (V5_0 m) (V5_1 m) (fun c b h => V5_of m (outs m) c b h)

/-- The items of the program, in order. -/
abbrev items : List (RDat.Seg (pcfgs (F := F)) adm (data m) () (defs₀ (F := F)) Variants.none lev lvl) :=
  [.host (host0 m), .region (call0 m), .host (host1 m), .region (call1 m), .region (call2 m)]

/-- The buffers held at a valuation, as the calls' records spell it. -/
theorem held_eq (c : Dev nD) (W : Valuation τ sig (Elt F)) :
    (StableHlo.held (c : Thread nD τ) (Pipeline.ucRefs τ sig) W : sProp 𝕄) = unscopedBufs c (fun b => W b) :=
  (Pipeline.unscopedBufs_held (Ix := Unit) (Name := ℕ) (U := Pipeline.UD sig nD τ) (Lvl := ℕ) c W).symm

-- the launch theorem's implicit arguments are found by unifying its conclusion with this one, unfolding definitions in types
set_option backward.isDefEq.respectTransparency.types false in
/-- What every device's share entails, all the shares entail together, whatever else is there. -/
theorem each (A B : Dev nD → sProp 𝕄) (L : sProp 𝕄) (h : ∀ c, A c ⊢ B c) :
    (iprop(bigSep Finset.univ A ∗ L) : sProp 𝕄) ⊢ bigSep Finset.univ B :=
  (show (iprop(bigSep Finset.univ A ∗ L) : sProp 𝕄) ⊢ bigSep Finset.univ A from by iintro ⟨H, -⟩; iexact H).trans
    (bigSep_mono fun c _ => h c)

/-- THE RUN. From any memory with every counter at zero the program terminates, and at the end every buffer outside the calls holds
    what the last valuation says, and every counter is zero. -/
theorem run_all (ρ : Dev nD → PrngReg) :
    θ_run defs (onTc (τ := τ) (main (F := F))) ⟨m, fun _ => 0, ρ⟩ (fun r => (∀ c : Dev nD, ∀ b ∈ Pipeline.ucRefs τ sig,
      r.2.mem (c, b) = V5 m (outs m) c b) ∧ r.2.sem = fun _ => 0) := by
  refine RDat.θ_run_regions_kit_dev_sems (pcfgs (F := F)) adm (data m) () cellOf_inj embL (defs₀ (F := F)) Variants.none lev lvl m ρ main
    (fun _ => items m)
    (fun c Q => by
      rewrite [main_chain c, RDat.Seg.run_eq_chain,
        show (items m).map RDat.Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (fun c => by simp only [items, RDat.Seg.pipes_host, RDat.Seg.pipes_region, RDat.Seg.pipes_nil]; decide)
    (fun _ => 0) (fun _ _ => rfl) (fun _ => BI.emp)
    (initOf (Pipeline.cells (Pipeline.pin (pcfgs (F := F)) adm) cellOf_inj) (Pipeline.launchToks (Pipeline.pin (pcfgs (F := F)) adm) cellOf_inj), 1)
    ?_
    (fun c => iprop(StableHlo.held (c : Thread nD τ) (Pipeline.ucRefs τ sig) (V0 m c) ∗ idle c))
    (fun c => StableHlo.held (c : Thread nD τ) (Pipeline.ucRefs τ sig) (V5 m (outs m) c))
    (fun c => ⟨.rfl, Laws.sep_mono (Entails.of_eq (held_eq c _)) .rfl, Laws.sep_mono (Entails.of_eq (held_eq c _).symm) .rfl,
      Laws.sep_mono (Entails.of_eq (held_eq c _)) .rfl, .rfl, Laws.sep_mono (Entails.of_eq (held_eq c _).symm) .rfl⟩)
    ?_
    (fun c s => ∀ b ∈ Pipeline.ucRefs τ sig, s.mem (c, b) = V5 m (outs m) c b)
    (fun c s' => ?_)
    (fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine (show _ ⊢ (bigSep Finset.univ fun c : Dev nD => iprop(StableHlo.held (c : Thread nD τ) (Pipeline.ucRefs τ sig) (V0 m c) ∗ idle c) : sProp 𝕄) from ?_).trans (by iintro H; imodintro; iexact H)
    have hone : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ iprop(StableHlo.held (c : Thread nD τ) (Pipeline.ucRefs τ sig) (V0 m c) ∗ idle c) := fun c => by
      rw [held_eq]
      unfold idle
      iintro ⟨Hh, -, HO, -⟩
      isplitl [Hh]; · iexact Hh
      iexists ∅; iexact HO
    exact each _ _ _ hone
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact fun b hb => h b hb
    · iexact HSI

/-- A buffer of the host program is among those the run's statement speaks of. -/
theorem mem_uc (b : Ref sig .tc) (h : b.isScoped = false) : (Proc.devRef .tc b : DevRef τ sig) ∈ Pipeline.ucRefs τ sig :=
  Finset.mem_filter.mpr ⟨StableHlo.devRef_mem_tcRefs b, by rw [show (Proc.devRef .tc b : DevRef τ sig).isScoped = b.isScoped from rfl, h]; decide⟩

end Cert.KernelIdeal.Hand

end
-- ==== Proof.Named.lean ====
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)
open Cert.Rows

variable {F : FTy → Type} [FloatOps F]

variable {F : FTy → Type} [FloatOps F]
variable (m : (ℓ : Loc nD τ sig) → Buf (Elt F) ℓ)

/-- A buffer of the host program read at the end. -/
theorem at_end {mem : (ℓ : Loc nD τ sig) → Buf (Elt F) ℓ} {c : Dev nD}
    (h : ∀ b ∈ Pipeline.ucRefs τ sig, mem (c, b) = V5 m (outs m) c b) (b : Ref sig .tc) (hb : b.isScoped = false) :
    mem ((c.tc : Thread nD τ).loc b) = V5 m (outs m) c b :=
  h _ (mem_uc b hb)

/-- The run with its results and arguments named: the three results hold the second call's first output and the third call's two,
    the arguments are as they were, and every counter is zero. -/
theorem run_named (ρ : Dev nD → PrngReg) :
    θ_run defs (onTc (τ := τ) (main (F := F))) ⟨m, fun _ => 0, ρ⟩ (fun r => (∀ c : Dev nD,
      r.2.mem ((c.tc : Thread nD τ).loc main_v82_0) = outS (at3 m) c
      ∧ r.2.mem ((c.tc : Thread nD τ).loc main_v83_0) = outU (at4 m) c
      ∧ r.2.mem ((c.tc : Thread nD τ).loc main_v83_1) = outL (at4 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r h => ⟨fun c => ?_, h.2⟩) (run_all m ρ)
  have hc := fun b => at_end m (h.1 c) b
  exact ⟨(hc main_v82_0 (by decide)).trans ((V5_of m (outs m) c main_v82_0 (by decide)).trans (V4_0 m c)),
    (hc main_v83_0 (by decide)).trans (V5_0 m c), (hc main_v83_1 (by decide)).trans (V5_1 m c),
    (hc main_arg0 (by decide)).trans (V5_main_arg0 m (outs m) c),
    (hc main_arg1 (by decide)).trans (V5_main_arg1 m (outs m) c),
    (hc main_arg2 (by decide)).trans (V5_main_arg2 m (outs m) c),
    (hc main_arg3 (by decide)).trans (V5_main_arg3 m (outs m) c),
    (hc main_arg4 (by decide)).trans (V5_main_arg4 m (outs m) c),
    (hc main_arg5 (by decide)).trans (V5_main_arg5 m (outs m) c),
    (hc main_arg6 (by decide)).trans (V5_main_arg6 m (outs m) c),
    (hc main_arg7 (by decide)).trans (V5_main_arg7 m (outs m) c),
    (hc main_arg8 (by decide)).trans (V5_main_arg8 m (outs m) c),
    (hc main_arg9 (by decide)).trans (V5_main_arg9 m (outs m) c),
    (hc main_arg10 (by decide)).trans (V5_main_arg10 m (outs m) c),
    (hc main_arg11 (by decide)).trans (V5_main_arg11 m (outs m) c)⟩

end Cert.KernelIdeal.Hand

end
-- ==== Proof.Entries.lean ====
module

public import proofs.«01_k».proof.Proof.Rows
public import Idealize.ShloMosaic.Lib.MatmulPlain
public import Idealize.ShloMosaic.Lib.StackMember
public import Idealize.ShloMosaic.Lib.Pointwise

@[expose] public section

set_option maxRecDepth 16384

noncomputable section

/-! Matrices of extended reals read entry by entry: a matrix is described by a function of two numbers, and every operation the
programs apply to matrices is an operation on those functions. -/

namespace Cert.Entries

open Idealize.ShloMosaic Cert.Rows

/-- The matrix `X` has the entries `f`. -/
def Is (m n : ℕ) (X : (⟨2, ![m, n]⟩ : Shape).Idx → EReal) (f : ℕ → ℕ → EReal) : Prop :=
  ∀ (i : Fin m) (j : Fin n), X (ix2 i j) = f i.val j.val

/-- The product of two matrices by their entries, the inner extent being `K`. -/
def prod (K : ℕ) (a b : ℕ → ℕ → EReal) : ℕ → ℕ → EReal := fun i j => ∑ q ∈ Finset.range K, a i q * b q j

variable {m n K : ℕ}

theorem Is.congr {X : (⟨2, ![m, n]⟩ : Shape).Idx → EReal} {f g : ℕ → ℕ → EReal} (h : Is m n X f)
    (hfg : ∀ i j, i < m → j < n → f i j = g i j) : Is m n X g :=
  fun i j => (h i j).trans (hfg _ _ i.isLt j.isLt)

/-- Two matrices with the same entries are equal. -/
theorem Is.ext {X Y : (⟨2, ![m, n]⟩ : Shape).Idx → EReal} {f : ℕ → ℕ → EReal} (hX : Is m n X f) (hY : Is m n Y f) : X = Y := by
  funext y
  have hy : y = ix2 (y 0) (y 1) := by funext a; fin_cases a <;> rfl
  rw [hy]
  exact (hX _ _).trans (hY _ _).symm

/-- Every matrix has the entries it has. -/
def ent (X : (⟨2, ![m, n]⟩ : Shape).Idx → EReal) : ℕ → ℕ → EReal :=
  fun i j => if h : i < m ∧ j < n then X (ix2 ⟨i, h.1⟩ ⟨j, h.2⟩) else 0

theorem is_ent (X : (⟨2, ![m, n]⟩ : Shape).Idx → EReal) : Is m n X (ent X) := fun i j => by
  unfold ent
  rw [dif_pos ⟨i.isLt, j.isLt⟩]

/-- Products with the same entries within the extents. -/
theorem prod_congr {a a' b b' : ℕ → ℕ → EReal} {i j : ℕ} (ha : ∀ q, q < K → a i q = a' i q) (hb : ∀ q, q < K → b q j = b' q j) :
    prod K a b i j = prod K a' b' i j :=
  Finset.sum_congr rfl fun q hq => by rw [ha q (Finset.mem_range.mp hq), hb q (Finset.mem_range.mp hq)]

/-- A sum over `p + r` numbers is the sum over the first `p` and the sum over the next `r`. -/
theorem prod_add (p r : ℕ) (a b : ℕ → ℕ → EReal) (i j : ℕ) :
    prod (p + r) a b i j = prod p a b i j + prod r (fun i q => a i (p + q)) (fun q j => b (p + q) j) i j :=
  Finset.sum_range_add _ _ _

/-- A block product added to an accumulator. -/
theorem Is.matmul {φ₁ φ₂ : FTy} {d : DotDims ⟨2, ![m, K]⟩ ⟨2, ![K, n]⟩ ⟨2, ![m, n]⟩} (hd : d = DotDims.plain m K n)
    {A : FVec Ideal ⟨2, ![m, K]⟩ φ₁} {B : FVec Ideal ⟨2, ![K, n]⟩ φ₂} {C : FVec Ideal ⟨2, ![m, n]⟩ .f32} {a b e : ℕ → ℕ → EReal}
    (hA : Is m K A a) (hB : Is K n B b) (hC : Is m n C e) :
    Is m n (FloatOps.matmul d none A B C) (fun i j => e i j + prod K a b i j) := fun i j => by
  subst hd
  refine (Ideal.matmul_plain_apply none A B C i j).trans ?_
  refine congrArg₂ (· + ·) (hC i j) ?_
  unfold prod
  rw [Finset.sum_range]
  exact Finset.sum_congr rfl fun q _ => congrArg₂ (· * ·) (hA i q) (hB q j)

/-- A product of the transpose of a matrix, added to an accumulator. -/
theorem Is.matmulT {Y C : (⟨2, ![m, n]⟩ : Shape).Idx → EReal} {A : (⟨2, ![K, m]⟩ : Shape).Idx → EReal} {B : (⟨2, ![K, n]⟩ : Shape).Idx → EReal}
    (hY : ∀ (i : Fin m) (j : Fin n), Y (ix2 i j) = C (ix2 i j) + ∑ q : Fin K, A (ix2 q i) * B (ix2 q j)) {a b e : ℕ → ℕ → EReal}
    (hA : Is K m A a) (hB : Is K n B b) (hC : Is m n C e) : Is m n Y (fun i j => e i j + prod K (fun i q => a q i) b i j) := fun i j => by
  rw [hY, hC i j]
  refine congrArg _ ?_
  unfold prod
  rw [Finset.sum_range]
  exact Finset.sum_congr rfl fun q _ => by rw [hA q i, hB q j]

/-- A product on the host. -/
theorem Is.dot {φ₁ φ₂ : FTy} {d : DotDims ⟨2, ![m, K]⟩ ⟨2, ![K, n]⟩ ⟨2, ![m, n]⟩} (hd : d = DotDims.plain m K n)
    {A : FVec Ideal ⟨2, ![m, K]⟩ φ₁} {B : FVec Ideal ⟨2, ![K, n]⟩ φ₂} {a b : ℕ → ℕ → EReal} (hA : Is m K A a) (hB : Is K n B b) :
    Is m n (Host.dotGeneral d none A B) (prod K a b) := fun i j => by
  subst hd
  refine (StackMember.dotGeneral_plain_apply none A B i j).trans ?_
  unfold prod
  rw [Finset.sum_range]
  exact Finset.sum_congr rfl fun q _ => congrArg₂ (· * ·) (hA i q) (hB q j)

theorem Is.addf {A B : FVec Ideal ⟨2, ![m, n]⟩ .f32} {a b : ℕ → ℕ → EReal} (hA : Is m n A a) (hB : Is m n B b) :
    Is m n (Idealize.ShloMosaic.addf A B) (fun i j => a i j + b i j) := fun i j =>
  (show _ = A (ix2 i j) + B (ix2 i j) from rfl).trans (by rw [hA i j, hB i j])

theorem Is.truncf {A : FVec Ideal ⟨2, ![m, n]⟩ .f32} {a : ℕ → ℕ → EReal} (hA : Is m n A a) (h : FTy.bf16.bits < FTy.f32.bits) :
    Is m n (Idealize.ShloMosaic.truncf .bf16 A h) a := fun i j => hA i j

theorem Is.shapeCast {A : (⟨2, ![m, n]⟩ : Shape).Idx → EReal} {a : ℕ → ℕ → EReal} (hA : Is m n A a)
    (h : Shape.ShapeCasts (⟨2, ![m, n]⟩ : Shape) ⟨2, ![m, n]⟩) :
    Is m n (Idealize.ShloMosaic.shapeCast ⟨2, ![m, n]⟩ A h) a := fun i j => by
  rw [Idealize.ShloMosaic.shapeCast_self]
  exact hA i j

theorem is_zero : Is m n (constant (F := Ideal) (⟨2, ![m, n]⟩ : Shape) .f32 0#32) (fun _ _ => 0) := fun i j =>
  Ideal.ofBits_zero_f32

theorem is_splat : Is m n (broadcast (⟨2, ![m, n]⟩ : Shape) (FloatOps.ofBits (F := Ideal) .f32 0#32)) (fun _ _ => 0) := fun i j =>
  Ideal.ofBits_zero_f32

/-- A slice of whole rows. -/
theorem Is.rows {m' o : ℕ} {A : (⟨2, ![m, n]⟩ : Shape).Idx → EReal} {a : ℕ → ℕ → EReal} (hA : Is m n A a)
    (h : Shape.Slices (⟨2, ![m, n]⟩ : Shape) ![o, 0] ⟨2, ![m', n]⟩) :
    Is m' n (extractStridedSlice ⟨2, ![m', n]⟩ ![o, 0] A h) (fun i j => a (o + i) j) := fun i j => by
  have h0 : o + m' ≤ m := h.2 0
  have hi := i.isLt
  refine Eq.trans ?_ (hA ⟨o + i.val, by omega⟩ j)
  show A _ = A _
  congr 1
  funext x; apply Fin.ext; fin_cases x
  · rfl
  · show 0 + j.val = j.val
    omega

/-- A tile. -/
theorem Is.tile {r c p q : ℕ} {A : (⟨2, ![m, n]⟩ : Shape).Idx → EReal} {a : ℕ → ℕ → EReal} (hA : Is m n A a)
    (h : ∀ x, (![r, c] : Fin 2 → ℕ) x + (![p, q] : Fin 2 → ℕ) x ≤ (![m, n] : Fin 2 → ℕ) x) :
    Is p q (tile A r c p q h) (fun i j => a (r + i) (c + j)) := fun i j => by
  have h0 : r + p ≤ m := h 0
  have h1 : c + q ≤ n := h 1
  have hi := i.isLt
  have hj := j.isLt
  refine Eq.trans ?_ (hA ⟨r + i.val, by omega⟩ ⟨c + j.val, by omega⟩)
  show A _ = A _
  congr 1
  funext x; apply Fin.ext; fin_cases x
  · show r + 1 * i.val = r + i.val
    omega
  · show c + 1 * j.val = c + j.val
    omega

/-- A stack whose slabs are the slabs of `f`. -/
theorem is_stack {b : ℕ} (hb : 0 < b) {slab : ℕ → (⟨2, ![b, n]⟩ : Shape).Idx → EReal} {f : ℕ → ℕ → EReal}
    (h : ∀ k, b * k < m → Is b n (slab k) (fun i j => f (b * k + i) j)) : Is m n (stack (n := m) hb slab) f := fun i j => by
  have hi := i.isLt
  have hdm := Nat.div_add_mod i.val b
  have hk : b * (i.val / b) < m := by omega
  refine (h (i.val / b) hk ⟨i.val % b, Nat.mod_lt _ hb⟩ j).trans ?_
  show f (b * (i.val / b) + i.val % b) _ = _
  rw [hdm]

end Cert.Entries

end
-- ==== Proof.Pays.lean ====
module

public import proofs.«01_k».proof.Proof.Entries
public import proofs.«01_k».proof.Proof.Body0
public import proofs.«01_k».proof.Proof.Body1
public import proofs.«01_k».proof.Proof.Body2

@[expose] public section

set_option maxRecDepth 16384

noncomputable section

/-! What the kernel's bodies compute, entry by entry, over the extended reals: products of row slabs with whole matrices, in chunks of
512 of the inner extent, are products with the whole inner extent. -/

namespace Cert.KernelIdeal.Hand

open Cert.KernelIdeal Cert.KernelIdeal.Gen
open Idealize.ShloMosaic Idealize.ShloMosaic.TcCoe Idealize.SL.Sem
open Cert.Rows Cert.Entries

theorem three_0 {β : Type} (a b c : β) : three a b c 0 = a := rfl

theorem three_1 {β : Type} (a b c : β) : three a b c 1 = b := rfl

theorem three_2 {β : Type} (a b c : β) : three a b c 2 = c := rfl

theorem prod_two (a b : ℕ → ℕ → EReal) (i j : ℕ) :
    prod 1024 a b i j = prod 512 a b i j + prod 512 (fun i q => a i (512 + q)) (fun q j => b (512 + q) j) i j :=
  prod_add 512 512 a b i j

theorem prod_four (a b : ℕ → ℕ → EReal) (i j : ℕ) :
    prod 2048 a b i j = prod 512 a b i j + prod 512 (fun i q => a i (512 + q)) (fun q j => b (512 + q) j) i j
      + prod 512 (fun i q => a i (1024 + q)) (fun q j => b (1024 + q) j) i j
      + prod 512 (fun i q => a i (1536 + q)) (fun q j => b (1536 + q) j) i j :=
  (prod_add 1536 512 a b i j).trans (congrArg (· + _) ((prod_add 1024 512 a b i j).trans (congrArg (· + _) (prod_two a b i j))))

theorem prod_six (a b : ℕ → ℕ → EReal) (i j : ℕ) :
    prod 3072 a b i j = prod 512 a b i j + prod 512 (fun i q => a i (512 + q)) (fun q j => b (512 + q) j) i j
      + prod 512 (fun i q => a i (1024 + q)) (fun q j => b (1024 + q) j) i j
      + prod 512 (fun i q => a i (1536 + q)) (fun q j => b (1536 + q) j) i j
      + prod 512 (fun i q => a i (2048 + q)) (fun q j => b (2048 + q) j) i j
      + prod 512 (fun i q => a i (2560 + q)) (fun q j => b (2560 + q) j) i j :=
  (prod_add 2560 512 a b i j).trans (congrArg (· + _) ((prod_add 2048 512 a b i j).trans (congrArg (· + _) (prod_four a b i j))))

/-- Four slices of 256 rows of the weights times four matrices of 256 columns. -/
def tail (w x h₁ h₂ h₃ : ℕ → ℕ → EReal) : ℕ → ℕ → EReal := fun i j =>
  prod 256 x w i j + prod 256 h₁ (fun q j => w (256 + q) j) i j + prod 256 h₂ (fun q j => w (512 + q) j) i j
    + prod 256 h₃ (fun q j => w (768 + q) j) i j

theorem hopS_is {A : Vec Ideal S1024x1024 .bf16} {B : Vec Ideal S1024x256 .bf16} {a b : ℕ → ℕ → EReal}
    (hA : Is 1024 1024 A a) (hB : Is 1024 256 B b) : Is 1024 256 (hopS A B) (prod 1024 a b) := by
  apply (newGoals := .nonDependentOnly) Is.congr
  · unfold hopS k1_pay9
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add]
    exact (prod_two a b i j).symm

theorem tailS_is {A : Vec Ideal S1024x1024 .bf16} {H₁ H₂ X : Vec Ideal S1024x256 .bf16} {W : Vec Ideal S1024x128 .bf16}
    {a x h₁ h₂ w : ℕ → ℕ → EReal} (hA : Is 1024 1024 A a) (h1 : Is 1024 256 H₁ h₁) (h2 : Is 1024 256 H₂ h₂) (hX : Is 1024 256 X x)
    (hW : Is 1024 128 W w) : Is 1024 128 (tailS A H₁ H₂ X W) (tail w x h₁ h₂ (prod 1024 a h₂)) := by
  apply (newGoals := .nonDependentOnly) Is.congr
  · unfold tailS k1_pay7 k1_pay11 k1_pay12 k1_pay10
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add, ← prod_two]
    rfl

theorem pay1_2_is {A : Vec Ideal S512x1024 .f32} {a : ℕ → ℕ → EReal} (hA : Is 512 1024 A a) : Is 512 1024 (k1_pay2 A) a := by
  apply (newGoals := .nonDependentOnly) Is.congr
  · unfold k1_pay2 k1_pay1
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    rfl

theorem pay1_5_is {A : Vec Ideal S512x3072 .f32} {a : ℕ → ℕ → EReal} (hA : Is 512 3072 A a) : Is 512 3072 (k1_pay5 A) a := by
  apply (newGoals := .nonDependentOnly) Is.congr
  · unfold k1_pay5 k1_pay4
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    rfl

theorem pay2_33_is {A : Vec Ideal S512x3072 .f32} {a : ℕ → ℕ → EReal} (hA : Is 512 3072 A a) : Is 512 3072 (k2_pay33 A) a := by
  apply (newGoals := .nonDependentOnly) Is.congr
  · unfold k2_pay33 k2_pay32
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    rfl

theorem pay2_36_is {A : Vec Ideal S128x2048 .f32} {a : ℕ → ℕ → EReal} (hA : Is 128 2048 A a) : Is 128 2048 (k2_pay36 A) a := by
  apply (newGoals := .nonDependentOnly) Is.congr
  · unfold k2_pay36 k2_pay35
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    rfl

theorem pay0_6_is {A : Vec Ideal S3072x128 .f32} {a : ℕ → ℕ → EReal} (hA : Is 3072 128 A a) : Is 3072 128 (k0_pay6 A) a := by
  apply (newGoals := .nonDependentOnly) Is.congr
  · unfold k0_pay6
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    rfl

theorem pay0_12_is {A : Vec Ideal S2048x128 .f32} {a : ℕ → ℕ → EReal} (hA : Is 2048 128 A a) : Is 2048 128 (k0_pay12 A) a := by
  apply (newGoals := .nonDependentOnly) Is.congr
  · unfold k0_pay12
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    rfl

theorem pay1_3_is {A : Vec Ideal S512x1024 .f32} {B : Vec Ideal S1024x256 .bf16} {a b : ℕ → ℕ → EReal} (hA : Is 512 1024 A a) (hB : Is 1024 256 B b) :
    Is 512 256 (k1_pay3 A B) (prod 1024 a b) := by
  apply (newGoals := .nonDependentOnly) Is.congr
  · unfold k1_pay3 k1_pay1
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add]

theorem pay1_6_is {A : Vec Ideal S512x3072 .f32} {B : Vec Ideal S3072x256 .bf16} {a b : ℕ → ℕ → EReal} (hA : Is 512 3072 A a) (hB : Is 3072 256 B b) :
    Is 512 256 (k1_pay6 A B) (prod 3072 a b) := by
  apply (newGoals := .nonDependentOnly) Is.congr
  · unfold k1_pay6 k1_pay4
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add]

theorem pay2_34_is {A : Vec Ideal S512x3072 .f32} {B : Vec Ideal S3072x256 .bf16} {a b : ℕ → ℕ → EReal} (hA : Is 512 3072 A a) (hB : Is 3072 256 B b) :
    Is 512 256 (k2_pay34 A B) (prod 3072 a b) := by
  apply (newGoals := .nonDependentOnly) Is.congr
  · unfold k2_pay34 k2_pay32
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add]

theorem pay2_37_is {A : Vec Ideal S128x2048 .f32} {B : Vec Ideal S2048x256 .bf16} {a b : ℕ → ℕ → EReal} (hA : Is 128 2048 A a) (hB : Is 2048 256 B b) :
    Is 128 256 (k2_pay37 A B) (prod 2048 a b) := by
  apply (newGoals := .nonDependentOnly) Is.congr
  · unfold k2_pay37 k2_pay35
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add]

theorem pay0_2_is {A : Vec Ideal S512x3072 .f32} {B : Vec Ideal S3072x128 .bf16} {a b : ℕ → ℕ → EReal} (hA : Is 512 3072 A a) (hB : Is 3072 128 B b) :
    Is 512 128 (k0_pay2 A B) (prod 3072 a b) := by
  apply (newGoals := .nonDependentOnly) Is.congr
  · unfold k0_pay2 k0_pay1
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add]

theorem pay0_8_is {A : Vec Ideal S1024x2048 .f32} {B : Vec Ideal S2048x128 .bf16} {a b : ℕ → ℕ → EReal} (hA : Is 1024 2048 A a) (hB : Is 2048 128 B b) :
    Is 1024 128 (k0_pay8 A B) (prod 2048 a b) := by
  apply (newGoals := .nonDependentOnly) Is.congr
  · unfold k0_pay8 k0_pay7
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add]

theorem hopD_is {A : Vec Ideal S3072x3072 .bf16} {B : Vec Ideal S3072x256 .bf16} {a b : ℕ → ℕ → EReal}
    (hA : Is 3072 3072 A a) (hB : Is 3072 256 B b) : Is 3072 256 (hopD A B) (prod 3072 a b) := by
  unfold hopD
  refine is_stack (by decide) fun k hk => ?_
  have hk' : k < 3 := by omega
  interval_cases k
  · apply (newGoals := .nonDependentOnly) Is.congr
    · rw [three_0]
      unfold k1_pay14 k1_pay13
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      exact (prod_six a b _ j).symm
  · apply (newGoals := .nonDependentOnly) Is.congr
    · rw [three_1]
      unfold k1_pay16 k1_pay15
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      exact (prod_six a b _ j).symm
  · apply (newGoals := .nonDependentOnly) Is.congr
    · rw [three_2]
      unfold k1_pay18 k1_pay17
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      exact (prod_six a b _ j).symm

theorem hopU_is {A : Vec Ideal S3072x3072 .bf16} {B : Vec Ideal S3072x256 .bf16} {a b : ℕ → ℕ → EReal}
    (hA : Is 3072 3072 A a) (hB : Is 3072 256 B b) (k : ℕ) (hk : k < 6) :
    Is 512 256 (hopU A B k) (fun i j => prod 3072 a b (512 * k + i) j) := by
  apply (newGoals := .nonDependentOnly) Is.congr
  · unfold hopU k2_pay38 k2_pay7
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add, Nat.mod_eq_of_lt hk]
    exact (prod_six a b _ j).symm

theorem hopL_is {A : Vec Ideal S2048x2048 .bf16} {B : Vec Ideal S2048x256 .bf16} {a b : ℕ → ℕ → EReal}
    (hA : Is 2048 2048 A a) (hB : Is 2048 256 B b) : Is 2048 256 (hopL A B) (prod 2048 a b) := by
  unfold hopL
  refine is_stack (by decide) fun k hk => ?_
  have hk' : k < 2 := by omega
  interval_cases k
  · apply (newGoals := .nonDependentOnly) Is.congr
    · unfold hopLs
      rw [three_0]
      unfold k2_pay25
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      exact (prod_four a b _ j).symm
  · apply (newGoals := .nonDependentOnly) Is.congr
    · unfold hopLs
      rw [three_1]
      unfold k2_pay27 k2_pay26
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      exact (prod_four a b _ j).symm

theorem tailD_is {A : Vec Ideal S3072x3072 .bf16} {H₁ H₂ X : Vec Ideal S3072x256 .bf16} {W : Vec Ideal S1024x128 .bf16}
    {a x h₁ h₂ w : ℕ → ℕ → EReal} (hA : Is 3072 3072 A a) (h1 : Is 3072 256 H₁ h₁) (h2 : Is 3072 256 H₂ h₂) (hX : Is 3072 256 X x)
    (hW : Is 1024 128 W w) : Is 3072 128 (tailD A H₁ H₂ X W) (tail w x h₁ h₂ (prod 3072 a h₂)) := by
  unfold tailD
  refine is_stack (by decide) fun k hk => ?_
  have hk' : k < 3 := by omega
  interval_cases k
  · apply (newGoals := .nonDependentOnly) Is.congr
    · rw [three_0]
      unfold k1_pay21 k1_pay20 k1_pay19
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      refine congrArg₂ (· + ·) rfl (Finset.sum_congr rfl fun q _ => congrArg₂ (· * ·) ?_ rfl)
      exact (prod_six a h₂ _ q).symm
  · apply (newGoals := .nonDependentOnly) Is.congr
    · rw [three_1]
      unfold k1_pay25 k1_pay24 k1_pay23 k1_pay22 k1_pay19
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      refine congrArg₂ (· + ·) rfl (Finset.sum_congr rfl fun q _ => congrArg₂ (· * ·) ?_ rfl)
      exact (prod_six a h₂ _ q).symm
  · apply (newGoals := .nonDependentOnly) Is.congr
    · rw [three_2]
      unfold k1_pay8 k1_pay26 k1_pay27 k1_pay19
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      refine congrArg₂ (· + ·) rfl (Finset.sum_congr rfl fun q _ => congrArg₂ (· * ·) ?_ rfl)
      exact (prod_six a h₂ _ q).symm

theorem tailL_is {A : Vec Ideal S2048x2048 .bf16} {H₁ H₂ X : Vec Ideal S2048x256 .bf16} {W : Vec Ideal S1024x128 .bf16}
    {a x h₁ h₂ w : ℕ → ℕ → EReal} (hA : Is 2048 2048 A a) (h1 : Is 2048 256 H₁ h₁) (h2 : Is 2048 256 H₂ h₂) (hX : Is 2048 256 X x)
    (hW : Is 1024 128 W w) : Is 2048 128 (tailL A H₁ H₂ X W) (tail w x h₁ h₂ (prod 2048 a h₂)) := by
  unfold tailL
  refine is_stack (by decide) fun k hk => ?_
  have hk' : k < 2 := by omega
  interval_cases k
  · apply (newGoals := .nonDependentOnly) Is.congr
    · rw [three_0]
      unfold k2_pay30 k2_pay29 k2_pay28
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      refine congrArg₂ (· + ·) rfl (Finset.sum_congr rfl fun q _ => congrArg₂ (· * ·) ?_ rfl)
      exact (prod_four a h₂ _ q).symm
  · apply (newGoals := .nonDependentOnly) Is.congr
    · rw [three_1]
      unfold k2_pay6 k2_pay31 k2_pay28
      dsimp only
      repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
      all_goals rfl
    · intro i j hi hj
      simp only [zero_add, Nat.mul_zero, Nat.mul_one, Nat.reduceMul]
      refine congrArg₂ (· + ·) rfl (Finset.sum_congr rfl fun q _ => congrArg₂ (· * ·) ?_ rfl)
      exact (prod_four a h₂ _ q).symm

theorem tailU_is {A : Vec Ideal S3072x3072 .bf16} {H₁ H₂ X : Vec Ideal S3072x256 .bf16} {W : Vec Ideal S1024x128 .bf16}
    {a x h₁ h₂ w : ℕ → ℕ → EReal} (hA : Is 3072 3072 A a) (h1 : Is 3072 256 H₁ h₁) (h2 : Is 3072 256 H₂ h₂) (hX : Is 3072 256 X x)
    (hW : Is 1024 128 W w) {P : Vec Ideal S3072x128 .f32} {e : ℕ → ℕ → EReal} (hP : Is 3072 128 P e) (k : ℕ) (hk : k < 6) :
    Is 512 128 (tailU A H₁ H₂ X W P k) (fun i j => tail w x h₁ h₂ (prod 3072 a h₂) (512 * k + i) j + e (512 * k + i) j) := by
  apply (newGoals := .nonDependentOnly) Is.congr
  · unfold tailU k2_pay44 k2_pay14 k2_pay13
    dsimp only
    repeat' with_reducible first | exact is_zero | exact is_splat | assumption | apply (newGoals := .nonDependentOnly) Is.addf | apply (newGoals := .nonDependentOnly) Is.matmul | apply (newGoals := .nonDependentOnly) Is.truncf | apply (newGoals := .nonDependentOnly) Is.shapeCast | apply (newGoals := .nonDependentOnly) Is.rows | apply (newGoals := .nonDependentOnly) Is.tile
    all_goals rfl
  · intro i j hi hj
    simp only [zero_add, Nat.mod_eq_of_lt hk]
    refine congrArg₂ (· + ·) (congrArg₂ (· + ·) rfl (Finset.sum_congr rfl fun q _ => congrArg₂ (· * ·) ?_ rfl)) rfl
    exact (prod_six a h₂ _ q).symm

end Cert.KernelIdeal.Hand

end
-- ==== Proof.Blocks.lean ====
module

public import proofs.«01_k».proof.Proof.Pays
public import proofs.«01_k».proof.Proof.Ends

@[expose] public section

set_option maxRecDepth 16384

noncomputable section

/-! The entries of the blocks that the three calls read: a block of whole rows of an array has the entries of those rows. -/

namespace Cert.KernelIdeal.Hand

open Cert.KernelIdeal Cert.KernelIdeal.Gen
open Idealize.ShloMosaic Idealize.ShloMosaic.TcCoe Idealize.SL.Sem
open Cert.Rows Cert.Entries

/-- A block of whole rows. -/
theorem read_is {m n b : ℕ} {X : (⟨2, ![m, n]⟩ : Shape).Idx → EReal} {f : ℕ → ℕ → EReal} (h : Is m n X f) (o : ℕ)
    (g : (⟨2, ![b, n]⟩ : Shape).Idx → (⟨2, ![m, n]⟩ : Shape).Idx) (h0 : ∀ y, (g y 0).val = o + (y 0).val) (h1 : ∀ y, (g y 1).val = (y 1).val) :
    Is b n (fun y => X (g y)) (fun i j => f (o + i) j) := fun i j => by
  have hg : g (ix2 i j) = ix2 (n0 := m) (n1 := n) (g (ix2 i j) 0) (g (ix2 i j) 1) := by funext a; fin_cases a <;> rfl
  exact (congrArg X hg).trans ((h _ _).trans (congrArg₂ f (h0 (ix2 i j)) (h1 (ix2 i j))))

variable (V : (c : Dev nD) → (b : Ref sig .tc) → Buf (Elt Ideal) ((c : Thread nD τ).loc b)) (c : Dev nD)

/-- Two row blocks of the first matrix of the second call. -/
theorem blk1_0_is {f : ℕ → ℕ → EReal} (h : Is 1024 1024 (V c main_arg3) f) (s : ℕ) (hs : s < 2) :
    Is 512 1024 (blk1 V c 0 (pt1 s)) (fun i j => f (512 * s + i) j) := by
  have e : win1_0.index (pt1 s) = ![s, 0] := by interval_cases s <;> decide +kernel
  exact read_is h (512 * s) ((cfg1.win 0).blk (pt1 s)).view.emb (fun y => by blk_simp [e]; omega) (fun y => by blk_simp [e])

/-- Six row blocks of its second matrix. -/
theorem blk1_1_is {f : ℕ → ℕ → EReal} (h : Is 3072 3072 (V c main_arg4) f) (s : ℕ) (hs : s < 6) :
    Is 512 3072 (blk1 V c 1 (pt1 (s + 2))) (fun i j => f (512 * s + i) j) := by
  have e : win1_1.index (pt1 (s + 2)) = ![s, 0] := by interval_cases s <;> decide +kernel
  exact read_is h (512 * s) ((cfg1.win 1).blk (pt1 (s + 2))).view.emb (fun y => by blk_simp [e]; omega) (fun y => by blk_simp [e])

/-- The first columns, whole. -/
theorem blk1_2_is {f : ℕ → ℕ → EReal} (h : Is 1024 256 (V c main_v4) f) (t : Fin cfg1.N) : Is 1024 256 (blk1 V c 2 t) f := by
  have e : win1_2.index t = ![0, 0] := (by decide +kernel : ∀ t : Fin grid1.N, win1_2.index t = ![0, 0]) t
  refine (read_is h 0 ((cfg1.win 2).blk t).view.emb (fun y => by blk_simp [e]) (fun y => by blk_simp [e])).congr fun i j _ _ => ?_
  simp only [Nat.zero_add]

/-- The second columns, whole. -/
theorem blk1_3_is {f : ℕ → ℕ → EReal} (h : Is 3072 256 (V c main_v5) f) (t : Fin cfg1.N) : Is 3072 256 (blk1 V c 3 t) f := by
  have e : win1_3.index t = ![0, 0] := (by decide +kernel : ∀ t : Fin grid1.N, win1_3.index t = ![0, 0]) t
  refine (read_is h 0 ((cfg1.win 3).blk t).view.emb (fun y => by blk_simp [e]) (fun y => by blk_simp [e])).congr fun i j _ _ => ?_
  simp only [Nat.zero_add]

/-- The first weights, whole. -/
theorem blk1_4_is {f : ℕ → ℕ → EReal} (h : Is 1024 128 (V c main_v26) f) (t : Fin cfg1.N) : Is 1024 128 (blk1 V c 4 t) f := by
  have e : win1_4.index t = ![0, 0] := (by decide +kernel : ∀ t : Fin grid1.N, win1_4.index t = ![0, 0]) t
  refine (read_is h 0 ((cfg1.win 4).blk t).view.emb (fun y => by blk_simp [e]) (fun y => by blk_simp [e])).congr fun i j _ _ => ?_
  simp only [Nat.zero_add]

/-- The second weights, whole. -/
theorem blk1_5_is {f : ℕ → ℕ → EReal} (h : Is 1024 128 (V c main_v45) f) (t : Fin cfg1.N) : Is 1024 128 (blk1 V c 5 t) f := by
  have e : win1_5.index t = ![0, 0] := (by decide +kernel : ∀ t : Fin grid1.N, win1_5.index t = ![0, 0]) t
  refine (read_is h 0 ((cfg1.win 5).blk t).view.emb (fun y => by blk_simp [e]) (fun y => by blk_simp [e])).congr fun i j _ _ => ?_
  simp only [Nat.zero_add]

/-- Six row blocks of the first matrix of the third call. -/
theorem blk2_0_is {f : ℕ → ℕ → EReal} (h : Is 3072 3072 (V c main_arg5) f) (s : ℕ) (hs : s < 6) :
    Is 512 3072 (blk2 V c 0 (pt2 s)) (fun i j => f (512 * s + i) j) := by
  have e : win2_0.index (pt2 s) = ![s, 0] := by interval_cases s <;> decide +kernel
  exact read_is h (512 * s) ((cfg2.win 0).blk (pt2 s)).view.emb (fun y => by blk_simp [e]; omega) (fun y => by blk_simp [e])

/-- Sixteen row blocks of its second matrix. -/
theorem blk2_1_is {f : ℕ → ℕ → EReal} (h : Is 2048 2048 (V c main_arg6) f) (s : ℕ) (hs : s < 16) :
    Is 128 2048 (blk2 V c 1 (pt2 (s + 6))) (fun i j => f (128 * s + i) j) := by
  have e : win2_1.index (pt2 (s + 6)) = ![s, 0] := by interval_cases s <;> decide +kernel
  exact read_is h (128 * s) ((cfg2.win 1).blk (pt2 (s + 6))).view.emb (fun y => by blk_simp [e]; omega) (fun y => by blk_simp [e])

/-- The first columns, whole. -/
theorem blk2_2_is {f : ℕ → ℕ → EReal} (h : Is 3072 256 (V c main_v6) f) (t : Fin cfg2.N) : Is 3072 256 (blk2 V c 2 t) f := by
  have e : win2_2.index t = ![0, 0] := (by decide +kernel : ∀ t : Fin grid2.N, win2_2.index t = ![0, 0]) t
  refine (read_is h 0 ((cfg2.win 2).blk t).view.emb (fun y => by blk_simp [e]) (fun y => by blk_simp [e])).congr fun i j _ _ => ?_
  simp only [Nat.zero_add]

/-- The second columns, whole. -/
theorem blk2_3_is {f : ℕ → ℕ → EReal} (h : Is 2048 256 (V c main_v7) f) (t : Fin cfg2.N) : Is 2048 256 (blk2 V c 3 t) f := by
  have e : win2_3.index t = ![0, 0] := (by decide +kernel : ∀ t : Fin grid2.N, win2_3.index t = ![0, 0]) t
  refine (read_is h 0 ((cfg2.win 3).blk t).view.emb (fun y => by blk_simp [e]) (fun y => by blk_simp [e])).congr fun i j _ _ => ?_
  simp only [Nat.zero_add]

/-- The first weights, whole. -/
theorem blk2_4_is {f : ℕ → ℕ → EReal} (h : Is 1024 128 (V c main_v62) f) (t : Fin cfg2.N) : Is 1024 128 (blk2 V c 4 t) f := by
  have e : win2_4.index t = ![0, 0] := (by decide +kernel : ∀ t : Fin grid2.N, win2_4.index t = ![0, 0]) t
  refine (read_is h 0 ((cfg2.win 4).blk t).view.emb (fun y => by blk_simp [e]) (fun y => by blk_simp [e])).congr fun i j _ _ => ?_
  simp only [Nat.zero_add]

/-- The second weights, whole. -/
theorem blk2_5_is {f : ℕ → ℕ → EReal} (h : Is 1024 128 (V c main_v81) f) (t : Fin cfg2.N) : Is 1024 128 (blk2 V c 5 t) f := by
  have e : win2_5.index t = ![0, 0] := (by decide +kernel : ∀ t : Fin grid2.N, win2_5.index t = ![0, 0]) t
  refine (read_is h 0 ((cfg2.win 5).blk t).view.emb (fun y => by blk_simp [e]) (fun y => by blk_simp [e])).congr fun i j _ _ => ?_
  simp only [Nat.zero_add]

/-- The part the second call carried over, whole. -/
theorem blk2_6_is {f : ℕ → ℕ → EReal} (h : Is 3072 128 (V c main_v82_1) f) (t : Fin cfg2.N) : Is 3072 128 (blk2 V c 6 t) f := by
  have e : win2_6.index t = ![0, 0] := (by decide +kernel : ∀ t : Fin grid2.N, win2_6.index t = ![0, 0]) t
  refine (read_is h 0 ((cfg2.win 6).blk t).view.emb (fun y => by blk_simp [e]) (fun y => by blk_simp [e])).congr fun i j _ _ => ?_
  simp only [Nat.zero_add]

/-- The second signal, whole, in the first call. -/
theorem blk0_3_is {f : ℕ → ℕ → EReal} (h : Is 3072 128 (V c main_v1) f) (t : Fin cfg0.N) : Is 3072 128 (blk0 V c 3 t) f := by
  have e : win0_3.index t = ![0, 0] := (by decide +kernel : ∀ t : Fin grid0.N, win0_3.index t = ![0, 0]) t
  refine (read_is h 0 ((cfg0.win 3).blk t).view.emb (fun y => by blk_simp [e]) (fun y => by blk_simp [e])).congr fun i j _ _ => ?_
  simp only [Nat.zero_add]

/-- The third signal, whole, in the first call. -/
theorem blk0_5_is {f : ℕ → ℕ → EReal} (h : Is 2048 128 (V c main_v2) f) (t : Fin cfg0.N) : Is 2048 128 (blk0 V c 5 t) f := by
  have e : win0_5.index t = ![0, 0] := (by decide +kernel : ∀ t : Fin grid0.N, win0_5.index t = ![0, 0]) t
  refine (read_is h 0 ((cfg0.win 5).blk t).view.emb (fun y => by blk_simp [e]) (fun y => by blk_simp [e])).congr fun i j _ _ => ?_
  simp only [Nat.zero_add]

/-- The points of the first phase of the first call, and those of its second. -/
def ptA (s : ℕ) : Fin cfg0.N := if s = 0 then t0_0 else t0_1
def ptB (s : ℕ) : Fin cfg0.N := if s = 0 then t0_2 else if s = 1 then t0_3 else t0_4

/-- Two row blocks of the first matrix of the first call. -/
theorem blk0_0_is {f : ℕ → ℕ → EReal} (h : Is 1024 3072 (V c main_arg7) f) (s : ℕ) (hs : s < 2) :
    Is 512 3072 (blk0 V c 0 (ptA s)) (fun i j => f (512 * s + i) j) := by
  have e : win0_0.index (ptA s) = ![s, 0] := by interval_cases s <;> decide +kernel
  exact read_is h (512 * s) ((cfg0.win 0).blk (ptA s)).view.emb (fun y => by blk_simp [e]; omega) (fun y => by blk_simp [e])

/-- Three row blocks of its second matrix. -/
theorem blk0_1_is {f : ℕ → ℕ → EReal} (h : Is 3072 2048 (V c main_arg8) f) (s : ℕ) (hs : s < 3) :
    Is 1024 2048 (blk0 V c 1 (ptB s)) (fun i j => f (1024 * s + i) j) := by
  have e : win0_1.index (ptB s) = ![s, 0] := by interval_cases s <;> decide +kernel
  exact read_is h (1024 * s) ((cfg0.win 1).blk (ptB s)).view.emb (fun y => by blk_simp [e]; omega) (fun y => by blk_simp [e])

/-- The same rows of the first signal. -/
theorem blk0_2_is {f : ℕ → ℕ → EReal} (h : Is 1024 128 (V c main_v0) f) (s : ℕ) (hs : s < 2) :
    Is 512 128 (blk0 V c 2 (ptA s)) (fun i j => f (512 * s + i) j) := by
  have e : win0_2.index (ptA s) = ![s, 0] := by interval_cases s <;> decide +kernel
  exact read_is h (512 * s) ((cfg0.win 2).blk (ptA s)).view.emb (fun y => by blk_simp [e]; omega) (fun y => by blk_simp [e])

/-- The same rows of the second signal. -/
theorem blk0_4_is {f : ℕ → ℕ → EReal} (h : Is 3072 128 (V c main_v1) f) (s : ℕ) (hs : s < 3) :
    Is 1024 128 (blk0 V c 4 (ptB s)) (fun i j => f (1024 * s + i) j) := by
  have e : win0_4.index (ptB s) = ![s, 0] := by interval_cases s <;> decide +kernel
  exact read_is h (1024 * s) ((cfg0.win 4).blk (ptB s)).view.emb (fun y => by blk_simp [e]; omega) (fun y => by blk_simp [e])

end Cert.KernelIdeal.Hand

end
-- ==== Proof.Stacks.lean ====
module

public import proofs.«01_k».proof.Proof.Entries
public import Idealize.ShloMosaic.Lib.Pipeline.Value

@[expose] public section

set_option maxRecDepth 16384

noncomputable section

/-! Matrices put side by side, one under the other, or one behind the other, entry by entry; and the sum over the two inner axes of
a stack of matrices and a stack of weights. -/

namespace Cert.Entries

open Idealize.ShloMosaic Cert.Rows

variable {m n p K : ℕ}

/-- The stack of matrices `X` has the entries `f`: row, column, place in the stack. -/
def Is3 (m n K : ℕ) (X : (⟨3, ![m, n, K]⟩ : Shape).Idx → EReal) (f : ℕ → ℕ → ℕ → EReal) : Prop :=
  ∀ (i : Fin m) (q : Fin n) (k : Fin K), X (ix3 i q k) = f i.val q.val k.val

/-- Every stack of matrices has the entries it has. -/
def ent3 (X : (⟨3, ![m, n, K]⟩ : Shape).Idx → EReal) : ℕ → ℕ → ℕ → EReal :=
  fun i q k => if h : i < m ∧ q < n ∧ k < K then X (ix3 ⟨i, h.1⟩ ⟨q, h.2.1⟩ ⟨k, h.2.2⟩) else 0

theorem is_ent3 (X : (⟨3, ![m, n, K]⟩ : Shape).Idx → EReal) : Is3 m n K X (ent3 X) := fun i q k => by
  unfold ent3
  rw [dif_pos ⟨i.isLt, q.isLt, k.isLt⟩]

theorem Is3.congr {X : (⟨3, ![m, n, K]⟩ : Shape).Idx → EReal} {f g : ℕ → ℕ → ℕ → EReal} (h : Is3 m n K X f)
    (hfg : ∀ i q k, i < m → q < n → k < K → f i q k = g i q k) : Is3 m n K X g :=
  fun i q k => (h i q k).trans (hfg _ _ _ i.isLt q.isLt k.isLt)

/-- Two matrices side by side, the first having `w` columns. -/
def beside (w : ℕ) (a b : ℕ → ℕ → EReal) : ℕ → ℕ → EReal := fun i j => if j < w then a i j else b i (j - w)

/-- Two stacks of matrices, one behind the other, the first of `w` matrices. -/
def behind (w : ℕ) (a b : ℕ → ℕ → ℕ → EReal) : ℕ → ℕ → ℕ → EReal := fun i q k => if k < w then a i q k else b i q (k - w)

theorem Is.beside {n₁ n₂ : ℕ} {A : (⟨2, ![m, n₁]⟩ : Shape).Idx → EReal} {B : (⟨2, ![m, n₂]⟩ : Shape).Idx → EReal} {a b : ℕ → ℕ → EReal}
    (hA : Is m n₁ A a) (hB : Is m n₂ B b)
    (h : Shape.Concatenates [(⟨2, ![m, n₁]⟩ : Shape), ⟨2, ![m, n₂]⟩] (⟨2, ![m, n]⟩ : Shape) 1) :
    Is m n (concatenate (⟨2, ![m, n]⟩ : Shape) 1 [⟨_, A⟩, ⟨_, B⟩] h) (beside n₁ a b) := fun i j => by
  have hs := h.2.2
  have hs' : n₁ + n₂ = n := by simpa using hs
  have hj := j.isLt
  rw [concatenate_pair_apply]
  unfold Entries.beside
  by_cases hlt : j.val < n₁
  · rw [if_pos hlt]
    refine Eq.trans ((dif_pos (show ((ix2 i j : (⟨2, ![m, n]⟩ : Shape).Idx) 1).val < n₁ from hlt)).trans ?_) (hA i ⟨j.val, hlt⟩)
    congr 1
    funext x; fin_cases x <;> rfl
  · rw [if_neg hlt]
    refine Eq.trans ((dif_neg (show ¬ ((ix2 i j : (⟨2, ![m, n]⟩ : Shape).Idx) 1).val < n₁ from hlt)).trans ?_) (hB i ⟨j.val - n₁, by omega⟩)
    congr 1
    funext x; fin_cases x <;> rfl

theorem Is3.behind {K₁ K₂ : ℕ} {A : (⟨3, ![m, n, K₁]⟩ : Shape).Idx → EReal} {B : (⟨3, ![m, n, K₂]⟩ : Shape).Idx → EReal}
    {a b : ℕ → ℕ → ℕ → EReal} (hA : Is3 m n K₁ A a) (hB : Is3 m n K₂ B b)
    (h : Shape.Concatenates [(⟨3, ![m, n, K₁]⟩ : Shape), ⟨3, ![m, n, K₂]⟩] (⟨3, ![m, n, K]⟩ : Shape) 2) :
    Is3 m n K (concatenate (⟨3, ![m, n, K]⟩ : Shape) 2 [⟨_, A⟩, ⟨_, B⟩] h) (behind K₁ a b) := fun i q k => by
  have hs := h.2.2
  have hs' : K₁ + K₂ = K := by simpa using hs
  have hj := k.isLt
  rw [concatenate_pair_apply]
  unfold Entries.behind
  by_cases hlt : k.val < K₁
  · rw [if_pos hlt]
    refine Eq.trans ((dif_pos (show ((ix3 i q k : (⟨3, ![m, n, K]⟩ : Shape).Idx) 2).val < K₁ from hlt)).trans ?_) (hA i q ⟨k.val, hlt⟩)
    congr 1
    funext x; fin_cases x <;> rfl
  · rw [if_neg hlt]
    refine Eq.trans ((dif_neg (show ¬ ((ix3 i q k : (⟨3, ![m, n, K]⟩ : Shape).Idx) 2).val < K₁ from hlt)).trans ?_) (hB i q ⟨k.val - K₁, by omega⟩)
    congr 1
    funext x; fin_cases x <;> rfl

/-- A matrix as a stack of one. -/
theorem Is.slot {A : (⟨2, ![m, n]⟩ : Shape).Idx → EReal} {a : ℕ → ℕ → EReal} (hA : Is m n A a)
    (hm : m ≠ 1) (hn : n ≠ 1) (h : Shape.BroadcastsInDim (⟨2, ![m, n]⟩ : Shape) (⟨3, ![m, n, 1]⟩ : Shape) ![0, 1]) :
    Is3 m n 1 (broadcastInDim (⟨3, ![m, n, 1]⟩ : Shape) ![0, 1] h A) (fun i q _ => a i q) := fun i q k => by
  refine Eq.trans ?_ (hA i q)
  show A _ = A _
  congr 1
  funext x; apply Fin.ext; fin_cases x
  · simp [broadcastInDim, hm]
  · simp [broadcastInDim, hn]

/-- Three stacks of matrices, one behind the other. -/
theorem Is3.behind₃ {K₁ K₂ K₃ : ℕ} {A : (⟨3, ![m, n, K₁]⟩ : Shape).Idx → EReal} {B : (⟨3, ![m, n, K₂]⟩ : Shape).Idx → EReal}
    {C : (⟨3, ![m, n, K₃]⟩ : Shape).Idx → EReal} {a b c : ℕ → ℕ → ℕ → EReal}
    (hA : Is3 m n K₁ A a) (hB : Is3 m n K₂ B b) (hC : Is3 m n K₃ C c)
    (h : Shape.Concatenates [(⟨3, ![m, n, K₁]⟩ : Shape), ⟨3, ![m, n, K₂]⟩, ⟨3, ![m, n, K₃]⟩] (⟨3, ![m, n, K]⟩ : Shape) 2) :
    Is3 m n K (concatenate (⟨3, ![m, n, K]⟩ : Shape) 2 [⟨_, A⟩, ⟨_, B⟩, ⟨_, C⟩] h) (Entries.behind K₁ a (Entries.behind K₂ b c)) := fun i q k => by
  have hs := h.2.2
  have hs' : K₁ + (K₂ + K₃) = K := by simpa using hs
  let xs : List ((s : Shape) × (s.Idx → EReal)) := [⟨⟨3, ![m, n, K₁]⟩, A⟩, ⟨⟨3, ![m, n, K₂]⟩, B⟩, ⟨⟨3, ![m, n, K₃]⟩, C⟩]
  have hk := k.isLt
  unfold Entries.behind
  by_cases h1 : k.val < K₁
  · rw [if_pos h1]
    refine (concatenate_apply_piece (t := ⟨3, ![m, n, K]⟩) (2 : Fin 3) xs h (ix3 i q k) 0 (by simp [xs]) _ A rfl rfl 0 rfl (ix3 i q ⟨k.val, h1⟩) ?_ ?_).trans
      (hA i q ⟨k.val, h1⟩)
    · intro x hx; fin_cases x
      · rfl
      · rfl
      · exact absurd rfl hx
    · exact Nat.zero_add _
  · rw [if_neg h1]
    by_cases h2 : k.val - K₁ < K₂
    · rw [if_pos h2]
      refine (concatenate_apply_piece (t := ⟨3, ![m, n, K]⟩) (2 : Fin 3) xs h (ix3 i q k) 1 (by simp [xs]) _ B rfl rfl K₁ (by simp [xs]) (ix3 i q ⟨k.val - K₁, h2⟩) ?_ ?_).trans
        (hB i q ⟨k.val - K₁, h2⟩)
      · intro x hx; fin_cases x
        · rfl
        · rfl
        · exact absurd rfl hx
      · show K₁ + (k.val - K₁) = k.val
        omega
    · rw [if_neg h2]
      have h3 : k.val - K₁ - K₂ < K₃ := by omega
      refine (concatenate_apply_piece (t := ⟨3, ![m, n, K]⟩) (2 : Fin 3) xs h (ix3 i q k) 2 (by simp [xs]) _ C rfl rfl (K₁ + K₂) (by simp [xs]) (ix3 i q ⟨k.val - K₁ - K₂, h3⟩) ?_ ?_).trans
        (hC i q ⟨k.val - K₁ - K₂, h3⟩)
      · intro x hx; fin_cases x
        · rfl
        · rfl
        · exact absurd rfl hx
      · show K₁ + K₂ + (k.val - K₁ - K₂) = k.val
        omega

/-- Eight matrices of `n` rows, one under the other. -/
theorem is_under {A₀ A₁ A₂ A₃ A₄ A₅ A₆ A₇ : (⟨2, ![n, p]⟩ : Shape).Idx → EReal} (x : ℕ → ℕ → ℕ → EReal) (h₀ : Is n p A₀ (x 0)) (h₁ : Is n p A₁ (x 1))
    (h₂ : Is n p A₂ (x 2)) (h₃ : Is n p A₃ (x 3)) (h₄ : Is n p A₄ (x 4)) (h₅ : Is n p A₅ (x 5)) (h₆ : Is n p A₆ (x 6)) (h₇ : Is n p A₇ (x 7)) (hm : m = 8 * n)
    (h : Shape.Concatenates [(⟨2, ![n, p]⟩ : Shape), ⟨2, ![n, p]⟩, ⟨2, ![n, p]⟩, ⟨2, ![n, p]⟩, ⟨2, ![n, p]⟩, ⟨2, ![n, p]⟩, ⟨2, ![n, p]⟩, ⟨2, ![n, p]⟩]
      (⟨2, ![m, p]⟩ : Shape) 0) :
    Is m p (concatenate (⟨2, ![m, p]⟩ : Shape) 0 [⟨_, A₀⟩, ⟨_, A₁⟩, ⟨_, A₂⟩, ⟨_, A₃⟩, ⟨_, A₄⟩, ⟨_, A₅⟩, ⟨_, A₆⟩, ⟨_, A₇⟩] h)
      (fun i j => x (i / n) (i % n) j) := fun i j => by
  have hi := i.isLt
  have hn : 0 < n := by omega
  have hk : i.val / n < 8 := Nat.div_lt_of_lt_mul (by rw [Nat.mul_comm]; omega)
  have hX : ∀ k : Fin 8, Is n p ((![A₀, A₁, A₂, A₃, A₄, A₅, A₆, A₇] : Fin 8 → (⟨2, ![n, p]⟩ : Shape).Idx → EReal) k) (x k.val) := fun k => by
    fin_cases k
    exacts [h₀, h₁, h₂, h₃, h₄, h₅, h₆, h₇]
  refine (concatenate_ofFn_apply (t := ⟨2, ![m, p]⟩) (s₁ := ⟨2, ![n, p]⟩) (0 : Fin 2) ![A₀, A₁, A₂, A₃, A₄, A₅, A₆, A₇] h rfl n rfl (ix2 i j)
    ⟨i.val / n, hk⟩ rfl (ix2 ⟨i.val % n, Nat.mod_lt _ hn⟩ j) rfl ?_).trans (hX ⟨i.val / n, hk⟩ ⟨i.val % n, Nat.mod_lt _ hn⟩ j)
  intro b hb; fin_cases b
  · exact absurd rfl hb
  · rfl

/-- One matrix out of a stack. -/
theorem Is3.pick {X : (⟨3, ![m, n, K]⟩ : Shape).Idx → EReal} {x : ℕ → ℕ → ℕ → EReal} (hX : Is3 m n K X x) (k : ℕ)
    (h : Shape.Slices (⟨3, ![m, n, K]⟩ : Shape) ![0, 0, k] ⟨3, ![m, n, 1]⟩) (h' : Shape.ShapeCasts (⟨3, ![m, n, 1]⟩ : Shape) ⟨2, ![m, n]⟩) :
    Is m n (shapeCast ⟨2, ![m, n]⟩ (extractStridedSlice ⟨3, ![m, n, 1]⟩ ![0, 0, k] X h) h') (fun i j => x i j k) := fun i j => by
  have hk : k + 1 ≤ K := h.2 2
  refine (shapeCast_apply _ h' (ix2 i j) (ix3 i j 0) ?_).trans ?_
  · rw [Shape.rowMajor_val_two, Shape.rowMajor_val_three]
    show _ + 0 = _
    simp [Shape.rowMajor_val_two, Shape.rowMajor_val_three]
  refine Eq.trans ?_ (hX i j ⟨k, by omega⟩)
  show X _ = X _
  congr 1
  funext x; apply Fin.ext; fin_cases x
  · exact Nat.zero_add _
  · exact Nat.zero_add _
  · rfl

/-- The sum over the columns and over the places of a stack of matrices times a stack of weights. -/
theorem Is3.mix {Y : (⟨2, ![m, p]⟩ : Shape).Idx → EReal} {X : (⟨3, ![m, n, K]⟩ : Shape).Idx → EReal} {W : (⟨3, ![n, p, K]⟩ : Shape).Idx → EReal}
    (hY : ∀ (i : Fin m) (j : Fin p), Y (ix2 i j) = ∑ q : Fin n, ∑ k : Fin K, X (ix3 i q k) * W (ix3 q j k))
    {x w : ℕ → ℕ → ℕ → EReal} (hX : Is3 m n K X x) (hW : Is3 n p K W w) :
    Is m p Y (fun i j => ∑ k ∈ Finset.range K, prod n (fun i q => x i q k) (fun q j => w q j k) i j) := fun i j => by
  rw [hY, Finset.sum_comm]
  refine Eq.trans ?_ (Finset.sum_range fun k => prod n (fun i q => x i q k) (fun q j => w q j k) i.val j.val).symm
  refine Finset.sum_congr rfl fun k _ => ?_
  unfold prod
  rw [Finset.sum_range]
  exact Finset.sum_congr rfl fun q _ => by rw [hX i q k, hW q j k]

/-- The transpose of a matrix. -/
theorem Is.swap {A : (⟨2, ![m, n]⟩ : Shape).Idx → EReal} {a : ℕ → ℕ → EReal} (hA : Is m n A a)
    (h : Shape.Transposes (⟨2, ![m, n]⟩ : Shape) [1, 0] (⟨2, ![n, m]⟩ : Shape)) :
    Is n m (transpose (⟨2, ![n, m]⟩ : Shape) [1, 0] A h) (fun i j => a j i) := fun i j =>
  (transpose_apply _ A h (ix2 i j) (ix2 j i) (fun b => by fin_cases b <;> rfl)).trans (hA j i)

/-! ## Products of matrices put together -/

/-- A product with two matrices side by side is the two products side by side. -/
theorem prod_beside (w : ℕ) (a p r : ℕ → ℕ → EReal) : prod K a (beside w p r) = beside w (prod K a p) (prod K a r) := by
  funext i j
  unfold prod beside
  by_cases h : j < w
  · simp only [if_pos h]
  · simp only [if_neg h]

/-- Two matrices of 128 columns side by side, times a stack of weights: each times its own. -/
theorem prod_sides (p r : ℕ → ℕ → EReal) (w : ℕ → ℕ → EReal) (i j : ℕ) :
    prod 256 (beside 128 p r) w i j = prod 128 p w i j + prod 128 r (fun q j => w (128 + q) j) i j := by
  refine (prod_add 128 128 _ _ i j).trans (congrArg₂ (· + ·) ?_ ?_)
  · refine Finset.sum_congr rfl fun q hq => ?_
    unfold beside
    rw [if_pos (Finset.mem_range.mp hq)]
  · refine Finset.sum_congr rfl fun q hq => ?_
    unfold beside
    dsimp only
    rw [if_neg (by omega), Nat.add_sub_cancel_left]

/-- Rows of a stack of blocks of 128 rows, starting at block `k`. -/
theorem prod_block (x : ℕ → ℕ → ℕ → EReal) (p : ℕ → ℕ → EReal) (k o : ℕ) (ho : o = 128 * k) (i j : ℕ) :
    prod 128 p (fun q j => x ((o + q) / 128) ((o + q) % 128) j) i j = prod 128 p (x k) i j := by
  refine Finset.sum_congr rfl fun q hq => ?_
  have hq := Finset.mem_range.mp hq
  have h1 : (o + q) / 128 = k := by omega
  have h2 : (o + q) % 128 = q := by omega
  simp only [h1, h2]

end Cert.Entries

end
-- ==== Proof.Mix.lean ====
module

public import proofs.«01_k».proof.Proof.Pays
public import proofs.«01_k».proof.Proof.Stacks

@[expose] public section

set_option maxRecDepth 16384

noncomputable section

/-! The kernel mixes eight matrices in one product of four times 256 columns; the reference mixes them by one sum over the places of
a stack. Both are the same sum of products with 128 rows of weights each. -/

namespace Cert.Mix

open Idealize.ShloMosaic Cert.Entries Cert.KernelIdeal.Hand

variable (K : ℕ) (a : ℕ → ℕ → EReal)

/-- Three hops of `p` through the matrix `a`, one behind the other. -/
def hops (p : ℕ → ℕ → EReal) : ℕ → ℕ → ℕ → EReal :=
  behind 1 (fun i q _ => prod K a p i q) (behind 1 (fun i q _ => prod K a (prod K a p) i q) (fun i q _ => prod K a (prod K a (prod K a p)) i q))

/-- `p` and its three hops. -/
def chain (p : ℕ → ℕ → EReal) : ℕ → ℕ → ℕ → EReal := behind 1 (fun i q _ => p i q) (hops K a p)

/-- The sum over the first `N` places of a stack of matrices times a stack of weights. -/
def mix (N : ℕ) (x w : ℕ → ℕ → ℕ → EReal) : ℕ → ℕ → EReal := fun i j =>
  ∑ k ∈ Finset.range N, prod 128 (fun i q => x i q k) (fun q j => w q j k) i j

/-- Blocks of 128 rows, one under the other. -/
def under (x : ℕ → ℕ → ℕ → EReal) : ℕ → ℕ → EReal := fun i j => x (i / 128) (i % 128) j

/-- What the kernel computes from `r`: its three hops through `a`, and the mixing with the weights `w`. -/
def mixed (w r : ℕ → ℕ → EReal) : ℕ → ℕ → EReal := tail w r (prod K a r) (prod K a (prod K a r)) (prod K a (prod K a (prod K a r)))

/-- The kernel's mixing of two matrices side by side and their hops, as a sum of eight products. -/
theorem mixed_sides (x : ℕ → ℕ → ℕ → EReal) (p r : ℕ → ℕ → EReal) (i j : ℕ) :
    mixed K a (under x) (beside 128 p r) i j
      = (prod 128 p (x 0) i j + prod 128 r (x 1) i j)
        + (prod 128 (prod K a p) (x 2) i j + prod 128 (prod K a r) (x 3) i j)
        + (prod 128 (prod K a (prod K a p)) (x 4) i j + prod 128 (prod K a (prod K a r)) (x 5) i j)
        + (prod 128 (prod K a (prod K a (prod K a p))) (x 6) i j + prod 128 (prod K a (prod K a (prod K a r))) (x 7) i j) := by
  unfold mixed tail
  simp only [prod_beside, prod_sides, under]
  have e := fun p k => prod_block x p k (128 * k) rfl i j
  refine congrArg₂ (· + ·) (congrArg₂ (· + ·) (congrArg₂ (· + ·) ?_ ?_) ?_) ?_ <;> refine congrArg₂ (· + ·) ?_ ?_
  · refine Eq.trans ?_ (e p 0); simp only [Nat.mul_zero, Nat.zero_add]; rfl
  · exact e r 1
  · exact e _ 2
  · refine Eq.trans ?_ (e _ 3); simp only [← Nat.add_assoc, Nat.reduceMul, Nat.reduceAdd]
  · exact e _ 4
  · refine Eq.trans ?_ (e _ 5); simp only [← Nat.add_assoc, Nat.reduceMul, Nat.reduceAdd]
  · exact e _ 6
  · refine Eq.trans ?_ (e _ 7); simp only [← Nat.add_assoc, Nat.reduceMul, Nat.reduceAdd]

/-- Eight places: the kernel's mixing is the reference's. -/
theorem mix8 (x w : ℕ → ℕ → ℕ → EReal) (p r : ℕ → ℕ → EReal) (hx : ∀ k, k < 8 → x k = fun q j => w q j (k / 2 + 4 * (k % 2))) (i j : ℕ) :
    mixed K a (under x) (beside 128 p r) i j = mix 8 (behind 4 (chain K a p) (chain K a r)) w i j := by
  rw [mixed_sides, hx 0 (by decide), hx 1 (by decide), hx 2 (by decide), hx 3 (by decide), hx 4 (by decide), hx 5 (by decide), hx 6 (by decide),
    hx 7 (by decide)]
  unfold mix
  simp only [Finset.sum_range_succ, Finset.sum_range_zero, zero_add]
  simp only [behind, chain, hops, Nat.reduceLT, Nat.reduceSub, Nat.reduceDiv, Nat.reduceMod, Nat.reduceMul, Nat.reduceAdd, if_true, if_false,
    reduceIte, Nat.ofNat_pos, Nat.lt_irrefl, Nat.one_lt_ofNat, zero_lt_one]
  generalize prod 128 p _ i j = s0
  abel

/-- Fifteen places: the kernel mixes eight of them through the first matrix and eight, one of them with weights zero, through the
    second. -/
theorem mix15 (u : ℕ → ℕ → EReal) (x y w : ℕ → ℕ → ℕ → EReal) (s p r : ℕ → ℕ → EReal)
    (hx : ∀ k, k < 8 → x k = fun q j => w q j (k / 2 + 4 * (k % 2))) (hy₀ : y 0 = fun _ _ => 0)
    (hy : ∀ k, 0 < k → k < 8 → y k = fun q j => w q j (k / 2 + 7 + 4 * (k % 2))) (i j : ℕ) :
    mixed K u (under y) (beside 128 p r) i j + mixed K a (under x) (beside 128 s p) i j
      = mix 15 (behind 4 (chain K a s) (behind 7 (behind 1 (fun i q _ => p i q) (behind 3 (hops K a p) (hops K u p))) (chain K u r))) w i j := by
  have h0 : prod 128 p (fun _ _ => (0 : EReal)) i j = 0 := Finset.sum_eq_zero fun q _ => mul_zero _
  rw [mixed_sides, mixed_sides, hx 0 (by decide), hx 1 (by decide), hx 2 (by decide), hx 3 (by decide), hx 4 (by decide), hx 5 (by decide), hx 6 (by decide),
    hx 7 (by decide), hy₀, h0, hy 1 (by decide) (by decide), hy 2 (by decide) (by decide), hy 3 (by decide) (by decide), hy 4 (by decide) (by decide),
    hy 5 (by decide) (by decide), hy 6 (by decide) (by decide), hy 7 (by decide) (by decide)]
  unfold mix
  simp only [Finset.sum_range_succ, Finset.sum_range_zero, zero_add]
  simp only [behind, chain, hops, Nat.reduceLT, Nat.reduceSub, Nat.reduceDiv, Nat.reduceMod, Nat.reduceMul, Nat.reduceAdd, if_true, if_false,
    reduceIte, Nat.ofNat_pos, Nat.lt_irrefl, Nat.one_lt_ofNat, zero_lt_one]
  abel

end Cert.Mix

end
-- ==== Proof.Calls.lean ====
module

public import proofs.«01_k».proof.Proof.Blocks
public import proofs.«01_k».proof.Proof.Mix

@[expose] public section

set_option maxRecDepth 16384

noncomputable section

/-! The entries of what the three calls leave, from the entries of the arrays they find. -/

namespace Cert.KernelIdeal.Hand

open Cert.KernelIdeal Cert.KernelIdeal.Gen
open Idealize.ShloMosaic Idealize.ShloMosaic.TcCoe Idealize.SL.Sem
open Cert.Rows Cert.Entries Cert.Mix

/-! ## The transposed products of the first call -/

theorem sumT_A (A : FVec Ideal S512x3072 .bf16) (B : FVec Ideal S512x128 .bf16) (C : FVec Ideal S3072x128 .f32) (i : Fin 3072) (j : Fin 128) :
    matmul (F := Ideal) dot_S512x3072_S512x128_S3072x128_0_0_1_1_n_n none A B C (ix2 i j) = C (ix2 i j) + ∑ q : Fin 512, A (ix2 q i) * B (ix2 q j) := by
  pointwise

theorem sumT_B (A : FVec Ideal S1024x2048 .bf16) (B : FVec Ideal S1024x128 .bf16) (C : FVec Ideal S2048x128 .f32) (i : Fin 2048) (j : Fin 128) :
    matmul (F := Ideal) dot_S1024x2048_S1024x128_S2048x128_0_0_1_1_n_n none A B C (ix2 i j) = C (ix2 i j) + ∑ q : Fin 1024, A (ix2 q i) * B (ix2 q j) := by
  pointwise

theorem pay0_3_is {A : Vec Ideal S512x3072 .f32} {B : Vec Ideal S512x128 .bf16} {a b : ℕ → ℕ → EReal} (hA : Is 512 3072 A a) (hB : Is 512 128 B b) :
    Is 3072 128 (k0_pay3 A B) (prod 512 (fun i q => a q i) b) := by
  unfold k0_pay3 k0_pay1
  dsimp only
  refine (Is.matmulT (sumT_A _ _ _) (hA.truncf _) (hB.shapeCast _) is_zero).congr fun i j _ _ => ?_
  simp only [zero_add]

theorem pay0_9_is {A : Vec Ideal S1024x2048 .f32} {B : Vec Ideal S1024x128 .bf16} {a b : ℕ → ℕ → EReal} (hA : Is 1024 2048 A a) (hB : Is 1024 128 B b) :
    Is 2048 128 (k0_pay9 A B) (prod 1024 (fun i q => a q i) b) := by
  unfold k0_pay9 k0_pay7
  dsimp only
  refine (Is.matmulT (sumT_B _ _ _) (hA.truncf _) (hB.shapeCast _) is_zero).congr fun i j _ _ => ?_
  simp only [zero_add]

variable (V : (c : Dev nD) → (b : Ref sig .tc) → Buf (Elt Ideal) ((c : Thread nD τ).loc b)) (c : Dev nD)

/-! ## The first call -/

section First
variable {x0 x1 x2 b1 b2 : ℕ → ℕ → EReal}

/-- The first result: the first matrix times the second signal. -/
theorem resA_is (hb : Is 1024 3072 (V c main_arg7) b1) (hx : Is 3072 128 (V c main_v1) x1) : Is 1024 128 (resA V c) (prod 3072 b1 x1) := by
  unfold resA lowA
  exact is_stack (by decide) fun k hk => pay0_2_is (blk0_0_is V c hb k (by omega)) (blk0_3_is V c hx (ptA k))

/-- The third result: the second matrix times the third signal. -/
theorem resB_is (hb : Is 3072 2048 (V c main_arg8) b2) (hx : Is 2048 128 (V c main_v2) x2) : Is 3072 128 (resB V c) (prod 2048 b2 x2) := by
  unfold resB lowB
  exact is_stack (by decide) fun k hk => pay0_8_is (blk0_1_is V c hb k (by omega)) (blk0_5_is V c hx (ptB k))

/-- The second result: the transposed first matrix times the first signal. -/
theorem upA_is (hb : Is 1024 3072 (V c main_arg7) b1) (hx : Is 1024 128 (V c main_v0) x0) :
    Is 3072 128 (upA V c) (prod 1024 (fun i q => b1 q i) x0) := by
  have p := fun s hs => pay0_3_is (blk0_0_is V c hb s hs) (blk0_2_is V c hx s hs)
  unfold upA sumB sumA
  refine pay0_6_is ?_
  refine (((((p 0 (by decide)).shapeCast _).addf (p 1 (by decide))).shapeCast _).congr fun i j _ _ => ?_)
  simp only [Nat.mul_zero, Nat.zero_add]
  exact (prod_two (fun i q => b1 q i) x0 i j).symm

/-- The fourth result: the transposed second matrix times the second signal. -/
theorem upB_is (hb : Is 3072 2048 (V c main_arg8) b2) (hx : Is 3072 128 (V c main_v1) x1) :
    Is 2048 128 (upB V c) (prod 3072 (fun i q => b2 q i) x1) := by
  have p := fun s hs => pay0_9_is (blk0_1_is V c hb s hs) (blk0_4_is V c hx s hs)
  unfold upB sumE sumD sumC
  refine pay0_12_is ?_
  refine (((((((p 0 (by decide)).shapeCast _).addf (p 1 (by decide))).shapeCast _).addf (p 2 (by decide))).shapeCast _).congr fun i j _ _ => ?_)
  simp only [Nat.mul_zero, Nat.zero_add]
  exact ((prod_add 2048 1024 _ _ i j).trans (congrArg (· + _) (prod_add 1024 1024 (fun i q => b2 q i) x1 i j))).symm

end First

section Second
variable {a r w e : ℕ → ℕ → EReal}

/-- The second call's first result. -/
theorem outS_is (ha : Is 1024 1024 (V c main_arg3) a) (hr : Is 1024 256 (V c main_v4) r) (hw : Is 1024 128 (V c main_v26) w) :
    Is 1024 128 (outS V c) (mixed 1024 a w r) := by
  have hA : Is 1024 1024 (matS V c) a := is_stack (by decide) fun k hk => pay1_2_is (blk1_0_is V c ha k (by omega))
  have h1 : Is 1024 256 (oneS V c) (prod 1024 a r) :=
    is_stack (by decide) fun k hk => pay1_3_is (blk1_0_is V c ha k (by omega)) (blk1_2_is V c hr (pt1 k))
  exact tailS_is hA h1 (hopS_is hA h1) (blk1_2_is V c hr (pt1 2)) (blk1_4_is V c hw (pt1 2))

/-- The second call's second result. -/
theorem outD_is (ha : Is 3072 3072 (V c main_arg4) a) (hr : Is 3072 256 (V c main_v5) r) (hw : Is 1024 128 (V c main_v45) w) :
    Is 3072 128 (outD V c) (mixed 3072 a w r) := by
  have hA : Is 3072 3072 (matD V c) a := is_stack (by decide) fun k hk => pay1_5_is (blk1_1_is V c ha k (by omega))
  have h1 : Is 3072 256 (oneD V c) (prod 3072 a r) :=
    is_stack (by decide) fun k hk => pay1_6_is (blk1_1_is V c ha k (by omega)) (blk1_3_is V c hr (pt1 (k + 2)))
  exact tailD_is hA h1 (hopD_is hA h1) (blk1_3_is V c hr (pt1 7)) (blk1_5_is V c hw (pt1 7))

/-- The third call's first result. -/
theorem outU_is (ha : Is 3072 3072 (V c main_arg5) a) (hr : Is 3072 256 (V c main_v6) r) (hw : Is 1024 128 (V c main_v62) w)
    (he : Is 3072 128 (V c main_v82_1) e) : Is 3072 128 (outU V c) (fun i j => mixed 3072 a w r i j + e i j) := by
  have hA : Is 3072 3072 (matU V c) a := is_stack (by decide) fun k hk => pay2_33_is (blk2_0_is V c ha k (by omega))
  have h1 : Is 3072 256 (oneU V c) (prod 3072 a r) :=
    is_stack (by decide) fun k hk => pay2_34_is (blk2_0_is V c ha k (by omega)) (blk2_2_is V c hr (pt2 k))
  have h2 : Is 3072 256 (twoU V c) (prod 3072 a (prod 3072 a r)) := is_stack (by decide) fun k hk => hopU_is hA h1 k (by omega)
  exact is_stack (by decide) fun k hk =>
    tailU_is hA h1 h2 (blk2_2_is V c hr (pt2 (k + 12))) (blk2_4_is V c hw (pt2 (k + 12))) (blk2_6_is V c he (pt2 (k + 12))) k (by omega)

/-- The third call's second result. -/
theorem outL_is (ha : Is 2048 2048 (V c main_arg6) a) (hr : Is 2048 256 (V c main_v7) r) (hw : Is 1024 128 (V c main_v81) w) :
    Is 2048 128 (outL V c) (mixed 2048 a w r) := by
  have hA : Is 2048 2048 (matL V c) a := is_stack (by decide) fun k hk => pay2_36_is (blk2_1_is V c ha k (by omega))
  have h1 : Is 2048 256 (oneL V c) (prod 2048 a r) :=
    is_stack (by decide) fun k hk => pay2_37_is (blk2_1_is V c ha k (by omega)) (blk2_3_is V c hr (pt2 (k + 6)))
  exact tailL_is hA h1 (hopL_is hA h1) (blk2_3_is V c hr (pt2 22)) (blk2_5_is V c hw (pt2 22))

end Second

end Cert.KernelIdeal.Hand

end
-- ==== Proof.Host.lean ====
module

public import proofs.«01_k».proof.Proof.Calls
public import proofs.«01_k».proof.Proof.Run
public import Idealize.ShloMosaic.Lib.StableHlo.RunRead

@[expose] public section

set_option maxRecDepth 16384

noncomputable section

/-! The entries of what the host computes between the calls: the rounded signals, the columns put side by side, and the weights
put one under the other. -/

namespace Cert.KernelIdeal.Hand

open Cert.KernelIdeal Cert.KernelIdeal.Gen
open Idealize.ShloMosaic Idealize.ShloMosaic.TcCoe Idealize.SL.Sem
open Cert.Rows Cert.Entries Cert.Mix

variable (m : (ℓ : Loc nD τ sig) → Buf (Elt Ideal) ℓ) (c : Dev nD)

/-! ## Before the first call -/

/-- The rounded first signal. -/
theorem v0_is {f : ℕ → ℕ → EReal} (h : Is 1024 128 (m ((c.tc : Thread nD τ).loc main_arg0)) f) : Is 1024 128 (at1 m c main_v0) f := by
  have e : at1 m c main_v0 = truncf (F := Ideal) .bf16 (m ((c.tc : Thread nD τ).loc main_arg0)) bitsLt_bf16_f32 := by
    show StableHlo.after hostOps0 (V0 m c) _ = _
    after_reads_simp
    try rfl
  rw [e]
  exact h.truncf _

/-- The rounded second signal. -/
theorem v1_is {f : ℕ → ℕ → EReal} (h : Is 3072 128 (m ((c.tc : Thread nD τ).loc main_arg1)) f) : Is 3072 128 (at1 m c main_v1) f := by
  have e : at1 m c main_v1 = truncf (F := Ideal) .bf16 (m ((c.tc : Thread nD τ).loc main_arg1)) bitsLt_bf16_f32 := by
    show StableHlo.after hostOps0 (V0 m c) _ = _
    after_reads_simp
    try rfl
  rw [e]
  exact h.truncf _

/-- The rounded third signal. -/
theorem v2_is {f : ℕ → ℕ → EReal} (h : Is 2048 128 (m ((c.tc : Thread nD τ).loc main_arg2)) f) : Is 2048 128 (at1 m c main_v2) f := by
  have e : at1 m c main_v2 = truncf (F := Ideal) .bf16 (m ((c.tc : Thread nD τ).loc main_arg2)) bitsLt_bf16_f32 := by
    show StableHlo.after hostOps0 (V0 m c) _ = _
    after_reads_simp
    try rfl
  rw [e]
  exact h.truncf _

/-! ## Before the second and the third call

The host's operations, on the contents `U` of the buffers as the first call left them. -/

variable (U : Valuation τ sig (Elt Ideal))

/-- The first signal beside the first crossing. -/
theorem v4_is {p r : ℕ → ℕ → EReal} (hp : Is 1024 128 (U (Proc.devRef .tc main_v0)) p) (hr : Is 1024 128 (U (Proc.devRef .tc main_v3_0)) r) :
    Is 1024 256 (StableHlo.after hostOps1 U (Proc.devRef .tc main_v4)) (beside 128 p r) := by
  after_reads_simp
  exact hp.beside hr _

/-- The second crossing beside the second signal. -/
theorem v5_is {p r : ℕ → ℕ → EReal} (hp : Is 3072 128 (U (Proc.devRef .tc main_v3_1)) p) (hr : Is 3072 128 (U (Proc.devRef .tc main_v1)) r) :
    Is 3072 256 (StableHlo.after hostOps1 U (Proc.devRef .tc main_v5)) (beside 128 p r) := by
  after_reads_simp
  exact hp.beside hr _

/-- The second signal beside the third crossing. -/
theorem v6_is {p r : ℕ → ℕ → EReal} (hp : Is 3072 128 (U (Proc.devRef .tc main_v1)) p) (hr : Is 3072 128 (U (Proc.devRef .tc main_v3_2)) r) :
    Is 3072 256 (StableHlo.after hostOps1 U (Proc.devRef .tc main_v6)) (beside 128 p r) := by
  after_reads_simp
  exact hp.beside hr _

/-- The third signal beside the fourth crossing. -/
theorem v7_is {p r : ℕ → ℕ → EReal} (hp : Is 2048 128 (U (Proc.devRef .tc main_v2)) p) (hr : Is 2048 128 (U (Proc.devRef .tc main_v3_3)) r) :
    Is 2048 256 (StableHlo.after hostOps1 U (Proc.devRef .tc main_v7)) (beside 128 p r) := by
  after_reads_simp
  exact hp.beside hr _

/-- The weights of the first result, in the order in which the kernel mixes. -/
theorem v26_is {w : ℕ → ℕ → ℕ → EReal} (h : Is3 128 128 8 (U (Proc.devRef .tc main_arg9)) w) :
    Is 1024 128 (StableHlo.after hostOps1 U (Proc.devRef .tc main_v26)) (under (fun k q j => w q j (k / 2 + 4 * (k % 2)))) := by
  after_reads_simp
  dsimp only [Matrix.cons_val]
  refine Is.truncf (is_under (n := 128) (fun k q j => w q j (k / 2 + 4 * (k % 2))) ?_ ?_ ?_ ?_ ?_ ?_ ?_ ?_ rfl _) _
  all_goals after_reads_simp
  exacts [h.pick 0 _ _, h.pick 4 _ _, h.pick 1 _ _, h.pick 5 _ _, h.pick 2 _ _, h.pick 6 _ _, h.pick 3 _ _, h.pick 7 _ _]

/-- The first eight weights of the second result. -/
theorem v45_is {w : ℕ → ℕ → ℕ → EReal} (h : Is3 128 128 15 (U (Proc.devRef .tc main_arg10)) w) :
    Is 1024 128 (StableHlo.after hostOps1 U (Proc.devRef .tc main_v45)) (under (fun k q j => w q j (k / 2 + 4 * (k % 2)))) := by
  after_reads_simp
  dsimp only [Matrix.cons_val]
  refine Is.truncf (is_under (n := 128) (fun k q j => w q j (k / 2 + 4 * (k % 2))) ?_ ?_ ?_ ?_ ?_ ?_ ?_ ?_ rfl _) _
  all_goals after_reads_simp
  exacts [h.pick 0 _ _, h.pick 4 _ _, h.pick 1 _ _, h.pick 5 _ _, h.pick 2 _ _, h.pick 6 _ _, h.pick 3 _ _, h.pick 7 _ _]

/-- A block of zeros. -/
theorem zero_block : Is 128 128 (broadcastInDim S128x128 ![] bcast_S_S128x128 (constant (F := Ideal) S_ .f32 0x00000000#32)) (fun _ _ => 0) := fun i j =>
  Ideal.ofBits_zero_f32

/-- The last seven weights of the second result, after a block of zeros. -/
theorem v62_is {w : ℕ → ℕ → ℕ → EReal} (h : Is3 128 128 15 (U (Proc.devRef .tc main_arg10)) w) :
    Is 1024 128 (StableHlo.after hostOps1 U (Proc.devRef .tc main_v62)) (under (fun k q j => if k = 0 then 0 else w q j (k / 2 + 7 + 4 * (k % 2)))) := by
  after_reads_simp
  dsimp only [Matrix.cons_val]
  refine Is.truncf (is_under (n := 128) (fun k q j => if k = 0 then 0 else w q j (k / 2 + 7 + 4 * (k % 2))) ?_ ?_ ?_ ?_ ?_ ?_ ?_ ?_ rfl _) _
  all_goals after_reads_simp
  exacts [zero_block, h.pick 11 _ _, h.pick 8 _ _, h.pick 12 _ _, h.pick 9 _ _, h.pick 13 _ _, h.pick 10 _ _, h.pick 14 _ _]

/-- The weights of the third result. -/
theorem v81_is {w : ℕ → ℕ → ℕ → EReal} (h : Is3 128 128 8 (U (Proc.devRef .tc main_arg11)) w) :
    Is 1024 128 (StableHlo.after hostOps1 U (Proc.devRef .tc main_v81)) (under (fun k q j => w q j (k / 2 + 4 * (k % 2)))) := by
  after_reads_simp
  dsimp only [Matrix.cons_val]
  refine Is.truncf (is_under (n := 128) (fun k q j => w q j (k / 2 + 4 * (k % 2))) ?_ ?_ ?_ ?_ ?_ ?_ ?_ ?_ rfl _) _
  all_goals after_reads_simp
  exacts [h.pick 0 _ _, h.pick 4 _ _, h.pick 1 _ _, h.pick 5 _ _, h.pick 2 _ _, h.pick 6 _ _, h.pick 3 _ _, h.pick 7 _ _]

end Cert.KernelIdeal.Hand

end
-- ==== Proof.Ref.lean ====
module

public import proofs.«01_k».proof.Proof.Mix
public import proofs.«01_k».proof.Proof.Gen.ReferenceIdeal.Run

@[expose] public section

set_option maxRecDepth 16384

noncomputable section

/-! The entries of the reference's three results: each is one sum over the places of a stack of matrices, whose places hold the
signals and their hops. -/

namespace Cert.ReferenceIdeal.Hand

open Cert.ReferenceIdeal Cert.ReferenceIdeal.Gen
open Idealize.ShloMosaic Idealize.ShloMosaic.TcCoe Idealize.SL.Sem
open Cert.Entries Cert.Mix

theorem sum0 (X : FVec Ideal S1024x128x8 .f32) (W : FVec Ideal S128x128x8 .f32) (i : Fin 1024) (j : Fin 128) :
    Host.dotGeneral (F := Ideal) dot_S1024x128x8_S128x128x8_S1024x128_12_02_0_1_n_n none X W (ix2 i j)
      = ∑ q : Fin 128, ∑ k : Fin 8, X (ix3 i q k) * W (ix3 q j k) := by
  pointwise

theorem sum1 (X : FVec Ideal S3072x128x15 .f32) (W : FVec Ideal S128x128x15 .f32) (i : Fin 3072) (j : Fin 128) :
    Host.dotGeneral (F := Ideal) dot_S3072x128x15_S128x128x15_S3072x128_12_02_0_1_n_n none X W (ix2 i j)
      = ∑ q : Fin 128, ∑ k : Fin 15, X (ix3 i q k) * W (ix3 q j k) := by
  pointwise

theorem sum2 (X : FVec Ideal S2048x128x8 .f32) (W : FVec Ideal S128x128x8 .f32) (i : Fin 2048) (j : Fin 128) :
    Host.dotGeneral (F := Ideal) dot_S2048x128x8_S128x128x8_S2048x128_12_02_0_1_n_n none X W (ix2 i j)
      = ∑ q : Fin 128, ∑ k : Fin 8, X (ix3 i q k) * W (ix3 q j k) := by
  pointwise

variable (m : (ℓ : Loc nD τ sig) → Buf (Elt Ideal) ℓ) (c : Dev nD)

/-- The entries of the first result: `x0` and its hops, and `b1 · x1` and its hops, mixed. -/
def y0 (x0 x1 l0 b1 : ℕ → ℕ → EReal) (w0 : ℕ → ℕ → ℕ → EReal) : ℕ → ℕ → EReal :=
  mix 8 (behind 4 (chain 1024 l0 x0) (chain 1024 l0 (prod 3072 b1 x1))) w0

/-- The entries of the second result: `b1ᵀ · x0` and its hops through the first matrix, `x1` and its hops through both, and
    `b2 · x2` and its hops through the second, mixed. -/
def y1 (x0 x1 x2 ld lu b1 b2 : ℕ → ℕ → EReal) (w1 : ℕ → ℕ → ℕ → EReal) : ℕ → ℕ → EReal :=
  mix 15 (behind 4 (chain 3072 ld (prod 1024 (fun i j => b1 j i) x0))
    (behind 7 (behind 1 (fun i q _ => x1 i q) (behind 3 (hops 3072 ld x1) (hops 3072 lu x1))) (chain 3072 lu (prod 2048 b2 x2)))) w1

/-- The entries of the third result: `x2` and its hops, and `b2ᵀ · x1` and its hops, mixed. -/
def y2 (x1 x2 l2 b2 : ℕ → ℕ → EReal) (w2 : ℕ → ℕ → ℕ → EReal) : ℕ → ℕ → EReal :=
  mix 8 (behind 4 (chain 2048 l2 x2) (chain 2048 l2 (prod 3072 (fun i j => b2 j i) x1))) w2

/-- The reference runs, and its results have these entries. -/
theorem run_entries (ρ : Dev nD → PrngReg) :
    θ_run defs (onTc (τ := τ) (main (F := Ideal))) ⟨m, fun _ => 0, ρ⟩ (fun r => ∀ c : Dev nD,
      Is 1024 128 (r.2.mem ((c.tc : Thread nD τ).loc main_v79))
        (y0 (ent (m := 1024) (n := 128) (m ((c.tc : Thread nD τ).loc main_arg0))) (ent (m := 3072) (n := 128) (m ((c.tc : Thread nD τ).loc main_arg1)))
          (ent (m := 1024) (n := 1024) (m ((c.tc : Thread nD τ).loc main_arg3))) (ent (m := 1024) (n := 3072) (m ((c.tc : Thread nD τ).loc main_arg7)))
          (ent3 (m := 128) (n := 128) (K := 8) (m ((c.tc : Thread nD τ).loc main_arg9))))
      ∧ Is 3072 128 (r.2.mem ((c.tc : Thread nD τ).loc main_v80))
        (y1 (ent (m := 1024) (n := 128) (m ((c.tc : Thread nD τ).loc main_arg0))) (ent (m := 3072) (n := 128) (m ((c.tc : Thread nD τ).loc main_arg1)))
          (ent (m := 2048) (n := 128) (m ((c.tc : Thread nD τ).loc main_arg2)))
          (ent (m := 3072) (n := 3072) (m ((c.tc : Thread nD τ).loc main_arg4))) (ent (m := 3072) (n := 3072) (m ((c.tc : Thread nD τ).loc main_arg5)))
          (ent (m := 1024) (n := 3072) (m ((c.tc : Thread nD τ).loc main_arg7))) (ent (m := 3072) (n := 2048) (m ((c.tc : Thread nD τ).loc main_arg8)))
          (ent3 (m := 128) (n := 128) (K := 15) (m ((c.tc : Thread nD τ).loc main_arg10))))
      ∧ Is 2048 128 (r.2.mem ((c.tc : Thread nD τ).loc main_v81))
        (y2 (ent (m := 3072) (n := 128) (m ((c.tc : Thread nD τ).loc main_arg1))) (ent (m := 2048) (n := 128) (m ((c.tc : Thread nD τ).loc main_arg2)))
          (ent (m := 2048) (n := 2048) (m ((c.tc : Thread nD τ).loc main_arg6))) (ent (m := 3072) (n := 2048) (m ((c.tc : Thread nD τ).loc main_arg8)))
          (ent3 (m := 128) (n := 128) (K := 8) (m ((c.tc : Thread nD τ).loc main_arg11))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (Cert.ReferenceIdeal.Value.run (F := Ideal) m ρ)
  obtain ⟨h0, h1, h2, ha⟩ := h c
  refine ⟨?_, ?_, ?_, ha⟩
  · rw [h0]
    unfold y0 mix chain hops
    refine Is3.mix (sum0 _ _) ?_ (is_ent3 _)
    repeat' with_reducible first | exact is_ent _ | apply (newGoals := .nonDependentOnly) Is3.behind | apply (newGoals := .nonDependentOnly) Is3.behind₃ | apply (newGoals := .nonDependentOnly) Is.slot | apply (newGoals := .nonDependentOnly) Is.dot | apply (newGoals := .nonDependentOnly) Is.swap
    all_goals first | rfl | decide
  · rw [h1]
    unfold Cert.ReferenceIdeal.Value.res_main_v80 y1 mix chain hops
    refine Is3.mix (sum1 _ _) ?_ (is_ent3 _)
    repeat' with_reducible first | exact is_ent _ | apply (newGoals := .nonDependentOnly) Is3.behind | apply (newGoals := .nonDependentOnly) Is3.behind₃ | apply (newGoals := .nonDependentOnly) Is.slot | apply (newGoals := .nonDependentOnly) Is.dot | apply (newGoals := .nonDependentOnly) Is.swap
    all_goals first | rfl | decide
  · rw [h2]
    unfold Cert.ReferenceIdeal.Value.res_main_v81 y2 mix chain hops
    refine Is3.mix (sum2 _ _) ?_ (is_ent3 _)
    repeat' with_reducible first | exact is_ent _ | apply (newGoals := .nonDependentOnly) Is3.behind | apply (newGoals := .nonDependentOnly) Is3.behind₃ | apply (newGoals := .nonDependentOnly) Is.slot | apply (newGoals := .nonDependentOnly) Is.dot | apply (newGoals := .nonDependentOnly) Is.swap
    all_goals first | rfl | decide

end Cert.ReferenceIdeal.Hand

end
-- ==== Proof.Results.lean ====
module

public import proofs.«01_k».proof.Proof.Host
public import proofs.«01_k».proof.Proof.Ref

@[expose] public section

set_option maxRecDepth 16384

noncomputable section

/-! The entries of the kernel's three results, from the entries of its twelve arguments. -/

namespace Cert.KernelIdeal.Hand

open Cert.KernelIdeal Cert.KernelIdeal.Gen
open Idealize.ShloMosaic Idealize.ShloMosaic.TcCoe Idealize.SL.Sem
open Cert.Rows Cert.Entries Cert.Mix

variable (m : (ℓ : Loc nD τ sig) → Buf (Elt Ideal) ℓ) (c : Dev nD)

/-- The entries of the arguments. -/
structure Args (x0 x1 x2 l0 ld lu l2 b1 b2 : ℕ → ℕ → EReal) (w0 w1 w2 : ℕ → ℕ → ℕ → EReal) : Prop where
  x0 : Is 1024 128 (m ((c.tc : Thread nD τ).loc main_arg0)) x0
  x1 : Is 3072 128 (m ((c.tc : Thread nD τ).loc main_arg1)) x1
  x2 : Is 2048 128 (m ((c.tc : Thread nD τ).loc main_arg2)) x2
  l0 : Is 1024 1024 (m ((c.tc : Thread nD τ).loc main_arg3)) l0
  ld : Is 3072 3072 (m ((c.tc : Thread nD τ).loc main_arg4)) ld
  lu : Is 3072 3072 (m ((c.tc : Thread nD τ).loc main_arg5)) lu
  l2 : Is 2048 2048 (m ((c.tc : Thread nD τ).loc main_arg6)) l2
  b1 : Is 1024 3072 (m ((c.tc : Thread nD τ).loc main_arg7)) b1
  b2 : Is 3072 2048 (m ((c.tc : Thread nD τ).loc main_arg8)) b2
  w0 : Is3 128 128 8 (m ((c.tc : Thread nD τ).loc main_arg9)) w0
  w1 : Is3 128 128 15 (m ((c.tc : Thread nD τ).loc main_arg10)) w1
  w2 : Is3 128 128 8 (m ((c.tc : Thread nD τ).loc main_arg11)) w2

/-- What nothing before the first call writes is as launched. -/
theorem at1_arg (b : Ref sig .tc) (h : b ∉ hostOps0_W) : at1 m c b = m ((c.tc : Thread nD τ).loc b) :=
  V1_of m c b h

/-- What nothing before the second call writes is as launched. -/
theorem at3_arg (b : Ref sig .tc) (h0 : b ∉ hostOps0_W) (h1 : b ∉ ([main_v3_0, main_v3_1, main_v3_2, main_v3_3] : List (Ref sig .tc)))
    (h2 : b ∉ hostOps1_W) : at3 m c b = m ((c.tc : Thread nD τ).loc b) :=
  (at3_eq m c b).trans ((V3_of m (outs m) c b h2).trans ((V2_of m (outs m) c b h1).trans (V1_of m c b h0)))

/-- What the second call does not write, the third finds as the second did. -/
theorem at4_at3 (b : Ref sig .tc) (h : b ∉ ([main_v82_0, main_v82_1] : List (Ref sig .tc))) : at4 m c b = at3 m c b :=
  (at4_eq m c b).trans (V4_of m (outs m) c b h)

variable {m c} {x0 x1 x2 l0 ld lu l2 b1 b2 : ℕ → ℕ → EReal} {w0 w1 w2 : ℕ → ℕ → ℕ → EReal}
variable (A : Args m c x0 x1 x2 l0 ld lu l2 b1 b2 w0 w1 w2)
include A

/-! ## What the first call leaves -/

theorem first :
    Is 1024 128 (V2 m (outs m) c main_v3_0) (prod 3072 b1 x1) ∧ Is 3072 128 (V2 m (outs m) c main_v3_1) (prod 1024 (fun i q => b1 q i) x0)
      ∧ Is 3072 128 (V2 m (outs m) c main_v3_2) (prod 2048 b2 x2) ∧ Is 2048 128 (V2 m (outs m) c main_v3_3) (prod 3072 (fun i q => b2 q i) x1) := by
  have hb1 : Is 1024 3072 (at1 m c main_arg7) b1 := by
    rw [at1_arg m c main_arg7 (by decide)]
    exact A.b1
  have hb2 : Is 3072 2048 (at1 m c main_arg8) b2 := by
    rw [at1_arg m c main_arg8 (by decide)]
    exact A.b2
  rw [V2_0, V2_1, V2_2, V2_3]
  exact ⟨resA_is _ c hb1 (v1_is m c A.x1), upA_is _ c hb1 (v0_is m c A.x0), resB_is _ c hb2 (v2_is m c A.x2), upB_is _ c hb2 (v1_is m c A.x1)⟩

/-- The rounded signals, as the first call leaves them. -/
theorem signals : Is 1024 128 (V2 m (outs m) c main_v0) x0 ∧ Is 3072 128 (V2 m (outs m) c main_v1) x1 ∧ Is 2048 128 (V2 m (outs m) c main_v2) x2 := by
  rw [V2_of m (outs m) c main_v0 (by decide), V2_of m (outs m) c main_v1 (by decide), V2_of m (outs m) c main_v2 (by decide)]
  exact ⟨v0_is m c A.x0, v1_is m c A.x1, v2_is m c A.x2⟩

/-- The weights, as the first call leaves them. -/
theorem weights : Is3 128 128 8 (V2 m (outs m) c main_arg9) w0 ∧ Is3 128 128 15 (V2 m (outs m) c main_arg10) w1 ∧ Is3 128 128 8 (V2 m (outs m) c main_arg11) w2 := by
  rw [V2_of m (outs m) c main_arg9 (by decide), V2_of m (outs m) c main_arg10 (by decide), V2_of m (outs m) c main_arg11 (by decide),
    V1_of m c main_arg9 (by decide), V1_of m c main_arg10 (by decide), V1_of m c main_arg11 (by decide)]
  exact ⟨A.w0, A.w1, A.w2⟩

/-! ## The results -/

/-- The first result is the reference's. -/
theorem first_result : Is 1024 128 (outS (at3 m) c) (ReferenceIdeal.Hand.y0 x0 x1 l0 b1 w0) := by
  have ha : Is 1024 1024 (at3 m c main_arg3) l0 := (at3_arg m c main_arg3 (by decide) (by decide) (by decide)).symm ▸ A.l0
  refine (outS_is (at3 m) c ha (v4_is _ (signals A).1 (first A).1) (v26_is _ (weights A).1)).congr fun i j _ _ => ?_
  exact mix8 1024 l0 _ w0 x0 _ (fun k _ => rfl) i j

/-- The part that the second call carries over. -/
theorem carried : Is 3072 128 (outD (at3 m) c) (mixed 3072 ld (under fun k q j => w1 q j (k / 2 + 4 * (k % 2)))
    (beside 128 (prod 1024 (fun i q => b1 q i) x0) x1)) := by
  have ha : Is 3072 3072 (at3 m c main_arg4) ld := (at3_arg m c main_arg4 (by decide) (by decide) (by decide)).symm ▸ A.ld
  exact outD_is (at3 m) c ha (v5_is _ (first A).2.1 (signals A).2.1) (v45_is _ (weights A).2.1)

/-- The second result is the reference's. -/
theorem second_result : Is 3072 128 (outU (at4 m) c) (ReferenceIdeal.Hand.y1 x0 x1 x2 ld lu b1 b2 w1) := by
  have ha : Is 3072 3072 (at4 m c main_arg5) lu :=
    (at4_at3 m c main_arg5 (by decide)).symm ▸ (at3_arg m c main_arg5 (by decide) (by decide) (by decide)).symm ▸ A.lu
  have hr : Is 3072 256 (at4 m c main_v6) (beside 128 x1 (prod 2048 b2 x2)) := by
    rw [at4_at3 m c main_v6 (by decide)]
    exact v6_is _ (signals A).2.1 (first A).2.2.1
  have hw3 : Is 1024 128 (at3 m c main_v62) (under fun k q j => if k = 0 then 0 else w1 q j (k / 2 + 7 + 4 * (k % 2))) :=
    v62_is _ (weights A).2.1
  have hw : Is 1024 128 (at4 m c main_v62) (under fun k q j => if k = 0 then 0 else w1 q j (k / 2 + 7 + 4 * (k % 2))) := by
    rw [at4_at3 m c main_v62 (by decide)]
    exact hw3
  have he : Is 3072 128 (at4 m c main_v82_1) (mixed 3072 ld (under fun k q j => w1 q j (k / 2 + 4 * (k % 2)))
      (beside 128 (prod 1024 (fun i q => b1 q i) x0) x1)) := by
    rw [at4_eq m c main_v82_1, V4_1 m c]
    exact carried A
  refine (outU_is (at4 m) c ha hr hw he).congr fun i j _ _ => ?_
  exact mix15 3072 ld lu _ _ w1 (prod 1024 (fun i q => b1 q i) x0) x1 _ (fun k _ => rfl) rfl
    (fun k hk _ => by funext q j; exact if_neg (by omega)) i j

/-- The third result is the reference's. -/
theorem third_result : Is 2048 128 (outL (at4 m) c) (ReferenceIdeal.Hand.y2 x1 x2 l2 b2 w2) := by
  have ha : Is 2048 2048 (at4 m c main_arg6) l2 :=
    (at4_at3 m c main_arg6 (by decide)).symm ▸ (at3_arg m c main_arg6 (by decide) (by decide) (by decide)).symm ▸ A.l2
  have hr : Is 2048 256 (at4 m c main_v7) (beside 128 x2 (prod 3072 (fun i q => b2 q i) x1)) := by
    rw [at4_at3 m c main_v7 (by decide)]
    exact v7_is _ (signals A).2.2 (first A).2.2.2
  have hw3 : Is 1024 128 (at3 m c main_v81) (under fun k q j => w2 q j (k / 2 + 4 * (k % 2))) := v81_is _ (weights A).2.2
  have hw : Is 1024 128 (at4 m c main_v81) (under fun k q j => w2 q j (k / 2 + 4 * (k % 2))) := by
    rw [at4_at3 m c main_v81 (by decide)]
    exact hw3
  refine (outL_is (at4 m) c ha hr hw).congr fun i j _ _ => ?_
  exact mix8 2048 l2 _ w2 x2 _ (fun k _ => rfl) i j

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Named
public import proofs.«01_k».proof.Proof.Bits.Named
public import proofs.«01_k».proof.Proof.Results
public import Idealize.ShloMosaic.Adequacy
public import Idealize.ShloMosaic.Init

@[expose] public section

noncomputable section

namespace Cert.Proof

open Idealize.ShloMosaic Idealize.SL.Sem Cert.Kernel Cert.Entries

/-- The kernel, on hardware floats: it runs, its arguments end unchanged, every counter ends at zero. -/
theorem frame_kernel : Cert.quiescent_Kernel := fun m g _ =>
  (θ_run Cert.Kernel.defs _ _).mono (fun _ h => ⟨fun c => (h.1 c).2.2.2, h.2⟩) (Cert.Kernel.Hand.run_named (F := Bits) m g)

/-- The kernel, on reals: the same. -/
theorem frame_kernelIdeal : Cert.quiescent_KernelIdeal := fun m g _ =>
  (θ_run Cert.KernelIdeal.defs _ _).mono (fun _ h => ⟨fun c => (h.1 c).2.2.2, h.2⟩) (Cert.KernelIdeal.Hand.run_named (F := Ideal) m g)

/-- The reference, on reals: the same; it declares no counter at all. -/
theorem frame_referenceIdeal : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- On reals, from the same arguments, the kernel's three results are the reference's, element for element. -/
theorem algebraic : Cert.algebraic_KernelIdeal_ReferenceIdeal := fun m g m' g' _ same => by
  refine ⟨fun c => Cert.KernelIdeal.Hand.outS (Cert.KernelIdeal.Hand.at3 m) c, fun c => Cert.KernelIdeal.Hand.outU (Cert.KernelIdeal.Hand.at4 m) c,
    fun c => Cert.KernelIdeal.Hand.outL (Cert.KernelIdeal.Hand.at4 m) c,
    (θ_run Cert.KernelIdeal.defs _ _).mono (fun _ h => h.1) (Cert.KernelIdeal.Hand.run_named (F := Ideal) m g),
    (θ_run Cert.ReferenceIdeal.defs _ _).mono (fun r h c => ?_) (Cert.ReferenceIdeal.Hand.run_entries m' g')⟩
  obtain ⟨h0, h1, h2, kept⟩ := h c
  obtain ⟨e0, e1, e2, e3, e4, e5, e6, e7, e8, e9, e10, e11⟩ := same c
  rw [e0, e1, e3, e7, e9] at h0
  rw [e0, e1, e2, e4, e5, e7, e8, e10] at h1
  rw [e1, e2, e6, e8, e11] at h2
  have A : Cert.KernelIdeal.Hand.Args m c _ _ _ _ _ _ _ _ _ _ _ _ :=
    ⟨is_ent _, is_ent _, is_ent _, is_ent _, is_ent _, is_ent _, is_ent _, is_ent _, is_ent _, is_ent3 _, is_ent3 _, is_ent3 _⟩
  exact ⟨h0.ext (Cert.KernelIdeal.Hand.first_result A), h1.ext (Cert.KernelIdeal.Hand.second_result A),
    h2.ext (Cert.KernelIdeal.Hand.third_result A), kept⟩

/-- Everything claimed: the three frames, that the kernel read on reals is the kernel's own text, and that on reals it
    computes the reference's results. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
